-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S8x512x2048 : Shape := ⟨3, ![8, 512, 2048]⟩
abbrev S_ : Shape := ⟨0, ![]⟩

class Facts : Prop where
  bcast_S_S8x512x2048 : S_.BroadcastsInDim S8x512x2048 (![] : Fin 0 → Fin S8x512x2048.rank)
  reducesTo_S8x512x2048_S_d0_1_2 : S8x512x2048.ReducesTo [0, 1, 2] S_
  h_S_ : 0 < S_.numel

variable [Facts]

def fn {F : FTy → Type} [FloatOps F] (main_arg0 : FVec F S8x512x2048 .f32) (main_arg1 : FVec F S8x512x2048 .f32) : IVec S_ 1 :=
  let main_cst : FVec F S_ .f32 := constant S_ .f32 0x3F800000#32
  let main_v0 : FVec F S8x512x2048 .f32 := broadcastInDim S8x512x2048 ![] bcast_S_S8x512x2048 main_cst
  let main_v1 : IVec S8x512x2048 1 := cmpf .oeq main_arg1 main_v0
  let main_c : IVec S_ 1 := constantI S_ 1 1#1
  let main_v2 : IVec S_ 1 := (fun x v => Host.reduce IntOp.andi x v reducesTo_S8x512x2048_S_d0_1_2 h_S_) main_v1 main_c
  let main_v3 : FVec F S8x512x2048 .f32 := Host.absf main_arg0
  let main_cst_0 : FVec F S_ .f32 := constant S_ .f32 0x45800000#32
  let main_v4 : FVec F S8x512x2048 .f32 := broadcastInDim S8x512x2048 ![] bcast_S_S8x512x2048 main_cst_0
  let main_v5 : IVec S8x512x2048 1 := cmpf .ole main_v3 main_v4
  let main_c_1 : IVec S_ 1 := constantI S_ 1 1#1
  let main_v6 : IVec S_ 1 := (fun x v => Host.reduce IntOp.andi x v reducesTo_S8x512x2048_S_d0_1_2 h_S_) main_v5 main_c_1
  let main_v7 : IVec S_ 1 := andi main_v2 main_v6
  main_v7
-- ==== Kernel.lean ====
abbrev S8x512x2048 : Shape := ⟨3, ![8, 512, 2048]⟩
abbrev S2048x8x512 : Shape := ⟨3, ![2048, 8, 512]⟩
abbrev S8x512x256 : Shape := ⟨3, ![8, 512, 256]⟩
abbrev S256x8x512 : Shape := ⟨3, ![256, 8, 512]⟩
abbrev S8x512 : Shape := ⟨2, ![8, 512]⟩
abbrev S1x512x256 : Shape := ⟨3, ![1, 512, 256]⟩
abbrev S512x256 : Shape := ⟨2, ![512, 256]⟩
abbrev S256x512 : Shape := ⟨2, ![256, 512]⟩
abbrev S256x1x512 : Shape := ⟨3, ![256, 1, 512]⟩
abbrev S1x512 : Shape := ⟨2, ![1, 512]⟩
abbrev S1x8x512 : Shape := ⟨3, ![1, 8, 512]⟩

abbrev nBuf : Space → Nat
  | .hbm => 4
  | .vmem => 12
  | .smem => 0
  | _ => 0

abbrev bufTy : (tb : Table) → Fin (tcTables nBuf tb) → BufTy
  | .hbm, ⟨0, _⟩ => ⟨S8x512x2048, .f32⟩
  | .hbm, ⟨1, _⟩ => ⟨S8x512x2048, .f32⟩
  | .hbm, ⟨2, _⟩ => ⟨S2048x8x512, .f32⟩
  | .hbm, ⟨3, _⟩ => ⟨S8x512x2048, .f32⟩
  | .local _ .vmem, ⟨0, _⟩ => ⟨S8x512x256, .f32⟩
  | .local _ .vmem, ⟨1, _⟩ => ⟨S8x512x256, .f32⟩
  | .local _ .vmem, ⟨2, _⟩ => ⟨S256x8x512, .f32⟩
  | .local _ .vmem, ⟨3, _⟩ => ⟨S256x8x512, .f32⟩
  | .local _ .vmem, ⟨4, _⟩ => ⟨S256x8x512, .f32⟩
  | .local _ .vmem, ⟨5, _⟩ => ⟨S8x512, .f32⟩
  | .local _ .vmem, ⟨6, _⟩ => ⟨S256x8x512, .f32⟩
  | .local _ .vmem, ⟨7, _⟩ => ⟨S256x8x512, .f32⟩
  | .local _ .vmem, ⟨8, _⟩ => ⟨S8x512x256, .f32⟩
  | .local _ .vmem, ⟨9, _⟩ => ⟨S8x512x256, .f32⟩
  | .local _ .vmem, ⟨10, _⟩ => ⟨S256x8x512, .f32⟩
  | .local _ .vmem, ⟨11, _⟩ => ⟨S8x512, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_scratch0 : Ref sig .tc := ⟨.vmem, 10, rfl⟩
abbrev cc1_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c2_i32 : BitVec 32 := 2#32
  let v52 : BitVec 1 := Scalar.cmpi .slt arg0 c2_i32
  let v53 : BitVec 32 := Scalar.extui v52
  let c0_i32_41 : BitVec 32 := 0#32
  let v54 : BitVec 1 := Scalar.cmpi .ne v53 c0_i32_41
  v54

@[reducible] def k0_t1_loop : Scf.Loop 32 :=
  let c0_i32_47 : BitVec 32 := 0#32
  let c32_i32 : BitVec 32 := 32#32
  let v59 : BitVec 32 := Scalar.addi c0_i32_47 c32_i32
  let c1_i32 : BitVec 32 := 1#32
  ⟨c0_i32_47, v59, c1_i32⟩
def k0_off1 (k0_t1 : Fin k0_t1_loop.trips) (c0_i32_65 : BitVec 32) : Fin 3 → Nat :=
  let c0_i32_47 : BitVec 32 := 0#32
  let c1_i32 : BitVec 32 := 1#32
  let arg5 : BitVec 32 := Scf.iv c0_i32_47 c1_i32 k0_t1
  let c8_i32 : BitVec 32 := 8#32
  let v64 : BitVec 32 := Scalar.muli arg5 c8_i32
  let v134 : BitVec 32 := Scalar.addi v64 c0_i32_65
  let v135 : Index := Scalar.indexCast v134
  let c0_66 : Index := 0#32
  let c0_67 : Index := 0#32
  ![v135.toNat, 0, 0]
def k0_cond3 (i : grid0.Coords) : BitVec 1 :=
  let arg0 : BitVec 32 := BitVec.ofNat 32 (i 0).val
  let c2_i32_42 : BitVec 32 := 2#32
  let v55 : BitVec 1 := Scalar.cmpi .sge arg0 c2_i32_42
  let v56 : BitVec 32 := Scalar.extui v55
  let c0_i32_44 : BitVec 32 := 0#32
  let v57 : BitVec 1 := Scalar.cmpi .ne v56 c0_i32_44
  v57

@[reducible] def k0_t2_loop : Scf.Loop 32 :=
  let c0_i32_47 : BitVec 32 := 0#32
  let c32_i32 : BitVec 32 := 32#32
  let v59 : BitVec 32 := Scalar.addi c0_i32_47 c32_i32
  let c1_i32 : BitVec 32 := 1#32
  ⟨c0_i32_47, v59, c1_i32⟩
def k0_off2 (k0_t2 : Fin k0_t2_loop.trips) (c0_i32_62 : BitVec 32) : Fin 3 → Nat :=
  let c0_i32_47 : BitVec 32 := 0#32
  let c1_i32 : BitVec 32 := 1#32
  let arg5 : BitVec 32 := Scf.iv c0_i32_47 c1_i32 k0_t2
  let c8_i32 : BitVec 32 := 8#32
  let v64 : BitVec 32 := Scalar.muli arg5 c8_i32
  let v124 : BitVec 32 := Scalar.addi v64 c0_i32_62
  let v125 : Index := Scalar.indexCast v124
  let c0_63 : Index := 0#32
  let c0_64 : Index := 0#32
  ![v125.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

@[reducible] def k1_t1_loop : Scf.Loop 32 :=
  let c0_i32_3 : BitVec 32 := 0#32
  let c32_i32 : BitVec 32 := 32#32
  let v9 : BitVec 32 := Scalar.addi c0_i32_3 c32_i32
  let c1_i32 : BitVec 32 := 1#32
  ⟨c0_i32_3, v9, c1_i32⟩
def k1_off1 (k1_t1 : Fin k1_t1_loop.trips) (c0_i32_51 : BitVec 32) : Fin 3 → Nat :=
  let c256_i32 : BitVec 32 := 256#32
  let c0_i32_3 : BitVec 32 := 0#32
  let c1_i32 : BitVec 32 := 1#32
  let arg5 : BitVec 32 := Scf.iv c0_i32_3 c1_i32 k1_t1
  let c1_i32_48 : BitVec 32 := 1#32
  let v62 : BitVec 32 := Scalar.addi arg5 c1_i32_48
  let c8_i32 : BitVec 32 := 8#32
  let v63 : BitVec 32 := Scalar.muli v62 c8_i32
  let v64 : BitVec 32 := Scalar.subi c256_i32 v63
  let c8_i32_49 : BitVec 32 := 8#32
  let v65 : BitVec 32 := Scalar.addi v64 c8_i32_49
  let c1_i32_50 : BitVec 32 := 1#32
  let v66 : BitVec 32 := Scalar.subi v65 c1_i32_50
  let v67 : BitVec 32 := Scalar.subi v66 c0_i32_51
  let v89 : Index := Scalar.indexCast v67
  let c0_67 : Index := 0#32
  let c0_68 : Index := 0#32
  ![v89.toNat, 0, 0]
def cc1_transform_0 (i : grid1.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, c0_i32_0.toNat, v0.toNat]

abbrev stage1_0 : Fin 2 → Memref sig .tc .vmem S256x8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S8x512x2048 : Shape := ⟨3, ![8, 512, 2048]⟩
abbrev S_ : Shape := ⟨0, ![]⟩
abbrev S8x2048 : Shape := ⟨2, ![8, 2048]⟩
abbrev S8x1 : Shape := ⟨2, ![8, 1]⟩
abbrev S8 : Shape := ⟨1, ![8]⟩
abbrev S8x512 : Shape := ⟨2, ![8, 512]⟩
abbrev S512 : Shape := ⟨1, ![512]⟩
abbrev S1x512 : Shape := ⟨2, ![1, 512]⟩
abbrev S2048 : Shape := ⟨1, ![2048]⟩
abbrev S2048x8x512 : Shape := ⟨3, ![2048, 8, 512]⟩
abbrev S1 : Shape := ⟨1, ![1]⟩
abbrev S8x512x1 : Shape := ⟨3, ![8, 512, 1]⟩
abbrev S8x511 : Shape := ⟨2, ![8, 511]⟩
abbrev S1x8x512 : Shape := ⟨3, ![1, 8, 512]⟩
abbrev S8x2 : Shape := ⟨2, ![8, 2]⟩

abbrev nBuf : Space → Nat
  | .hbm => 232
  | .vmem => 0
  | .smem => 0
  | _ => 0

abbrev hbmTy0_0 (i : Nat) : BufTy := match i % 128 with
  | 0 => ⟨S8x512x2048, .f32⟩
  | 1 => ⟨S8x512x2048, .f32⟩
  | 2 => ⟨S8x512x2048, .f32⟩
  | 3 => ⟨S_, .f32⟩
  | 4 => ⟨S8x2048, .f32⟩
  | 5 => ⟨S8x1, .f32⟩
  | 6 => ⟨S8, .f32⟩
  | 7 => ⟨S8, .i32⟩
  | 8 => ⟨S_, .f32⟩
  | 9 => ⟨S8x512, .f32⟩
  | 10 => ⟨S8x1, .f32⟩
  | 11 => ⟨S8, .f32⟩
  | 12 => ⟨S8, .i32⟩
  | 13 => ⟨S8, .i32⟩
  | 14 => ⟨S512, .i32⟩
  | 15 => ⟨S1x512, .i32⟩
  | 16 => ⟨S_, .f32⟩
  | 17 => ⟨S8x512, .f32⟩
  | 18 => ⟨S2048, .i32⟩
  | 19 => ⟨S_, .f32⟩
  | 20 => ⟨S2048x8x512, .f32⟩
  | 21 => ⟨S_, .i32⟩
  | 22 => ⟨S2048, .i32⟩
  | 23 => ⟨S8x512x2048, .f32⟩
  | 24 => ⟨S1x512, .i32⟩
  | 25 => ⟨S8, .i32⟩
  | 26 => ⟨S8, .i32⟩
  | 27 => ⟨S_, .i32⟩
  | 28 => ⟨S8x512, .f32⟩
  | 29 => ⟨S2048x8x512, .f32⟩
  | 30 => ⟨S_, .i32⟩
  | 31 => ⟨S_, .i1⟩
  | 32 => ⟨S1, .i32⟩
  | 33 => ⟨S_, .i32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S8x512x1, .f32⟩
  | 42 => ⟨S8x512, .f32⟩
  | 43 => ⟨S1x512, .i32⟩
  | 44 => ⟨S1x512, .i1⟩
  | 45 => ⟨S_, .f32⟩
  | 46 => ⟨S_, .f32⟩
  | 47 => ⟨S8x512, .i1⟩
  | 48 => ⟨S8x512, .f32⟩
  | 49 => ⟨S8x512, .f32⟩
  | 50 => ⟨S_, .i32⟩
  | 51 => ⟨S_, .i1⟩
  | 52 => ⟨S_, .f32⟩
  | 53 => ⟨S_, .f32⟩
  | 54 => ⟨S_, .f32⟩
  | 55 => ⟨S8x1, .f32⟩
  | 56 => ⟨S8x511, .f32⟩
  | 57 => ⟨S8x1, .f32⟩
  | 58 => ⟨S8x512, .f32⟩
  | 59 => ⟨S8x512, .f32⟩
  | 60 => ⟨S8, .i32⟩
  | 61 => ⟨S8, .i32⟩
  | 62 => ⟨S8, .i32⟩
  | 63 => ⟨S_, .i32⟩
  | 64 => ⟨S8, .i32⟩
  | 65 => ⟨S8, .i32⟩
  | 66 => ⟨S8x1, .i32⟩
  | 67 => ⟨S_, .i32⟩
  | 68 => ⟨S_, .i32⟩
  | 69 => ⟨S8, .i32⟩
  | 70 => ⟨S8, .i32⟩
  | 71 => ⟨S8x1, .i32⟩
  | 72 => ⟨S8x512, .i32⟩
  | 73 => ⟨S8x512, .i32⟩
  | 74 => ⟨S8x512, .i1⟩
  | 75 => ⟨S8x512, .i32⟩
  | 76 => ⟨S8x512, .i32⟩
  | 77 => ⟨S8x512, .i1⟩
  | 78 => ⟨S8x512, .i1⟩
  | 79 => ⟨S8x512, .f32⟩
  | 80 => ⟨S8x512, .f32⟩
  | 81 => ⟨S1x8x512, .f32⟩
  | 82 => ⟨S_, .i32⟩
  | 83 => ⟨S_, .i32⟩
  | 84 => ⟨S2048x8x512, .f32⟩
  | 85 => ⟨S_, .i32⟩
  | 86 => ⟨S_, .i32⟩
  | 87 => ⟨S_, .i32⟩
  | 88 => ⟨S8, .i32⟩
  | 89 => ⟨S8, .i32⟩
  | 90 => ⟨S2048, .i32⟩
  | 91 => ⟨S_, .f32⟩
  | 92 => ⟨S2048x8x512, .f32⟩
  | 93 => ⟨S_, .i32⟩
  | 94 => ⟨S2048, .i32⟩
  | 95 => ⟨S8, .i32⟩
  | 96 => ⟨S1x512, .i32⟩
  | 97 => ⟨S2048x8x512, .f32⟩
  | 98 => ⟨S8, .i32⟩
  | 99 => ⟨S_, .i32⟩
  | 100 => ⟨S8, .i32⟩
  | 101 => ⟨S2048x8x512, .f32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S1, .i32⟩
  | 109 => ⟨S_, .i32⟩
  | 110 => ⟨S8, .i32⟩
  | 111 => ⟨S8, .i1⟩
  | 112 => ⟨S8x1, .i32⟩
  | 113 => ⟨S8x512, .i32⟩
  | 114 => ⟨S8x512, .i32⟩
  | 115 => ⟨S8x512, .i1⟩
  | 116 => ⟨S8x1, .i1⟩
  | 117 => ⟨S8x512, .i1⟩
  | 118 => ⟨S8x512, .i1⟩
  | 119 => ⟨S_, .f32⟩
  | 120 => ⟨S_, .f32⟩
  | 121 => ⟨S8x512, .f32⟩
  | 122 => ⟨S8x512, .f32⟩
  | 123 => ⟨S8x512, .f32⟩
  | 124 => ⟨S_, .i32⟩
  | 125 => ⟨S_, .i32⟩
  | 126 => ⟨S_, .i32⟩
  | 127 => ⟨S_, .i32⟩
  | _ => ⟨S8x512x2048, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i1⟩
  | 7 => ⟨S_, .i32⟩
  | 8 => ⟨S_, .i1⟩
  | 9 => ⟨S_, .i32⟩
  | 10 => ⟨S_, .i1⟩
  | 11 => ⟨S_, .i1⟩
  | 12 => ⟨S_, .i1⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S1x8x512, .f32⟩
  | 23 => ⟨S8x512, .f32⟩
  | 24 => ⟨S8, .i32⟩
  | 25 => ⟨S8, .i1⟩
  | 26 => ⟨S_, .i32⟩
  | 27 => ⟨S8, .i32⟩
  | 28 => ⟨S8, .i1⟩
  | 29 => ⟨S_, .i32⟩
  | 30 => ⟨S8, .i32⟩
  | 31 => ⟨S8, .i32⟩
  | 32 => ⟨S8, .i32⟩
  | 33 => ⟨S_, .i32⟩
  | 34 => ⟨S8, .i32⟩
  | 35 => ⟨S8, .i1⟩
  | 36 => ⟨S_, .i32⟩
  | 37 => ⟨S8, .i32⟩
  | 38 => ⟨S8, .i32⟩
  | 39 => ⟨S8, .i32⟩
  | 40 => ⟨S8x1, .i32⟩
  | 41 => ⟨S8x1, .i32⟩
  | 42 => ⟨S8x2, .i32⟩
  | 43 => ⟨S8, .f32⟩
  | 44 => ⟨S_, .i32⟩
  | 45 => ⟨S8, .i32⟩
  | 46 => ⟨S8, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S8, .i32⟩
  | 54 => ⟨S8, .i32⟩
  | 55 => ⟨S_, .i32⟩
  | 56 => ⟨S8, .i32⟩
  | 57 => ⟨S8, .i1⟩
  | 58 => ⟨S_, .i32⟩
  | 59 => ⟨S8, .i32⟩
  | 60 => ⟨S8, .i1⟩
  | 61 => ⟨S_, .i32⟩
  | 62 => ⟨S_, .i1⟩
  | 63 => ⟨S8, .i1⟩
  | 64 => ⟨S8, .i1⟩
  | 65 => ⟨S8, .i1⟩
  | 66 => ⟨S8, .i32⟩
  | 67 => ⟨S8, .i32⟩
  | 68 => ⟨S8, .i32⟩
  | 69 => ⟨S_, .i32⟩
  | 70 => ⟨S8, .i32⟩
  | 71 => ⟨S8, .i1⟩
  | 72 => ⟨S_, .i32⟩
  | 73 => ⟨S8, .i32⟩
  | 74 => ⟨S8, .i32⟩
  | 75 => ⟨S8, .i32⟩
  | 76 => ⟨S_, .i32⟩
  | 77 => ⟨S8, .i32⟩
  | 78 => ⟨S8, .i1⟩
  | 79 => ⟨S_, .i32⟩
  | 80 => ⟨S8, .i32⟩
  | 81 => ⟨S8, .i32⟩
  | 82 => ⟨S8, .i32⟩
  | 83 => ⟨S8x1, .i32⟩
  | 84 => ⟨S8x1, .i32⟩
  | 85 => ⟨S8x2, .i32⟩
  | 86 => ⟨S8, .f32⟩
  | 87 => ⟨S8, .i1⟩
  | 88 => ⟨S8, .i1⟩
  | 89 => ⟨S8, .i1⟩
  | 90 => ⟨S_, .i32⟩
  | 91 => ⟨S8, .i32⟩
  | 92 => ⟨S8, .i32⟩
  | 93 => ⟨S_, .i32⟩
  | 94 => ⟨S8, .i32⟩
  | 95 => ⟨S8, .i32⟩
  | 96 => ⟨S8, .i32⟩
  | 97 => ⟨S1x8x512, .f32⟩
  | 98 => ⟨S_, .i32⟩
  | 99 => ⟨S_, .i32⟩
  | 100 => ⟨S2048x8x512, .f32⟩
  | 101 => ⟨S_, .i32⟩
  | 102 => ⟨S_, .i32⟩
  | 103 => ⟨S8x512x2048, .f32⟩
  | _ => ⟨S8x512x2048, .f32⟩

abbrev hbmTy (i : Nat) : BufTy := match i / 128 with
  | 0 => hbmTy0_0 i
  | 1 => hbmTy0_1 i
  | _ => ⟨S8x512x2048, .f32⟩

abbrev bufTy : (tb : Table) → Fin (tcTables nBuf tb) → BufTy
  | .hbm, ⟨i, _⟩ => hbmTy i
  | _, _ => ⟨S8x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_c : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev main_v15_3 : Ref sig .tc := ⟨.hbm, 25, rfl⟩
abbrev main_v15_4 : Ref sig .tc := ⟨.hbm, 26, rfl⟩
abbrev main_v15_5 : Ref sig .tc := ⟨.hbm, 27, rfl⟩
abbrev main_v15_6 : Ref sig .tc := ⟨.hbm, 28, rfl⟩
abbrev main_v15_7 : Ref sig .tc := ⟨.hbm, 29, rfl⟩
abbrev main_while0c_c_13 : Ref sig .tc := ⟨.hbm, 30, rfl⟩
abbrev main_while0c_v22 : Ref sig .tc := ⟨.hbm, 31, rfl⟩
abbrev main_while0b_call0_v0 : Ref sig .tc := ⟨.hbm, 32, rfl⟩
abbrev main_while0b_v22 : Ref sig .tc := ⟨.hbm, 33, rfl⟩
abbrev main_while0b_call1_c : Ref sig .tc := ⟨.hbm, 34, rfl⟩
abbrev main_while0b_call1_v0 : Ref sig .tc := ⟨.hbm, 35, rfl⟩
abbrev main_while0b_call1_c_0 : Ref sig .tc := ⟨.hbm, 36, rfl⟩
abbrev main_while0b_call1_v1 : Ref sig .tc := ⟨.hbm, 37, rfl⟩
abbrev main_while0b_call1_v2 : Ref sig .tc := ⟨.hbm, 38, rfl⟩
abbrev main_while0b_call1_c_1 : Ref sig .tc := ⟨.hbm, 39, rfl⟩
abbrev main_while0b_call1_c_2 : Ref sig .tc := ⟨.hbm, 40, rfl⟩
abbrev main_while0b_call1_v3 : Ref sig .tc := ⟨.hbm, 41, rfl⟩
abbrev main_while0b_v23 : Ref sig .tc := ⟨.hbm, 42, rfl⟩
abbrev main_while0b_v24 : Ref sig .tc := ⟨.hbm, 43, rfl⟩
abbrev main_while0b_v25 : Ref sig .tc := ⟨.hbm, 44, rfl⟩
abbrev main_while0b_cst_13 : Ref sig .tc := ⟨.hbm, 45, rfl⟩
abbrev main_while0b_call2_v0 : Ref sig .tc := ⟨.hbm, 46, rfl⟩
abbrev main_while0b_call2_v1 : Ref sig .tc := ⟨.hbm, 47, rfl⟩
abbrev main_while0b_call2_v2 : Ref sig .tc := ⟨.hbm, 48, rfl⟩
abbrev main_while0b_v26 : Ref sig .tc := ⟨.hbm, 49, rfl⟩
abbrev main_while0b_c_14 : Ref sig .tc := ⟨.hbm, 50, rfl⟩
abbrev main_while0b_v27 : Ref sig .tc := ⟨.hbm, 51, rfl⟩
abbrev main_while0b_cst_15 : Ref sig .tc := ⟨.hbm, 52, rfl⟩
abbrev main_while0b_cst_16 : Ref sig .tc := ⟨.hbm, 53, rfl⟩
abbrev main_while0b_v28 : Ref sig .tc := ⟨.hbm, 54, rfl⟩
abbrev main_while0b_v29 : Ref sig .tc := ⟨.hbm, 55, rfl⟩
abbrev main_while0b_v30 : Ref sig .tc := ⟨.hbm, 56, rfl⟩
abbrev main_while0b_v31 : Ref sig .tc := ⟨.hbm, 57, rfl⟩
abbrev main_while0b_v32 : Ref sig .tc := ⟨.hbm, 58, rfl⟩
abbrev main_while0b_v33 : Ref sig .tc := ⟨.hbm, 59, rfl⟩
abbrev main_while0b_v34 : Ref sig .tc := ⟨.hbm, 60, rfl⟩
abbrev main_while0b_v35 : Ref sig .tc := ⟨.hbm, 61, rfl⟩
abbrev main_while0b_v36 : Ref sig .tc := ⟨.hbm, 62, rfl⟩
abbrev main_while0b_c_17 : Ref sig .tc := ⟨.hbm, 63, rfl⟩
abbrev main_while0b_v37 : Ref sig .tc := ⟨.hbm, 64, rfl⟩
abbrev main_while0b_v38 : Ref sig .tc := ⟨.hbm, 65, rfl⟩
abbrev main_while0b_v39 : Ref sig .tc := ⟨.hbm, 66, rfl⟩
abbrev main_while0b_c_18 : Ref sig .tc := ⟨.hbm, 67, rfl⟩
abbrev main_while0b_v40 : Ref sig .tc := ⟨.hbm, 68, rfl⟩
abbrev main_while0b_v41 : Ref sig .tc := ⟨.hbm, 69, rfl⟩
abbrev main_while0b_v42 : Ref sig .tc := ⟨.hbm, 70, rfl⟩
abbrev main_while0b_v43 : Ref sig .tc := ⟨.hbm, 71, rfl⟩
abbrev main_while0b_v44 : Ref sig .tc := ⟨.hbm, 72, rfl⟩
abbrev main_while0b_v45 : Ref sig .tc := ⟨.hbm, 73, rfl⟩
abbrev main_while0b_v46 : Ref sig .tc := ⟨.hbm, 74, rfl⟩
abbrev main_while0b_v47 : Ref sig .tc := ⟨.hbm, 75, rfl⟩
abbrev main_while0b_v48 : Ref sig .tc := ⟨.hbm, 76, rfl⟩
abbrev main_while0b_v49 : Ref sig .tc := ⟨.hbm, 77, rfl⟩
abbrev main_while0b_v50 : Ref sig .tc := ⟨.hbm, 78, rfl⟩
abbrev main_while0b_v51 : Ref sig .tc := ⟨.hbm, 79, rfl⟩
abbrev main_while0b_v52 : Ref sig .tc := ⟨.hbm, 80, rfl⟩
abbrev main_while0b_call5_v0 : Ref sig .tc := ⟨.hbm, 81, rfl⟩
abbrev main_while0b_call5_c : Ref sig .tc := ⟨.hbm, 82, rfl⟩
abbrev main_while0b_call5_c_0 : Ref sig .tc := ⟨.hbm, 83, rfl⟩
abbrev main_while0b_v53 : Ref sig .tc := ⟨.hbm, 84, rfl⟩
abbrev main_while0b_c_19 : Ref sig .tc := ⟨.hbm, 85, rfl⟩
abbrev main_while0b_v54 : Ref sig .tc := ⟨.hbm, 86, rfl⟩
abbrev main_c_3 : Ref sig .tc := ⟨.hbm, 87, rfl⟩
abbrev main_v16 : Ref sig .tc := ⟨.hbm, 88, rfl⟩
abbrev main_v17 : Ref sig .tc := ⟨.hbm, 89, rfl⟩
abbrev main_v18 : Ref sig .tc := ⟨.hbm, 90, rfl⟩
abbrev main_cst_4 : Ref sig .tc := ⟨.hbm, 91, rfl⟩
abbrev main_v19 : Ref sig .tc := ⟨.hbm, 92, rfl⟩
abbrev main_c_5 : Ref sig .tc := ⟨.hbm, 93, rfl⟩
abbrev main_v20_0 : Ref sig .tc := ⟨.hbm, 94, rfl⟩
abbrev main_v20_1 : Ref sig .tc := ⟨.hbm, 95, rfl⟩
abbrev main_v20_2 : Ref sig .tc := ⟨.hbm, 96, rfl⟩
abbrev main_v20_3 : Ref sig .tc := ⟨.hbm, 97, rfl⟩
abbrev main_v20_4 : Ref sig .tc := ⟨.hbm, 98, rfl⟩
abbrev main_v20_5 : Ref sig .tc := ⟨.hbm, 99, rfl⟩
abbrev main_v20_6 : Ref sig .tc := ⟨.hbm, 100, rfl⟩
abbrev main_v20_7 : Ref sig .tc := ⟨.hbm, 101, rfl⟩
abbrev main_while1c_c_13 : Ref sig .tc := ⟨.hbm, 102, rfl⟩
abbrev main_while1c_v22 : Ref sig .tc := ⟨.hbm, 103, rfl⟩
abbrev main_while1b_c_13 : Ref sig .tc := ⟨.hbm, 104, rfl⟩
abbrev main_while1b_v22 : Ref sig .tc := ⟨.hbm, 105, rfl⟩
abbrev main_while1b_c_14 : Ref sig .tc := ⟨.hbm, 106, rfl⟩
abbrev main_while1b_v23 : Ref sig .tc := ⟨.hbm, 107, rfl⟩
abbrev main_while1b_call6_v0 : Ref sig .tc := ⟨.hbm, 108, rfl⟩
abbrev main_while1b_v24 : Ref sig .tc := ⟨.hbm, 109, rfl⟩
abbrev main_while1b_v25 : Ref sig .tc := ⟨.hbm, 110, rfl⟩
abbrev main_while1b_v26 : Ref sig .tc := ⟨.hbm, 111, rfl⟩
abbrev main_while1b_v27 : Ref sig .tc := ⟨.hbm, 112, rfl⟩
abbrev main_while1b_v28 : Ref sig .tc := ⟨.hbm, 113, rfl⟩
abbrev main_while1b_v29 : Ref sig .tc := ⟨.hbm, 114, rfl⟩
abbrev main_while1b_v30 : Ref sig .tc := ⟨.hbm, 115, rfl⟩
abbrev main_while1b_v31 : Ref sig .tc := ⟨.hbm, 116, rfl⟩
abbrev main_while1b_v32 : Ref sig .tc := ⟨.hbm, 117, rfl⟩
abbrev main_while1b_v33 : Ref sig .tc := ⟨.hbm, 118, rfl⟩
abbrev main_while1b_cst_15 : Ref sig .tc := ⟨.hbm, 119, rfl⟩
abbrev main_while1b_cst_16 : Ref sig .tc := ⟨.hbm, 120, rfl⟩
abbrev main_while1b_call7_v0 : Ref sig .tc := ⟨.hbm, 121, rfl⟩
abbrev main_while1b_call7_v1 : Ref sig .tc := ⟨.hbm, 122, rfl⟩
abbrev main_while1b_v34 : Ref sig .tc := ⟨.hbm, 123, rfl⟩
abbrev main_while1b_c_17 : Ref sig .tc := ⟨.hbm, 124, rfl⟩
abbrev main_while1b_v35 : Ref sig .tc := ⟨.hbm, 125, rfl⟩
abbrev main_while1b_c_18 : Ref sig .tc := ⟨.hbm, 126, rfl⟩
abbrev main_while1b_call8_v0 : Ref sig .tc := ⟨.hbm, 127, rfl⟩
abbrev main_while1b_call8_c : Ref sig .tc := ⟨.hbm, 128, rfl⟩
abbrev main_while1b_call8_v1 : Ref sig .tc := ⟨.hbm, 129, rfl⟩
abbrev main_while1b_call8_c_0 : Ref sig .tc := ⟨.hbm, 130, rfl⟩
abbrev main_while1b_call8_v2 : Ref sig .tc := ⟨.hbm, 131, rfl⟩
abbrev main_while1b_call8_v3 : Ref sig .tc := ⟨.hbm, 132, rfl⟩
abbrev main_while1b_call8_c_1 : Ref sig .tc := ⟨.hbm, 133, rfl⟩
abbrev main_while1b_call8_v4 : Ref sig .tc := ⟨.hbm, 134, rfl⟩
abbrev main_while1b_call8_c_2 : Ref sig .tc := ⟨.hbm, 135, rfl⟩
abbrev main_while1b_call8_v5 : Ref sig .tc := ⟨.hbm, 136, rfl⟩
abbrev main_while1b_call8_c_3 : Ref sig .tc := ⟨.hbm, 137, rfl⟩
abbrev main_while1b_call8_v6 : Ref sig .tc := ⟨.hbm, 138, rfl⟩
abbrev main_while1b_call8_v7 : Ref sig .tc := ⟨.hbm, 139, rfl⟩
abbrev main_while1b_call8_v8 : Ref sig .tc := ⟨.hbm, 140, rfl⟩
abbrev main_while1b_call8_v9 : Ref sig .tc := ⟨.hbm, 141, rfl⟩
abbrev main_while1b_v36 : Ref sig .tc := ⟨.hbm, 142, rfl⟩
abbrev main_while1b_call9_c : Ref sig .tc := ⟨.hbm, 143, rfl⟩
abbrev main_while1b_call9_v0 : Ref sig .tc := ⟨.hbm, 144, rfl⟩
abbrev main_while1b_call9_c_0 : Ref sig .tc := ⟨.hbm, 145, rfl⟩
abbrev main_while1b_call9_v1 : Ref sig .tc := ⟨.hbm, 146, rfl⟩
abbrev main_while1b_call9_v2 : Ref sig .tc := ⟨.hbm, 147, rfl⟩
abbrev main_while1b_call9_c_1 : Ref sig .tc := ⟨.hbm, 148, rfl⟩
abbrev main_while1b_call9_c_2 : Ref sig .tc := ⟨.hbm, 149, rfl⟩
abbrev main_while1b_call9_v3 : Ref sig .tc := ⟨.hbm, 150, rfl⟩
abbrev main_while1b_v37 : Ref sig .tc := ⟨.hbm, 151, rfl⟩
abbrev main_while1b_v38 : Ref sig .tc := ⟨.hbm, 152, rfl⟩
abbrev main_while1b_v39 : Ref sig .tc := ⟨.hbm, 153, rfl⟩
abbrev main_while1b_c_19 : Ref sig .tc := ⟨.hbm, 154, rfl⟩
abbrev main_while1b_v40 : Ref sig .tc := ⟨.hbm, 155, rfl⟩
abbrev main_while1b_v41 : Ref sig .tc := ⟨.hbm, 156, rfl⟩
abbrev main_while1b_c_20 : Ref sig .tc := ⟨.hbm, 157, rfl⟩
abbrev main_while1b_v42 : Ref sig .tc := ⟨.hbm, 158, rfl⟩
abbrev main_while1b_v43 : Ref sig .tc := ⟨.hbm, 159, rfl⟩
abbrev main_while1b_v44 : Ref sig .tc := ⟨.hbm, 160, rfl⟩
abbrev main_while1b_c_21 : Ref sig .tc := ⟨.hbm, 161, rfl⟩
abbrev main_while1b_v45 : Ref sig .tc := ⟨.hbm, 162, rfl⟩
abbrev main_while1b_v46 : Ref sig .tc := ⟨.hbm, 163, rfl⟩
abbrev main_while1b_c_22 : Ref sig .tc := ⟨.hbm, 164, rfl⟩
abbrev main_while1b_v47 : Ref sig .tc := ⟨.hbm, 165, rfl⟩
abbrev main_while1b_v48 : Ref sig .tc := ⟨.hbm, 166, rfl⟩
abbrev main_while1b_v49 : Ref sig .tc := ⟨.hbm, 167, rfl⟩
abbrev main_while1b_v50 : Ref sig .tc := ⟨.hbm, 168, rfl⟩
abbrev main_while1b_v51 : Ref sig .tc := ⟨.hbm, 169, rfl⟩
abbrev main_while1b_v52 : Ref sig .tc := ⟨.hbm, 170, rfl⟩
abbrev main_while1b_v53 : Ref sig .tc := ⟨.hbm, 171, rfl⟩
abbrev main_while1b_c_23 : Ref sig .tc := ⟨.hbm, 172, rfl⟩
abbrev main_while1b_v54 : Ref sig .tc := ⟨.hbm, 173, rfl⟩
abbrev main_while1b_v55 : Ref sig .tc := ⟨.hbm, 174, rfl⟩
abbrev main_while1b_c_24 : Ref sig .tc := ⟨.hbm, 175, rfl⟩
abbrev main_while1b_call10_v0 : Ref sig .tc := ⟨.hbm, 176, rfl⟩
abbrev main_while1b_call10_c : Ref sig .tc := ⟨.hbm, 177, rfl⟩
abbrev main_while1b_call10_v1 : Ref sig .tc := ⟨.hbm, 178, rfl⟩
abbrev main_while1b_call10_c_0 : Ref sig .tc := ⟨.hbm, 179, rfl⟩
abbrev main_while1b_call10_v2 : Ref sig .tc := ⟨.hbm, 180, rfl⟩
abbrev main_while1b_call10_v3 : Ref sig .tc := ⟨.hbm, 181, rfl⟩
abbrev main_while1b_call10_v4 : Ref sig .tc := ⟨.hbm, 182, rfl⟩
abbrev main_while1b_call10_c_1 : Ref sig .tc := ⟨.hbm, 183, rfl⟩
abbrev main_while1b_call10_v5 : Ref sig .tc := ⟨.hbm, 184, rfl⟩
abbrev main_while1b_call10_v6 : Ref sig .tc := ⟨.hbm, 185, rfl⟩
abbrev main_while1b_call10_c_2 : Ref sig .tc := ⟨.hbm, 186, rfl⟩
abbrev main_while1b_call10_v7 : Ref sig .tc := ⟨.hbm, 187, rfl⟩
abbrev main_while1b_call10_v8 : Ref sig .tc := ⟨.hbm, 188, rfl⟩
abbrev main_while1b_call10_c_3 : Ref sig .tc := ⟨.hbm, 189, rfl⟩
abbrev main_while1b_call10_v9 : Ref sig .tc := ⟨.hbm, 190, rfl⟩
abbrev main_while1b_call10_v10 : Ref sig .tc := ⟨.hbm, 191, rfl⟩
abbrev main_while1b_call10_v11 : Ref sig .tc := ⟨.hbm, 192, rfl⟩
abbrev main_while1b_call10_v12 : Ref sig .tc := ⟨.hbm, 193, rfl⟩
abbrev main_while1b_call10_v13 : Ref sig .tc := ⟨.hbm, 194, rfl⟩
abbrev main_while1b_call10_v14 : Ref sig .tc := ⟨.hbm, 195, rfl⟩
abbrev main_while1b_v56 : Ref sig .tc := ⟨.hbm, 196, rfl⟩
abbrev main_while1b_c_25 : Ref sig .tc := ⟨.hbm, 197, rfl⟩
abbrev main_while1b_v57 : Ref sig .tc := ⟨.hbm, 198, rfl⟩
abbrev main_while1b_v58 : Ref sig .tc := ⟨.hbm, 199, rfl⟩
abbrev main_while1b_c_26 : Ref sig .tc := ⟨.hbm, 200, rfl⟩
abbrev main_while1b_v59 : Ref sig .tc := ⟨.hbm, 201, rfl⟩
abbrev main_while1b_v60 : Ref sig .tc := ⟨.hbm, 202, rfl⟩
abbrev main_while1b_v61 : Ref sig .tc := ⟨.hbm, 203, rfl⟩
abbrev main_while1b_c_27 : Ref sig .tc := ⟨.hbm, 204, rfl⟩
abbrev main_while1b_v62 : Ref sig .tc := ⟨.hbm, 205, rfl⟩
abbrev main_while1b_v63 : Ref sig .tc := ⟨.hbm, 206, rfl⟩
abbrev main_while1b_c_28 : Ref sig .tc := ⟨.hbm, 207, rfl⟩
abbrev main_while1b_v64 : Ref sig .tc := ⟨.hbm, 208, rfl⟩
abbrev main_while1b_v65 : Ref sig .tc := ⟨.hbm, 209, rfl⟩
abbrev main_while1b_v66 : Ref sig .tc := ⟨.hbm, 210, rfl⟩
abbrev main_while1b_v67 : Ref sig .tc := ⟨.hbm, 211, rfl⟩
abbrev main_while1b_v68 : Ref sig .tc := ⟨.hbm, 212, rfl⟩
abbrev main_while1b_v69 : Ref sig .tc := ⟨.hbm, 213, rfl⟩
abbrev main_while1b_v70 : Ref sig .tc := ⟨.hbm, 214, rfl⟩
abbrev main_while1b_v71 : Ref sig .tc := ⟨.hbm, 215, rfl⟩
abbrev main_while1b_v72 : Ref sig .tc := ⟨.hbm, 216, rfl⟩
abbrev main_while1b_v73 : Ref sig .tc := ⟨.hbm, 217, rfl⟩
abbrev main_while1b_c_29 : Ref sig .tc := ⟨.hbm, 218, rfl⟩
abbrev main_while1b_v74 : Ref sig .tc := ⟨.hbm, 219, rfl⟩
abbrev main_while1b_v75 : Ref sig .tc := ⟨.hbm, 220, rfl⟩
abbrev main_while1b_c_30 : Ref sig .tc := ⟨.hbm, 221, rfl⟩
abbrev main_while1b_v76 : Ref sig .tc := ⟨.hbm, 222, rfl⟩
abbrev main_while1b_v77 : Ref sig .tc := ⟨.hbm, 223, rfl⟩
abbrev main_while1b_v78 : Ref sig .tc := ⟨.hbm, 224, rfl⟩
abbrev main_while1b_call12_v0 : Ref sig .tc := ⟨.hbm, 225, rfl⟩
abbrev main_while1b_call12_c : Ref sig .tc := ⟨.hbm, 226, rfl⟩
abbrev main_while1b_call12_c_0 : Ref sig .tc := ⟨.hbm, 227, rfl⟩
abbrev main_while1b_v79 : Ref sig .tc := ⟨.hbm, 228, rfl⟩
abbrev main_while1b_c_31 : Ref sig .tc := ⟨.hbm, 229, rfl⟩
abbrev main_while1b_v80 : Ref sig .tc := ⟨.hbm, 230, rfl⟩
abbrev main_v21 : Ref sig .tc := ⟨.hbm, 231, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Proof.KernelIdeal.FwdRun.lean ====
/- The forward region's body, run once per case of its branches: what a point leaves in the block of decision bits
   and in the carried column, found by the symbolic run. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- the rectangles of this kernel have large extents
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body clears the carried column (the first point). -/
abbrev isFirst (i : grid0.Coords) : Prop := (Scalar.cmpi .ne (Scalar.extui (Scalar.cmpi .eq (BitVec.ofNat 32 (i 0).val) 0#32)) 0#32) = 1#1
/-- The body takes the pass that minds the diagonal. -/
abbrev isDiag (i : grid0.Coords) : Prop := k0_cond2 i = 1#1
/-- The body takes the plain pass. -/
abbrev isPlain (i : grid0.Coords) : Prop := k0_cond3 i = 1#1

set_option maxHeartbeats 1000000 in
/-- A point past the diagonal. -/
noncomputable def fwdPlain (c : Dev nD) (i : grid0.Coords) (arg1 : Memref sig .tc .vmem S8x512x256 .f32) (harg1 : arg1.IsWhole) (arg2 : Memref sig .tc .vmem S256x8x512 .f32) (harg2 : arg2.IsWhole) (arg3 : Memref sig .tc .vmem S256x8x512 .f32) (harg3 : arg3.IsWhole) (arg4 : Memref sig .tc .vmem S8x512 .f32) (harg4 : arg4.IsWhole) (hc0 : ¬isFirst i) (hc1 : ¬isDiag i) (hc2 : isPlain i)
    (x0 : Vec F S8x512x256 .f32) (xs : Vec F S8x512 .f32) :
    Σ' (L1 : List (View.Piece (Elt F) S256x8x512 .f32)), { LS : List (View.Piece (Elt F) S8x512 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs
            ∗ (iprop(owns (c : Thread nD τ) arg1 fullShare x0 ∗ (∃ f, arg2.view.loc (c : Thread nD τ) ↦[arg2.view.set]{fullShare} arg2.view.writes (Elt F) f L1) ∗ (∃ d, owns (c : Thread nD τ) arg3 fullShare d) ∗ (∃ f, arg4.view.loc (c : Thread nD τ) ↦[arg4.view.set]{fullShare} arg4.view.writes (Elt F) f LS)) -∗ K ⟨⟩))
          ⊢ wp frame (wpE (defs₀ (F := F)) Variants.none c none) E (cc0__fwd_kernel i arg1 harg1 arg2 harg2 arg3 harg3 arg4 harg4) K } := by
  refine ⟨?_, ?_, fun E K => ?run⟩
  case run =>
    simp only [cc0__fwd_kernel_eq_skeleton]; unfold cc0__fwd_kernel_skel
    simp only [k0_part20_eq_skeleton, k0_part21_eq_skeleton]
    unfold owns
    iintro ⟨⟨%f0, %hf0, H0⟩, ⟨%d1, %f1, -, H1⟩, ⟨%ds0, %fs0, -, HS0⟩, ⟨%fs1, %hfs1, HS1⟩, Hk⟩
    obtain rfl := harg1.eq_unread hf0; obtain rfl := harg4.eq_unread hfs1
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [HS0]
    · iexists _, _; isplitr; swap; · iexact HS0
      ipureintro; rfl
    iexists _; iexact HS1

set_option maxHeartbeats 1000000 in
/-- A later point the diagonal crosses. -/
noncomputable def fwdDiag (c : Dev nD) (i : grid0.Coords) (arg1 : Memref sig .tc .vmem S8x512x256 .f32) (harg1 : arg1.IsWhole) (arg2 : Memref sig .tc .vmem S256x8x512 .f32) (harg2 : arg2.IsWhole) (arg3 : Memref sig .tc .vmem S256x8x512 .f32) (harg3 : arg3.IsWhole) (arg4 : Memref sig .tc .vmem S8x512 .f32) (harg4 : arg4.IsWhole) (hc0 : ¬isFirst i) (hc1 : isDiag i) (hc2 : ¬isPlain i)
    (x0 : Vec F S8x512x256 .f32) (xs : Vec F S8x512 .f32) :
    Σ' (L1 : List (View.Piece (Elt F) S256x8x512 .f32)), { LS : List (View.Piece (Elt F) S8x512 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs
            ∗ (iprop(owns (c : Thread nD τ) arg1 fullShare x0 ∗ (∃ f, arg2.view.loc (c : Thread nD τ) ↦[arg2.view.set]{fullShare} arg2.view.writes (Elt F) f L1) ∗ (∃ d, owns (c : Thread nD τ) arg3 fullShare d) ∗ (∃ f, arg4.view.loc (c : Thread nD τ) ↦[arg4.view.set]{fullShare} arg4.view.writes (Elt F) f LS)) -∗ K ⟨⟩))
          ⊢ wp frame (wpE (defs₀ (F := F)) Variants.none c none) E (cc0__fwd_kernel i arg1 harg1 arg2 harg2 arg3 harg3 arg4 harg4) K } := by
  refine ⟨?_, ?_, fun E K => ?run⟩
  case run =>
    simp only [cc0__fwd_kernel_eq_skeleton]; unfold cc0__fwd_kernel_skel
    simp only [k0_part20_eq_skeleton, k0_part21_eq_skeleton]
    unfold owns
    iintro ⟨⟨%f0, %hf0, H0⟩, ⟨%d1, %f1, -, H1⟩, ⟨%ds0, %fs0, -, HS0⟩, ⟨%fs1, %hfs1, HS1⟩, Hk⟩
    obtain rfl := harg1.eq_unread hf0; obtain rfl := harg4.eq_unread hfs1
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [HS0]
    · iexists _, _; isplitr; swap; · iexact HS0
      ipureintro; rfl
    iexists _; iexact HS1

set_option maxHeartbeats 1000000 in
/-- The first point: the carried column is cleared before it is read. -/
noncomputable def fwdFirst (c : Dev nD) (i : grid0.Coords) (arg1 : Memref sig .tc .vmem S8x512x256 .f32) (harg1 : arg1.IsWhole) (arg2 : Memref sig .tc .vmem S256x8x512 .f32) (harg2 : arg2.IsWhole) (arg3 : Memref sig .tc .vmem S256x8x512 .f32) (harg3 : arg3.IsWhole) (arg4 : Memref sig .tc .vmem S8x512 .f32) (harg4 : arg4.IsWhole) (hc0 : isFirst i) (hc1 : isDiag i) (hc2 : ¬isPlain i)
    (x0 : Vec F S8x512x256 .f32) :
    Σ' (L1 : List (View.Piece (Elt F) S256x8x512 .f32)), { LS : List (View.Piece (Elt F) S8x512 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d)
            ∗ (iprop(owns (c : Thread nD τ) arg1 fullShare x0 ∗ (∃ f, arg2.view.loc (c : Thread nD τ) ↦[arg2.view.set]{fullShare} arg2.view.writes (Elt F) f L1) ∗ (∃ d, owns (c : Thread nD τ) arg3 fullShare d) ∗ (∃ f, arg4.view.loc (c : Thread nD τ) ↦[arg4.view.set]{fullShare} arg4.view.writes (Elt F) f LS)) -∗ K ⟨⟩))
          ⊢ wp frame (wpE (defs₀ (F := F)) Variants.none c none) E (cc0__fwd_kernel i arg1 harg1 arg2 harg2 arg3 harg3 arg4 harg4) K } := by
  refine ⟨?_, ?_, fun E K => ?run⟩
  case run =>
    simp only [cc0__fwd_kernel_eq_skeleton]; unfold cc0__fwd_kernel_skel
    simp only [k0_part20_eq_skeleton, k0_part21_eq_skeleton]
    unfold owns
    iintro ⟨⟨%f0, %hf0, H0⟩, ⟨%d1, %f1, -, H1⟩, ⟨%ds0, %fs0, -, HS0⟩, ⟨%ds1, %fs1, -, HS1⟩, Hk⟩
    obtain rfl := harg1.eq_unread hf0
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [HS0]
    · iexists _, _; isplitr; swap; · iexact HS0
      ipureintro; rfl
    iexists _; iexact HS1

end Cert.KernelIdeal.Hand

end
-- ==== Proof.KernelIdeal.FwdTrip.lean ====
/- The forward pass's trips as plain vector functions, and that the run of a trip finds just these. -/
module

public import proofs.«01_k».proof.Proof.KernelIdeal.FwdRun

@[expose] public section

-- the rectangles of this kernel have large extents
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The forward pass's block of eight columns, as plain vectors -/

/-- The lanes' numbers, as a row. -/
abbrev lanes : IVec S1x512 32 := iota .tc S1x512 32 [1] iota_S1x512_d1_w32
/-- A row of flags over all eight batch rows. -/
def flags (m : IVec S1x512 1) : IVec S8x512 1 :=
  broadcastTo S8x512 (shapeCast S1x512 m shapeCasts_S1x512_S1x512) broadcasts_S1x512_S8x512
/-- A block turned `d` lanes to the right. -/
def turn (v : FVec F S8x512 .f32) : ℕ → FVec F S8x512 .f32
  | 0 => v
  | d + 1 => dynamicRotate 1 (BitVec.ofNat 32 (d + 1)) none v rotates_S8x512_d1
/-- The carried column turned `d` lanes, the fill value in the lanes that wrapped. -/
def shifted (fill : F .f32) (a : FVec F S8x512 .f32) : ℕ → FVec F S8x512 .f32
  | 0 => a
  | d + 1 => select (flags (cmpi .slt lanes (broadcast S1x512 (BitVec.ofNat 32 (d + 1))))) (broadcast S8x512 fill) (turn a (d + 1))
/-- A stored row of the block of columns without its leading axis. -/
def unrow (v : Vec F S1x8x512 .f32) : FVec F S8x512 .f32 := shapeCast S8x512 v shapeCasts_S1x8x512_S8x512
/-- The decision flags of a column, stored as numbers in a row with a leading axis. -/
def stored (m : IVec S8x512 1) : FVec F S1x8x512 .f32 :=
  shapeCast S1x8x512 (sitofp .f32 (extui 32 m natLt_1_32) : FVec F S8x512 .f32) shapeCasts_S8x512_S1x8x512

/-- The plain pass: after `u` columns, the column shifted by `d`. -/
def plainLv (fill : F .f32) (a : FVec F S8x512 .f32) (rows : ℕ → Vec F S1x8x512 .f32) : ℕ → ℕ → FVec F S8x512 .f32
  | 0, d => shifted fill a d
  | u + 1, d => addf (turn (unrow (rows u)) d) (maximumf (plainLv fill a rows u d) (plainLv fill a rows u (d + 1)))
/-- The plain pass's stored flags of column `u`. -/
def plainBit (fill : F .f32) (a : FVec F S8x512 .f32) (rows : ℕ → Vec F S1x8x512 .f32) (u : ℕ) : FVec F S1x8x512 .f32 :=
  stored (cmpf .olt (plainLv fill a rows u 0) (plainLv fill a rows u 1))

/-- The number of the block's column `u`. -/
def colNo (c base : BitVec 32) (u : ℕ) : BitVec 32 := Scalar.addi (Scalar.addi (Scalar.muli c 256#32) base) (BitVec.ofNat 32 u)
/-- One column of the pass that minds the diagonal, before the very first column's overwrite. -/
def diagStep (fill : F .f32) (i : BitVec 32) (r : FVec F S8x512 .f32) (d : ℕ) (stay next : FVec F S8x512 .f32) : FVec F S8x512 .f32 :=
  addf (turn r d) (maximumf (select (flags (cmpi .eq lanes (broadcast S1x512 (Scalar.addi i (BitVec.ofNat 32 d))))) (broadcast S8x512 fill) stay) next)
/-- The pass that minds the diagonal: after `u` columns, the column shifted by `d`. -/
def diagLv (c base : BitVec 32) (first : BitVec 1) (fill : F .f32) (a : FVec F S8x512 .f32) (rows : ℕ → Vec F S1x8x512 .f32) : ℕ → ℕ → FVec F S8x512 .f32
  | 0, d => shifted fill a d
  | 1, d => select (flags (andi (broadcast S1x512 first) (cmpi .eq lanes (broadcast S1x512 (BitVec.ofNat 32 d))))) (turn (unrow (rows 0)) d)
      (diagStep fill (colNo c base 0) (unrow (rows 0)) d (diagLv c base first fill a rows 0 d) (diagLv c base first fill a rows 0 (d + 1)))
  | u + 2, d => diagStep fill (colNo c base (u + 1)) (unrow (rows (u + 1))) d (diagLv c base first fill a rows (u + 1) d) (diagLv c base first fill a rows (u + 1) (d + 1))
/-- The stored flags of column `u` in the pass that minds the diagonal. -/
def diagBit (c base : BitVec 32) (first : BitVec 1) (fill : F .f32) (a : FVec F S8x512 .f32) (rows : ℕ → Vec F S1x8x512 .f32) (u : ℕ) : FVec F S1x8x512 .f32 :=
  stored (ori (broadcastTo S8x512 (cmpi .eq lanes (broadcast S1x512 (colNo c base u))) broadcasts_S1x512_S8x512)
    (cmpf .olt (diagLv c base first fill a rows u 0) (diagLv c base first fill a rows u 1)))

/-- The rows of trip `k` of the plain pass, as it loads them. -/
def plainRows (i : grid0.Coords) (h : k0_cond3 i = 1#1) (arg3 : Memref sig .tc .vmem S256x8x512 .f32) (X : BufTy.Contents (Elt F) arg3.view.ty) (k : Fin k0_t2_loop.trips) (u : ℕ) : Vec F S1x8x512 .f32 :=
  View.readAt (Elt F) arg3.view (Rect.unit (s := S256x8x512) (k0_off2 k (BitVec.ofNat 32 (u % 8))) S1x8x512.size (k0_off2_inb i k h ⟨u % 8, Nat.mod_lt _ (by decide)⟩)).toLoadRect X
/-- The rows of trip `k` of the pass that minds the diagonal, as it loads them. -/
def diagRows (i : grid0.Coords) (h : k0_cond2 i = 1#1) (arg3 : Memref sig .tc .vmem S256x8x512 .f32) (X : BufTy.Contents (Elt F) arg3.view.ty) (k : Fin k0_t1_loop.trips) (u : ℕ) : Vec F S1x8x512 .f32 :=
  View.readAt (Elt F) arg3.view (Rect.unit (s := S256x8x512) (k0_off1 k (BitVec.ofNat 32 (u % 8))) S1x8x512.size (k0_off1_inb i k h ⟨u % 8, Nat.mod_lt _ (by decide)⟩)).toLoadRect X
/-- The number of the first column of trip `k`, inside the block of the point. -/
def tripBase (k : ℕ) : BitVec 32 := Scalar.muli (Scf.iv 0#32 1#32 k) 8#32
/-- Whether the trip is the very first of all. -/
def firstTrip (c : BitVec 32) (k : ℕ) : BitVec 1 := Scalar.andi (Scalar.cmpi .eq c 0#32) (Scalar.cmpi .eq (Scf.iv 0#32 1#32 k) 0#32)

set_option maxHeartbeats 4000000 in
theorem plain_R (𝒱 : Variants) (c : Dev nD) (bd : Option 𝒱.V) (i : grid0.Coords) (arg1 : Memref sig .tc .vmem S8x512x256 .f32) (harg1 : arg1.IsWhole) (arg2 : Memref sig .tc .vmem S256x8x512 .f32) (harg2 : arg2.IsWhole) (arg3 : Memref sig .tc .vmem S256x8x512 .f32) (harg3 : arg3.IsWhole) (arg4 : Memref sig .tc .vmem S8x512 .f32) (harg4 : arg4.IsWhole) (fill : F .f32) (h3 : k0_cond3 i = 1#1) (X : BufTy.Contents (Elt F) arg3.view.ty) (k : Fin k0_t2_loop.trips) (acc : Vec F S8x512 .f32) :
  (trip_k0_t2 (F := F) 𝒱 c bd i arg1 harg1 arg2 harg2 arg3 harg3 arg4 harg4 lanes fill h3 X k).1 acc = plainLv fill acc (plainRows i h3 arg3 X k) 8 0 := by
  unfold trip_k0_t2
  rfl

set_option maxHeartbeats 4000000 in
theorem plain_L (𝒱 : Variants) (c : Dev nD) (bd : Option 𝒱.V) (i : grid0.Coords) (arg1 : Memref sig .tc .vmem S8x512x256 .f32) (harg1 : arg1.IsWhole) (arg2 : Memref sig .tc .vmem S256x8x512 .f32) (harg2 : arg2.IsWhole) (arg3 : Memref sig .tc .vmem S256x8x512 .f32) (harg3 : arg3.IsWhole) (arg4 : Memref sig .tc .vmem S8x512 .f32) (harg4 : arg4.IsWhole) (fill : F .f32) (h3 : k0_cond3 i = 1#1) (X : BufTy.Contents (Elt F) arg3.view.ty) (k : Fin k0_t2_loop.trips) (acc : Vec F S8x512 .f32) :
  (trip_k0_t2 (F := F) 𝒱 c bd i arg1 harg1 arg2 harg2 arg3 harg3 arg4 harg4 lanes fill h3 X k).2.1 acc =
   (List.finRange 8).reverse.map (fun u => (⟨Rect.unit (s := S256x8x512) (k0_off2 k (BitVec.ofNat 32 u.val)) S1x8x512.size (k0_off2_inb i k h3 u), plainBit fill acc (plainRows i h3 arg3 X k) u⟩ : View.Piece (Elt F) S256x8x512 .f32)) := by
  unfold trip_k0_t2
  rfl
set_option maxHeartbeats 4000000 in
theorem diag_R (𝒱 : Variants) (c : Dev nD) (bd : Option 𝒱.V) (i : grid0.Coords) (arg1 : Memref sig .tc .vmem S8x512x256 .f32) (harg1 : arg1.IsWhole) (arg2 : Memref sig .tc .vmem S256x8x512 .f32) (harg2 : arg2.IsWhole) (arg3 : Memref sig .tc .vmem S256x8x512 .f32) (harg3 : arg3.IsWhole) (arg4 : Memref sig .tc .vmem S8x512 .f32) (harg4 : arg4.IsWhole) (c0 : BitVec 32) (h2 : k0_cond2 i = 1#1) (X : BufTy.Contents (Elt F) arg3.view.ty) (k : Fin k0_t1_loop.trips) (acc : Vec F S8x512 .f32) :
  (trip_k0_t1 (F := F) 𝒱 c bd i arg1 harg1 arg2 harg2 arg3 harg3 arg4 harg4 c0 lanes (Scalar.ofBits .f32 0xCB189680#32) h2 X k).1 acc = diagLv c0 (tripBase k) (firstTrip c0 k) (Scalar.ofBits .f32 0xCB189680#32) acc (diagRows i h2 arg3 X k) 8 0 := by
  unfold trip_k0_t1
  rfl

set_option maxHeartbeats 4000000 in
theorem diag_L (𝒱 : Variants) (c : Dev nD) (bd : Option 𝒱.V) (i : grid0.Coords) (arg1 : Memref sig .tc .vmem S8x512x256 .f32) (harg1 : arg1.IsWhole) (arg2 : Memref sig .tc .vmem S256x8x512 .f32) (harg2 : arg2.IsWhole) (arg3 : Memref sig .tc .vmem S256x8x512 .f32) (harg3 : arg3.IsWhole) (arg4 : Memref sig .tc .vmem S8x512 .f32) (harg4 : arg4.IsWhole) (c0 : BitVec 32) (h2 : k0_cond2 i = 1#1) (X : BufTy.Contents (Elt F) arg3.view.ty) (k : Fin k0_t1_loop.trips) (acc : Vec F S8x512 .f32) :
  (trip_k0_t1 (F := F) 𝒱 c bd i arg1 harg1 arg2 harg2 arg3 harg3 arg4 harg4 c0 lanes (Scalar.ofBits .f32 0xCB189680#32) h2 X k).2.1 acc =
   (List.finRange 8).reverse.map (fun u => (⟨Rect.unit (s := S256x8x512) (k0_off1 k (BitVec.ofNat 32 u.val)) S1x8x512.size (k0_off1_inb i k h2 u), diagBit c0 (tripBase k) (firstTrip c0 k) (Scalar.ofBits .f32 0xCB189680#32) acc (diagRows i h2 arg3 X k) u⟩ : View.Piece (Elt F) S256x8x512 .f32)) := by
  unfold trip_k0_t1
  rfl
end Cert.KernelIdeal.Hand
end
-- ==== Proof.KernelIdeal.BwdTrip.lean ====
/- The backward pass's trip as plain vector functions, and that the run of a trip finds just these. -/
module

public import proofs.«01_k».proof.Proof.KernelIdeal.FwdTrip

@[expose] public section

-- the rectangles of this kernel have large extents
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The backward pass's block of eight columns, as plain vectors -/

/-- One round of the tree sum: neighbours added. -/
def pairUp : List (FVec F S8x512 .f32) → List (FVec F S8x512 .f32)
  | a :: b :: l => addf a b :: pairUp l
  | l => l
/-- The sum of at most sixteen blocks, neighbours first. -/
def treeSum (l : List (FVec F S8x512 .f32)) : FVec F S8x512 .f32 :=
  (pairUp (pairUp (pairUp (pairUp l)))).headD (broadcast S8x512 (Scalar.ofBits .f32 0x00000000#32))
/-- The words of the displacements zero to eight as numbers. -/
def stepWord : ℕ → BitVec 32
  | 0 => 0x00000000#32 | 1 => 0x3F800000#32 | 2 => 0x40000000#32 | 3 => 0x40400000#32 | 4 => 0x40800000#32
  | 5 => 0x40A00000#32 | 6 => 0x40C00000#32 | 7 => 0x40E00000#32 | _ => 0x41000000#32
/-- Where the displacement is `dd`, as zeros and ones. -/
def stepMask (d : FVec F S8x512 .f32) (dd : ℕ) : FVec F S8x512 .f32 :=
  sitofp .f32 (extui 32 (cmpf .oeq d (broadcast S8x512 (Scalar.ofBits .f32 (stepWord dd)))) natLt_1_32)
/-- A block turned `k` lanes to the left. -/
def turnBack (v : FVec F S8x512 .f32) : ℕ → FVec F S8x512 .f32
  | 0 => v
  | k + 1 => dynamicRotate 1 (BitVec.ofNat 32 (512 - (k + 1))) none v rotates_S8x512_d1
/-- The one-hot block moved left by the displacement, for displacements below `n`. -/
def spread (h d : FVec F S8x512 .f32) (n : ℕ) : FVec F S8x512 .f32 :=
  treeSum ((List.range n).map fun dd => turnBack (mulf h (stepMask d dd)) dd)
/-- Ones in every lane but the first. -/
def notFirst : FVec F S1x512 .f32 :=
  sitofp .f32 (extui 32 (cmpi .sgt lanes (broadcast S1x512 0#32)) natLt_1_32)
/-- A column's decision flags, none in lane zero. -/
def gates (row : Vec F S1x8x512 .f32) : FVec F S8x512 .f32 :=
  mulf (unrow row) (broadcastTo S8x512 notFirst broadcasts_S1x512_S8x512)
/-- The displacement after `j` columns of the block, from where each lane's token stood at its start. -/
def shift (rows : ℕ → Vec F S1x8x512 .f32) : ℕ → FVec F S8x512 .f32
  | 0 => broadcast S8x512 (Scalar.ofBits .f32 0x00000000#32)
  | j + 1 => addf (shift rows j) (treeSum ((List.range (j + 1)).map fun dd => mulf (stepMask (shift rows j) dd) (turn (gates (rows j)) dd)))
/-- Column `j` of the block, as stored. -/
def pathRow (h : FVec F S8x512 .f32) (rows : ℕ → Vec F S1x8x512 .f32) (j : ℕ) : FVec F S1x8x512 .f32 :=
  shapeCast S1x8x512 (spread h (shift rows j) (j + 1)) shapeCasts_S8x512_S1x8x512

/-- The rows of trip `k`, the latest column first, as the pass loads them. -/
def backRows (arg1 : Memref sig .tc .vmem S256x8x512 .f32) (X : BufTy.Contents (Elt F) arg1.view.ty) (k : Fin k1_t1_loop.trips) (u : ℕ) : Vec F S1x8x512 .f32 :=
  View.readAt (Elt F) arg1.view (Rect.unit (s := S256x8x512) (k1_off1 k (BitVec.ofNat 32 (u % 8))) S1x8x512.size (k1_off1_inb k ⟨u % 8, Nat.mod_lt _ (by decide)⟩)).toLoadRect X

theorem back_R (𝒱 : Variants) (c : Dev nD) (bd : Option 𝒱.V) (i : grid1.Coords) (arg1 : Memref sig .tc .vmem S256x8x512 .f32) (harg1 : arg1.IsWhole) (arg2 : Memref sig .tc .vmem S8x512x256 .f32) (harg2 : arg2.IsWhole) (arg3 : Memref sig .tc .vmem S256x8x512 .f32) (harg3 : arg3.IsWhole) (arg4 : Memref sig .tc .vmem S8x512 .f32) (harg4 : arg4.IsWhole) (X : BufTy.Contents (Elt F) arg1.view.ty) (k : Fin k1_t1_loop.trips) (acc : Vec F S8x512 .f32) :
    (trip_k1_t1 (F := F) 𝒱 c bd i arg1 harg1 arg2 harg2 arg3 harg3 arg4 harg4 X k).1 acc = spread acc (shift (backRows arg1 X k) 8) 9 := by

  sl_kernel_rfl

/-- A list of eight, last first. -/
theorem eight_rev {α : Type} (f : Fin 8 → α) : [f 7, f 6, f 5, f 4, f 3, f 2, f 1, f 0] = (List.finRange 8).reverse.map f := rfl

/-- The piece trip `k` stores as its column `u`. -/
def backPiece (k : Fin k1_t1_loop.trips) (u : Fin 8) (w : Vec F S1x8x512 .f32) : View.Piece (Elt F) S256x8x512 .f32 :=
  ⟨Rect.unit (s := S256x8x512) (k1_off1 k (BitVec.ofNat 32 u.val)) S1x8x512.size (k1_off1_inb k u), w⟩

theorem back_list (𝒱 : Variants) (c : Dev nD) (bd : Option 𝒱.V) (i : grid1.Coords) (arg1 : Memref sig .tc .vmem S256x8x512 .f32) (harg1 : arg1.IsWhole) (arg2 : Memref sig .tc .vmem S8x512x256 .f32) (harg2 : arg2.IsWhole) (arg3 : Memref sig .tc .vmem S256x8x512 .f32) (harg3 : arg3.IsWhole) (arg4 : Memref sig .tc .vmem S8x512 .f32) (harg4 : arg4.IsWhole) (X : BufTy.Contents (Elt F) arg1.view.ty) (k : Fin k1_t1_loop.trips) (acc : Vec F S8x512 .f32) :
    (trip_k1_t1 (F := F) 𝒱 c bd i arg1 harg1 arg2 harg2 arg3 harg3 arg4 harg4 X k).2.1 acc =
      [backPiece k 7 (pathRow acc (backRows arg1 X k) 7), backPiece k 6 (pathRow acc (backRows arg1 X k) 6), backPiece k 5 (pathRow acc (backRows arg1 X k) 5),
       backPiece k 4 (pathRow acc (backRows arg1 X k) 4), backPiece k 3 (pathRow acc (backRows arg1 X k) 3), backPiece k 2 (pathRow acc (backRows arg1 X k) 2),
       backPiece k 1 (pathRow acc (backRows arg1 X k) 1), backPiece k 0 (pathRow acc (backRows arg1 X k) 0)] := by
  sl_kernel_rfl

theorem back_L (𝒱 : Variants) (c : Dev nD) (bd : Option 𝒱.V) (i : grid1.Coords) (arg1 : Memref sig .tc .vmem S256x8x512 .f32) (harg1 : arg1.IsWhole) (arg2 : Memref sig .tc .vmem S8x512x256 .f32) (harg2 : arg2.IsWhole) (arg3 : Memref sig .tc .vmem S256x8x512 .f32) (harg3 : arg3.IsWhole) (arg4 : Memref sig .tc .vmem S8x512 .f32) (harg4 : arg4.IsWhole) (X : BufTy.Contents (Elt F) arg1.view.ty) (k : Fin k1_t1_loop.trips) (acc : Vec F S8x512 .f32) :
    (trip_k1_t1 (F := F) 𝒱 c bd i arg1 harg1 arg2 harg2 arg3 harg3 arg4 harg4 X k).2.1 acc =
      (List.finRange 8).reverse.map fun u => backPiece k u (pathRow acc (backRows arg1 X k) u.val) :=
  (back_list 𝒱 c bd i arg1 harg1 arg2 harg2 arg3 harg3 arg4 harg4 X k acc).trans
    (eight_rev fun u => backPiece k u (pathRow acc (backRows arg1 X k) u.val))

end Cert.KernelIdeal.Hand
end
-- ==== Proof.KernelIdeal.BwdRun.lean ====
/- The backward region's body, run once per case of its branches: what a point leaves in the block of path columns
   and in the carried column, found by the symbolic run. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- the rectangles of this kernel have large extents
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body places the last token (the first point, which is the last block of columns). -/
abbrev isLast (i : grid1.Coords) : Prop := (Scalar.cmpi .ne (Scalar.extui (Scalar.cmpi .eq (BitVec.ofNat 32 (i 0).val) 0#32)) 0#32) = 1#1

set_option maxHeartbeats 1000000 in
/-- The first point. -/
noncomputable def bwdFirst (c : Dev nD) (i : grid1.Coords) (arg1 : Memref sig .tc .vmem S256x8x512 .f32) (harg1 : arg1.IsWhole) (arg2 : Memref sig .tc .vmem S8x512x256 .f32) (harg2 : arg2.IsWhole) (arg3 : Memref sig .tc .vmem S256x8x512 .f32) (harg3 : arg3.IsWhole) (arg4 : Memref sig .tc .vmem S8x512 .f32) (harg4 : arg4.IsWhole) (hc0 : isLast i)
    (x0 : Vec F S256x8x512 .f32) :
    Σ' (L1 : BufTy.Contents (Elt F) arg3.view.ty → List (View.Piece (Elt F) S8x512x256 .f32)), { LS : List (View.Piece (Elt F) S8x512 .f32) //
      ∀ (E : Set ℕ) (K : PUnit → sProp 𝕄) (f3 : BufTy.Contents (Elt F) arg3.view.ty),
        iprop(owns (c : Thread nD τ) arg1 fullShare x0 ∗ (∃ d, owns (c : Thread nD τ) arg2 fullShare d) ∗ (arg3.view.loc (c : Thread nD τ) ↦[arg3.view.set]{fullShare} f3) ∗ (∃ d, owns (c : Thread nD τ) arg4 fullShare d)
            ∗ (iprop(owns (c : Thread nD τ) arg1 fullShare x0 ∗ (∃ f, arg2.view.loc (c : Thread nD τ) ↦[arg2.view.set]{fullShare} arg2.view.writes (Elt F) f (L1 f3)) ∗ (∃ d, owns (c : Thread nD τ) arg3 fullShare d) ∗ (∃ f, arg4.view.loc (c : Thread nD τ) ↦[arg4.view.set]{fullShare} arg4.view.writes (Elt F) f LS)) -∗ K ⟨⟩))
          ⊢ wp frame (wpE (defs₀ (F := F)) Variants.none c none) E (cc1__bwd_kernel i arg1 harg1 arg2 harg2 arg3 harg3 arg4 harg4) K } := by
  refine ⟨?_, ?_, fun E K f3 => ?run⟩
  case run =>
    simp only [cc1__bwd_kernel_eq_skeleton]; unfold cc1__bwd_kernel_skel
    simp only [k1_part12_eq_skeleton, k1_part13_eq_skeleton]
    unfold owns
    iintro ⟨⟨%f0, %hf0, H0⟩, ⟨%d1, %f1, -, H1⟩, HS0, ⟨%ds1, %fs1, -, HS1⟩, Hk⟩
    obtain rfl := harg1.eq_unread hf0
    sl_exec (disch := first | sl_exact hc0)
    sl_step
    iapply Hk
    isplitl [H0]
    · iexists _; isplitr; · ipureintro; exact harg1.read_unread _
      iexact H0
    isplitl [H1]; · iexists _; iexact H1
    isplitl [HS0]
    · iexists _, _; isplitr; swap; · iexact HS0
      ipureintro; rfl
    iexists _; iexact HS1

set_option maxHeartbeats 1000000 in
/-- A later point. -/
noncomputable def bwdNext (c : Dev nD) (i : grid1.Coords) (arg1 : Memref sig .tc .vmem S256x8x512 .f32) (harg1 : arg1.IsWhole) (arg2 : Memref sig .tc .vmem S8x512x256 .f32) (harg2 : arg2.IsWhole) (arg3 : Memref sig .tc .vmem S256x8x512 .f32) (harg3 : arg3.IsWhole) (arg4 : Memref sig .tc .vmem S8x512 .f32) (harg4 : arg4.IsWhole) (hc0 : ¬isLast i)
    (x0 : Vec F S256x8x512 .f32) (xs : Vec F S8x512 .f32) :
    Σ' (L1 : BufTy.Contents (Elt F) arg3.view.ty → List (View.Piece (Elt F) S8x512x256 .f32)), { LS : List (View.Piece (Elt F) S8x512 .f32) //
      ∀ (E : Set ℕ) (K : PUnit → sProp 𝕄) (f3 : BufTy.Contents (Elt F) arg3.view.ty),
        iprop(owns (c : Thread nD τ) arg1 fullShare x0 ∗ (∃ d, owns (c : Thread nD τ) arg2 fullShare d) ∗ (arg3.view.loc (c : Thread nD τ) ↦[arg3.view.set]{fullShare} f3) ∗ owns (c : Thread nD τ) arg4 fullShare xs
            ∗ (iprop(owns (c : Thread nD τ) arg1 fullShare x0 ∗ (∃ f, arg2.view.loc (c : Thread nD τ) ↦[arg2.view.set]{fullShare} arg2.view.writes (Elt F) f (L1 f3)) ∗ (∃ d, owns (c : Thread nD τ) arg3 fullShare d) ∗ (∃ f, arg4.view.loc (c : Thread nD τ) ↦[arg4.view.set]{fullShare} arg4.view.writes (Elt F) f LS)) -∗ K ⟨⟩))
          ⊢ wp frame (wpE (defs₀ (F := F)) Variants.none c none) E (cc1__bwd_kernel i arg1 harg1 arg2 harg2 arg3 harg3 arg4 harg4) K } := by
  refine ⟨?_, ?_, fun E K f3 => ?run⟩
  case run =>
    simp only [cc1__bwd_kernel_eq_skeleton]; unfold cc1__bwd_kernel_skel
    simp only [k1_part12_eq_skeleton, k1_part13_eq_skeleton]
    unfold owns
    iintro ⟨⟨%f0, %hf0, H0⟩, ⟨%d1, %f1, -, H1⟩, HS0, ⟨%fs1, %hfs1, HS1⟩, Hk⟩
    obtain rfl := harg1.eq_unread hf0; obtain rfl := harg4.eq_unread hfs1
    sl_exec (disch := first | sl_exact hc0)
    sl_step
    iapply Hk
    isplitl [H0]
    · iexists _; isplitr; · ipureintro; exact harg1.read_unread _
      iexact H0
    isplitl [H1]; · iexists _; iexact H1
    isplitl [HS0]
    · iexists _, _; isplitr; swap; · iexact HS0
      ipureintro; rfl
    iexists _; iexact HS1

end Cert.KernelIdeal.Hand

end
-- ==== Proof.KernelIdeal.Block.lean ====
/- What a point's body leaves, as plain functions of its block and of the column carried in: the columns after the
   trips, the block of decision bits, the block of path columns. -/
module

public import proofs.«01_k».proof.Proof.KernelIdeal.FwdTrip
public import proofs.«01_k».proof.Proof.KernelIdeal.BwdTrip
public import proofs.«01_k».proof.Proof.KernelIdeal.BwdRun
public import Idealize.ShloMosaic.Lib.ValueLayout
public import Idealize.ShloMosaic.Lib.Pipeline.Value
public import Idealize.ShloMosaic.Lib.VecWindow

@[expose] public section

-- the rectangles of this kernel have large extents
set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The plain functions -/

/-- The fill value of the recurrence. -/
abbrev fill : F .f32 := Scalar.ofBits .f32 0xCB189680#32
/-- A point's block of log-probabilities, its columns first. -/
def columns (x0 : Vec F S8x512x256 .f32) : Vec F S256x8x512 .f32 :=
  fun y => x0 (ix3 (n0 := 8) (n1 := 512) (n2 := 256) (y 1) (y 2) (y 0))
/-- Column `n` of a block of columns, with a leading axis of one. -/
def rowOf (xt : Vec F S256x8x512 .f32) (n : ℕ) : Vec F S1x8x512 .f32 :=
  fun y => xt (ix3 (n0 := 256) (n1 := 8) (n2 := 512) (Fin.ofNat 256 n) (y 1) (y 2))
/-- The eight columns of trip `k`. -/
def rowsOf (xt : Vec F S256x8x512 .f32) (k u : ℕ) : Vec F S1x8x512 .f32 := rowOf xt (8 * k + u % 8)
/-- The eight columns of trip `k`, from the last column of the block backwards. -/
def rowsBack (xt : Vec F S256x8x512 .f32) (k u : ℕ) : Vec F S1x8x512 .f32 := rowOf xt (255 - (8 * k + u % 8))

/-- The carried column before trip `k` of the plain pass. -/
def plainCol (xt : Vec F S256x8x512 .f32) (a : FVec F S8x512 .f32) : ℕ → FVec F S8x512 .f32
  | 0 => a
  | k + 1 => plainLv fill (plainCol xt a k) (rowsOf xt k) 8 0
/-- The plain pass's block of decision bits. -/
def plainBits (xt : Vec F S256x8x512 .f32) (a : FVec F S8x512 .f32) : Vec F S256x8x512 .f32 :=
  fun y => plainBit fill (plainCol xt a ((y 0).val / 8)) (rowsOf xt ((y 0).val / 8)) ((y 0).val % 8) (ix3 (n0 := 1) (n1 := 8) (n2 := 512) 0 (y 1) (y 2))
/-- The carried column before trip `k` of the pass that minds the diagonal. -/
def diagCol (c : BitVec 32) (xt : Vec F S256x8x512 .f32) (a : FVec F S8x512 .f32) : ℕ → FVec F S8x512 .f32
  | 0 => a
  | k + 1 => diagLv c (tripBase k) (firstTrip c k) fill (diagCol c xt a k) (rowsOf xt k) 8 0
/-- The block of decision bits of the pass that minds the diagonal. -/
def diagBits (c : BitVec 32) (xt : Vec F S256x8x512 .f32) (a : FVec F S8x512 .f32) : Vec F S256x8x512 .f32 :=
  fun y => diagBit c (tripBase ((y 0).val / 8)) (firstTrip c ((y 0).val / 8)) fill (diagCol c xt a ((y 0).val / 8)) (rowsOf xt ((y 0).val / 8)) ((y 0).val % 8)
    (ix3 (n0 := 1) (n1 := 8) (n2 := 512) 0 (y 1) (y 2))
/-- The one-hot block before trip `k` of the backward pass. -/
def headCol (bits : Vec F S256x8x512 .f32) (h : FVec F S8x512 .f32) : ℕ → FVec F S8x512 .f32
  | 0 => h
  | k + 1 => spread (headCol bits h k) (shift (rowsBack bits k) 8) 9
/-- The backward pass's block of path columns, columns first. -/
def pathCols (bits : Vec F S256x8x512 .f32) (h : FVec F S8x512 .f32) : Vec F S256x8x512 .f32 :=
  fun y => pathRow (headCol bits h ((255 - (y 0).val) / 8)) (rowsBack bits ((255 - (y 0).val) / 8)) ((255 - (y 0).val) % 8)
    (ix3 (n0 := 1) (n1 := 8) (n2 := 512) 0 (y 1) (y 2))

/-! ## Reading one column of the block -/

theorem emb_row {off : Fin 3 → ℕ} {n : ℕ} (hn : n < 256) (ho : off = ![n, 0, 0]) (inb : ∀ a, off a + S1x8x512.size a ≤ S256x8x512.size a) (x : S1x8x512.Idx) :
    (Rect.unit (s := S256x8x512) off S1x8x512.size inb).emb x = ix3 (n0 := 256) (n1 := 8) (n2 := 512) (Fin.ofNat 256 n) (x 1) (x 2) := by
  subst ho
  funext a
  refine Fin.ext ?_
  show _ + 1 * (x a).val = _
  rw [Nat.one_mul]
  match a with
  | ⟨0, _⟩ =>
    have h0 : (x 0).val < 1 := (x 0).isLt
    show n + (x 0).val = n % 256
    rw [Nat.mod_eq_of_lt hn]; omega
  | ⟨1, _⟩ => exact Nat.zero_add _
  | ⟨2, _⟩ => exact Nat.zero_add _

theorem readAt_row {arg : Memref sig .tc .vmem S256x8x512 .f32} {off : Fin 3 → ℕ} {n : ℕ} (hn : n < 256) (ho : off = ![n, 0, 0])
    (inb : ∀ a, off a + S1x8x512.size a ≤ S256x8x512.size a) (X : BufTy.Contents (Elt F) arg.view.ty) (xt : Vec F S256x8x512 .f32) (hX : arg.view.read (Elt F) X = xt) :
    View.readAt (Elt F) arg.view (Rect.unit (s := S256x8x512) off S1x8x512.size inb).toLoadRect X = rowOf xt n := by
  funext x
  rw [View.readAt_apply, hX]
  exact congrArg xt (emb_row hn ho inb x)

theorem mem_row {off : Fin 3 → ℕ} {n : ℕ} (hn : n < 256) (ho : off = ![n, 0, 0]) (inb : ∀ a, off a + S1x8x512.size a ≤ S256x8x512.size a) (y : S256x8x512.Idx) (hy : (y 0).val = n) :
    y ∈ (Rect.unit (s := S256x8x512) off S1x8x512.size inb).set := by
  rw [Rect.mem_set_unit]
  subst ho
  intro a
  match a with
  | ⟨0, _⟩ =>
    show n ≤ (y 0).val ∧ (y 0).val < n + 1
    omega
  | ⟨1, _⟩ => exact ⟨Nat.zero_le _, by simpa using (y 1).isLt⟩
  | ⟨2, _⟩ => exact ⟨Nat.zero_le _, by simpa using (y 2).isLt⟩

/-- The pieces stored so far agree with a block `G` and cover its columns `P`. -/
structure Filled (L : List (View.Piece (Elt F) S256x8x512 .f32)) (G : Vec F S256x8x512 .f32) (P : ℕ → Prop) : Prop where
  agree : ∀ p ∈ L, ∀ x : p.1.shape.Idx, p.2 x = G (p.1.emb x)
  cover : ∀ y : S256x8x512.Idx, P (y 0).val → ∃ p ∈ L, y ∈ p.1.set

theorem Filled.nil (G : Vec F S256x8x512 .f32) (P : ℕ → Prop) (hP : ∀ n, ¬P n) : Filled (F := F) [] G P :=
  ⟨fun p hp => absurd hp List.not_mem_nil, fun y hy => absurd hy (hP _)⟩

/-- A trip's eight columns on top. -/
theorem Filled.trip {L : List (View.Piece (Elt F) S256x8x512 .f32)} {G : Vec F S256x8x512 .f32} {P : ℕ → Prop} (h : Filled L G P)
    (off : Fin 8 → Fin 3 → ℕ) (inb : ∀ u, ∀ a, off u a + S1x8x512.size a ≤ S256x8x512.size a) (w : Fin 8 → Vec F S1x8x512 .f32) (n : Fin 8 → ℕ) (hn : ∀ u, n u < 256)
    (ho : ∀ u, off u = ![n u, 0, 0]) (hw : ∀ (u : Fin 8) (b : Fin 8) (l : Fin 512), w u (ix3 (n0 := 1) (n1 := 8) (n2 := 512) 0 b l) = G (ix3 (n0 := 256) (n1 := 8) (n2 := 512) (Fin.ofNat 256 (n u)) b l)) (Q : ℕ → Prop)
    (hQ : ∀ m, Q m → P m ∨ ∃ u, m = n u) :
    Filled ((List.finRange 8).reverse.map (fun u => (⟨Rect.unit (s := S256x8x512) (off u) S1x8x512.size (inb u), w u⟩ : View.Piece (Elt F) S256x8x512 .f32)) ++ L) G Q := by
  refine ⟨fun p hp x => ?_, fun y hy => ?_⟩
  · rcases List.mem_append.mp hp with hp | hp
    · obtain ⟨u, -, rfl⟩ := List.mem_map.mp hp
      have e := emb_row (hn u) (ho u) (inb u) x
      refine Eq.trans ?_ ((hw u (x 1) (x 2)).trans (congrArg G e).symm)
      refine congrArg (w u) ((eq_ix3 (n0 := 1) (n1 := 8) (n2 := 512) x).trans (congrArg (fun z => ix3 (n0 := 1) (n1 := 8) (n2 := 512) z (x 1) (x 2)) ?_))
      exact Subsingleton.elim (α := Fin 1) _ _
    · exact h.agree p hp x
  · rcases hQ _ hy with hP | ⟨u, hu⟩
    · obtain ⟨p, hp, hm⟩ := h.cover y hP
      exact ⟨p, List.mem_append_right _ hp, hm⟩
    · exact ⟨_, List.mem_append_left _ (List.mem_map.mpr ⟨u, List.mem_reverse.mpr (List.mem_finRange u), rfl⟩), mem_row (hn u) (ho u) (inb u) y hu⟩

/-- All columns stored: what is read back is the block. -/
theorem Filled.read {L : List (View.Piece (Elt F) S256x8x512 .f32)} {G : Vec F S256x8x512 .f32} {P : ℕ → Prop} (h : Filled L G P) (hP : ∀ n, n < 256 → P n)
    {sp : Space} (v : View sig .tc sp S256x8x512 .f32) (f : BufTy.Contents (Elt F) v.ty) : v.read (Elt F) (v.writes (Elt F) f L) = G :=
  funext fun y => View.read_writes_apply_of_pieces v f G L h.agree y (h.cover y (hP _ (y 0).isLt))

/-! ## The loops' states -/

section Loops

variable (𝒱 : Variants) (c : Dev nD) (bd : Option 𝒱.V)

theorem plain_state (i : grid0.Coords) (arg1 : Memref sig .tc .vmem S8x512x256 .f32) (harg1 : arg1.IsWhole) (arg2 : Memref sig .tc .vmem S256x8x512 .f32) (harg2 : arg2.IsWhole) (arg3 : Memref sig .tc .vmem S256x8x512 .f32) (harg3 : arg3.IsWhole) (arg4 : Memref sig .tc .vmem S8x512 .f32) (harg4 : arg4.IsWhole)
    (h3 : k0_cond3 i = 1#1) (X : BufTy.Contents (Elt F) arg3.view.ty) (xt : Vec F S256x8x512 .f32) (hX : arg3.view.read (Elt F) X = xt) (a : Vec F S8x512 .f32) (k : ℕ) (hk : k ≤ 32) :
    (st_k0_t2 𝒱 c bd i arg1 harg1 arg2 harg2 arg3 harg3 arg4 harg4 lanes fill h3 X a k).1 = plainCol xt a k
      ∧ Filled (st_k0_t2 𝒱 c bd i arg1 harg1 arg2 harg2 arg3 harg3 arg4 harg4 lanes fill h3 X a k).2 (plainBits xt a) (· < 8 * k) := by
  induction k with
  | zero => exact ⟨rfl, Filled.nil _ _ (by intro n; simp)⟩
  | succ k ih =>
    obtain ⟨h1, h2⟩ := ih (by omega)
    have ht : k < k0_t2_loop.trips := lt_of_lt_of_eq (show k < 32 by omega) (by decide +kernel)
    have hr : plainRows i h3 arg3 X ⟨k, ht⟩ = rowsOf xt k := funext fun u =>
      readAt_row (n := 8 * k + u % 8) (by omega) (k0_off2_eq ⟨k, ht⟩ ⟨u % 8, Nat.mod_lt _ (by decide)⟩) _ X xt hX
    have hs := st_k0_t2_succ 𝒱 c bd i arg1 harg1 arg2 harg2 arg3 harg3 arg4 harg4 lanes fill h3 X a ⟨k, ht⟩
    rw [h1] at hs
    have e1 := plain_R 𝒱 c bd i arg1 harg1 arg2 harg2 arg3 harg3 arg4 harg4 fill h3 X ⟨k, ht⟩ (plainCol xt a k)
    have e2 := plain_L 𝒱 c bd i arg1 harg1 arg2 harg2 arg3 harg3 arg4 harg4 fill h3 X ⟨k, ht⟩ (plainCol xt a k)
    rw [hr] at e1 e2
    refine ⟨(congrArg Prod.fst hs).trans e1, ?_⟩
    rw [(congrArg Prod.snd hs).trans (congrArg (· ++ _) e2)]
    refine h2.trip _ _ _ (fun u => 8 * k + u.val) (fun u => by omega) (fun u => k0_off2_eq ⟨k, ht⟩ u) (fun u b l => ?_) _ (fun m hm => ?_)
    · show _ = plainBit fill (plainCol xt a ((8 * k + u.val) % 256 / 8)) (rowsOf xt ((8 * k + u.val) % 256 / 8)) ((8 * k + u.val) % 256 % 8) _
      rw [show (8 * k + u.val) % 256 / 8 = k by omega, show (8 * k + u.val) % 256 % 8 = u.val by omega]
    · by_cases h : m < 8 * k
      · exact .inl h
      · exact .inr ⟨⟨m - 8 * k, by omega⟩, by show m = 8 * k + (m - 8 * k); omega⟩

theorem diag_state (i : grid0.Coords) (arg1 : Memref sig .tc .vmem S8x512x256 .f32) (harg1 : arg1.IsWhole) (arg2 : Memref sig .tc .vmem S256x8x512 .f32) (harg2 : arg2.IsWhole) (arg3 : Memref sig .tc .vmem S256x8x512 .f32) (harg3 : arg3.IsWhole) (arg4 : Memref sig .tc .vmem S8x512 .f32) (harg4 : arg4.IsWhole)
    (c0 : BitVec 32) (h2 : k0_cond2 i = 1#1) (X : BufTy.Contents (Elt F) arg3.view.ty) (xt : Vec F S256x8x512 .f32) (hX : arg3.view.read (Elt F) X = xt) (a : Vec F S8x512 .f32) (k : ℕ) (hk : k ≤ 32) :
    (st_k0_t1 𝒱 c bd i arg1 harg1 arg2 harg2 arg3 harg3 arg4 harg4 c0 lanes fill h2 X a k).1 = diagCol c0 xt a k
      ∧ Filled (st_k0_t1 𝒱 c bd i arg1 harg1 arg2 harg2 arg3 harg3 arg4 harg4 c0 lanes fill h2 X a k).2 (diagBits c0 xt a) (· < 8 * k) := by
  induction k with
  | zero => exact ⟨rfl, Filled.nil _ _ (by intro n; simp)⟩
  | succ k ih =>
    obtain ⟨h1, hf⟩ := ih (by omega)
    have ht : k < k0_t1_loop.trips := lt_of_lt_of_eq (show k < 32 by omega) (by decide +kernel)
    have hr : diagRows i h2 arg3 X ⟨k, ht⟩ = rowsOf xt k := funext fun u =>
      readAt_row (n := 8 * k + u % 8) (by omega) (k0_off1_eq ⟨k, ht⟩ ⟨u % 8, Nat.mod_lt _ (by decide)⟩) _ X xt hX
    have hs := st_k0_t1_succ 𝒱 c bd i arg1 harg1 arg2 harg2 arg3 harg3 arg4 harg4 c0 lanes fill h2 X a ⟨k, ht⟩
    rw [h1] at hs
    have e1 := diag_R 𝒱 c bd i arg1 harg1 arg2 harg2 arg3 harg3 arg4 harg4 c0 h2 X ⟨k, ht⟩ (diagCol c0 xt a k)
    have e2 := diag_L 𝒱 c bd i arg1 harg1 arg2 harg2 arg3 harg3 arg4 harg4 c0 h2 X ⟨k, ht⟩ (diagCol c0 xt a k)
    rw [hr] at e1 e2
    refine ⟨(congrArg Prod.fst hs).trans e1, ?_⟩
    rw [(congrArg Prod.snd hs).trans (congrArg (· ++ _) e2)]
    refine hf.trip _ _ _ (fun u => 8 * k + u.val) (fun u => by omega) (fun u => k0_off1_eq ⟨k, ht⟩ u) (fun u b l => ?_) _ (fun m hm => ?_)
    · show _ = diagBit c0 (tripBase ((8 * k + u.val) % 256 / 8)) (firstTrip c0 ((8 * k + u.val) % 256 / 8)) fill (diagCol c0 xt a ((8 * k + u.val) % 256 / 8)) (rowsOf xt ((8 * k + u.val) % 256 / 8)) ((8 * k + u.val) % 256 % 8) _
      rw [show (8 * k + u.val) % 256 / 8 = k by omega, show (8 * k + u.val) % 256 % 8 = u.val by omega]
    · by_cases h : m < 8 * k
      · exact .inl h
      · exact .inr ⟨⟨m - 8 * k, by omega⟩, by show m = 8 * k + (m - 8 * k); omega⟩

theorem back_state (i : grid1.Coords) (arg1 : Memref sig .tc .vmem S256x8x512 .f32) (harg1 : arg1.IsWhole) (arg2 : Memref sig .tc .vmem S8x512x256 .f32) (harg2 : arg2.IsWhole) (arg3 : Memref sig .tc .vmem S256x8x512 .f32) (harg3 : arg3.IsWhole) (arg4 : Memref sig .tc .vmem S8x512 .f32) (harg4 : arg4.IsWhole)
    (X : BufTy.Contents (Elt F) arg1.view.ty) (bits : Vec F S256x8x512 .f32) (hX : arg1.view.read (Elt F) X = bits) (a : Vec F S8x512 .f32) (k : ℕ) (hk : k ≤ 32) :
    (st_k1_t1 𝒱 c bd i arg1 harg1 arg2 harg2 arg3 harg3 arg4 harg4 X a k).1 = headCol bits a k
      ∧ Filled (st_k1_t1 𝒱 c bd i arg1 harg1 arg2 harg2 arg3 harg3 arg4 harg4 X a k).2 (pathCols bits a) (fun n => 255 < 8 * k + n ∧ n < 256) := by
  induction k with
  | zero => exact ⟨rfl, Filled.nil _ _ (by intro n hn; omega)⟩
  | succ k ih =>
    obtain ⟨h1, hf⟩ := ih (by omega)
    have ht : k < k1_t1_loop.trips := lt_of_lt_of_eq (show k < 32 by omega) (by decide +kernel)
    have hr : backRows arg1 X ⟨k, ht⟩ = rowsBack bits k := funext fun u =>
      readAt_row (n := 255 - (8 * k + u % 8)) (by omega) (k1_off1_eq ⟨k, ht⟩ ⟨u % 8, Nat.mod_lt _ (by decide)⟩) _ X bits hX
    have hs := st_k1_t1_succ 𝒱 c bd i arg1 harg1 arg2 harg2 arg3 harg3 arg4 harg4 X a ⟨k, ht⟩
    rw [h1] at hs
    have e1 := back_R 𝒱 c bd i arg1 harg1 arg2 harg2 arg3 harg3 arg4 harg4 X ⟨k, ht⟩ (headCol bits a k)
    have e2 := back_L 𝒱 c bd i arg1 harg1 arg2 harg2 arg3 harg3 arg4 harg4 X ⟨k, ht⟩ (headCol bits a k)
    rw [hr] at e1 e2
    refine ⟨(congrArg Prod.fst hs).trans e1, ?_⟩
    rw [(congrArg Prod.snd hs).trans (congrArg (· ++ _) e2)]
    refine hf.trip _ _ _ (fun u => 255 - (8 * k + u.val)) (fun u => by omega) (fun u => k1_off1_eq ⟨k, ht⟩ u) (fun u b l => ?_) _ (fun m hm => ?_)
    · show _ = pathRow (headCol bits a ((255 - (255 - (8 * k + u.val)) % 256) / 8)) (rowsBack bits ((255 - (255 - (8 * k + u.val)) % 256) / 8)) ((255 - (255 - (8 * k + u.val)) % 256) % 8) _
      rw [show (255 - (255 - (8 * k + u.val)) % 256) / 8 = k by omega, show (255 - (255 - (8 * k + u.val)) % 256) % 8 = u.val by omega]
    · by_cases h : 255 < 8 * k + m
      · exact .inl ⟨h, hm.2⟩
      · exact .inr ⟨⟨255 - m - 8 * k, by omega⟩, by show m = 255 - (8 * k + (255 - m - 8 * k)); omega⟩

end Loops

/-! ## Batch row by batch row, between a block and its columns -/

/-- A batch row's block, turned so that its columns come first. -/
def toColumns (v : Vec F S1x512x256 .f32) : FVec F S256x1x512 .f32 :=
  shapeCast S256x1x512 (transpose S256x512 [1, 0] (shapeCast S512x256 v shapeCasts_S1x512x256_S512x256) transposes_S512x256_p1_0_S256x512) shapeCasts_S256x512_S256x1x512
/-- A batch row's columns, turned back into a block. -/
def toPath (v : Vec F S256x1x512 .f32) : FVec F S1x512x256 .f32 :=
  shapeCast S1x512x256 (transpose S512x256 [1, 0] (shapeCast S256x512 v shapeCasts_S256x1x512_S256x512) transposes_S256x512_p1_0_S512x256) shapeCasts_S512x256_S1x512x256

theorem toColumns_apply (v : Vec F S1x512x256 .f32) (n : Fin 256) (z : Fin 1) (l : Fin 512) :
    toColumns v (ix3 (n0 := 256) (n1 := 1) (n2 := 512) n z l) = v (ix3 (n0 := 1) (n1 := 512) (n2 := 256) 0 l n) := by
  unfold toColumns
  refine (shapeCast_apply _ _ (ix3 (n0 := 256) (n1 := 1) (n2 := 512) n z l) (ix2 (n0 := 256) (n1 := 512) n l) ?_).trans ?_
  · rw [Shape.rowMajor_val_three, Shape.rowMajor_val_two]
    have hz : z.val = 0 := by omega
    show n.val * 512 + l.val = (n.val * 1 + z.val) * 512 + l.val
    rw [hz]; omega
  · exact (transpose_ix2_apply _ transposes_S512x256_p1_0_S256x512 n l).trans (shapeCast_1ab_ab_apply v shapeCasts_S1x512x256_S512x256 l n)

theorem toPath_apply (v : Vec F S256x1x512 .f32) (z : Fin 1) (l : Fin 512) (n : Fin 256) :
    toPath v (ix3 (n0 := 1) (n1 := 512) (n2 := 256) z l n) = v (ix3 (n0 := 256) (n1 := 1) (n2 := 512) n 0 l) := by
  unfold toPath
  refine (shapeCast_ab_1ab_apply _ shapeCasts_S512x256_S1x512x256 z l n).trans ((transpose_ix2_apply _ transposes_S256x512_p1_0_S512x256 l n).trans ?_)
  refine shapeCast_apply _ _ (ix2 (n0 := 256) (n1 := 512) n l) (ix3 (n0 := 256) (n1 := 1) (n2 := 512) n 0 l) ?_
  rw [Shape.rowMajor_val_three, Shape.rowMajor_val_two]
  show (n.val * 1 + 0) * 512 + l.val = n.val * 512 + l.val
  omega

theorem inb_cols (b : Fin 8) : ∀ a, (![0, b.val, 0] : Fin 3 → ℕ) a + S256x1x512.size a ≤ S256x8x512.size a := by
  revert b; decide +kernel
theorem inb_batch (b : Fin 8) : ∀ a, (![b.val, 0, 0] : Fin 3 → ℕ) a + S1x512x256.size a ≤ S8x512x256.size a := by
  revert b; decide +kernel

theorem emb_cols (b : Fin 8) (x : S256x1x512.Idx) :
    (Rect.unit (s := S256x8x512) ![0, b.val, 0] S256x1x512.size (inb_cols b)).emb x = ix3 (n0 := 256) (n1 := 8) (n2 := 512) (x 0) b (x 2) := by
  funext a
  refine Fin.ext ?_
  show _ + 1 * (x a).val = _
  rw [Nat.one_mul]
  match a with
  | ⟨0, _⟩ => exact Nat.zero_add _
  | ⟨1, _⟩ =>
    have h0 : (x 1).val < 1 := (x 1).isLt
    show b.val + (x 1).val = b.val
    omega
  | ⟨2, _⟩ => exact Nat.zero_add _

theorem emb_batch (b : Fin 8) (x : S1x512x256.Idx) :
    (Rect.unit (s := S8x512x256) ![b.val, 0, 0] S1x512x256.size (inb_batch b)).emb x = ix3 (n0 := 8) (n1 := 512) (n2 := 256) b (x 1) (x 2) := by
  funext a
  refine Fin.ext ?_
  show _ + 1 * (x a).val = _
  rw [Nat.one_mul]
  match a with
  | ⟨0, _⟩ =>
    have h0 : (x 0).val < 1 := (x 0).isLt
    show b.val + (x 0).val = b.val
    omega
  | ⟨1, _⟩ => exact Nat.zero_add _
  | ⟨2, _⟩ => exact Nat.zero_add _

/-- The block of a point, batch row by batch row, into the columns' scratch. -/
def colPieces (arg1 : Memref sig .tc .vmem S8x512x256 .f32) (harg1 : arg1.IsWhole) (x0 : Vec F S8x512x256 .f32) : List (View.Piece (Elt F) S256x8x512 .f32) :=
  (List.finRange 8).reverse.map fun b => ⟨Rect.unit (s := S256x8x512) ![0, b.val, 0] S256x1x512.size (inb_cols b),
    toColumns (View.readAt (Elt F) arg1.view (Rect.unit (s := S8x512x256) ![b.val, 0, 0] S1x512x256.size (inb_batch b)).toLoadRect (harg1.unread x0))⟩

theorem colPieces_read (arg1 : Memref sig .tc .vmem S8x512x256 .f32) (harg1 : arg1.IsWhole) (x0 : Vec F S8x512x256 .f32) {sp : Space} (v : View sig .tc sp S256x8x512 .f32) (f : BufTy.Contents (Elt F) v.ty) :
    v.read (Elt F) (v.writes (Elt F) f (colPieces arg1 harg1 x0)) = columns x0 := by
  funext y
  refine View.read_writes_apply_of_pieces v f (columns x0) _ (fun p hp x => ?_) y ?_
  · obtain ⟨b, -, rfl⟩ := List.mem_map.mp hp
    refine Eq.trans ?_ (congrArg (columns x0) (emb_cols b x)).symm
    have ex : x = ix3 (n0 := 256) (n1 := 1) (n2 := 512) (x 0) (x 1) (x 2) := eq_ix3 (n0 := 256) (n1 := 1) (n2 := 512) x
    refine Eq.trans (congrArg (toColumns (View.readAt (Elt F) arg1.view (Rect.unit (s := S8x512x256) ![b.val, 0, 0] S1x512x256.size (inb_batch b)).toLoadRect (harg1.unread x0))) ex) ?_
    refine (toColumns_apply (F := F) _ (x 0) (x 1) (x 2)).trans ?_
    rw [View.readAt_apply, harg1.read_unread]
    exact congrArg x0 (emb_batch b _)
  · refine ⟨_, List.mem_map.mpr ⟨y 1, List.mem_reverse.mpr (List.mem_finRange (y 1)), rfl⟩, ?_⟩
    rw [Rect.mem_set_unit]
    intro a
    match a with
    | ⟨0, _⟩ => exact ⟨Nat.zero_le _, by simpa using (y 0).isLt⟩
    | ⟨1, _⟩ => exact ⟨le_refl _, Nat.lt_succ_self _⟩
    | ⟨2, _⟩ => exact ⟨Nat.zero_le _, by simpa using (y 2).isLt⟩

/-- The columns' scratch, batch row by batch row, into the block of the path. -/
def pathPieces (arg3 : Memref sig .tc .vmem S256x8x512 .f32) (X : BufTy.Contents (Elt F) arg3.view.ty) : List (View.Piece (Elt F) S8x512x256 .f32) :=
  (List.finRange 8).reverse.map fun b => ⟨Rect.unit (s := S8x512x256) ![b.val, 0, 0] S1x512x256.size (inb_batch b),
    toPath (View.readAt (Elt F) arg3.view (Rect.unit (s := S256x8x512) ![0, b.val, 0] S256x1x512.size (inb_cols b)).toLoadRect X)⟩

theorem pathPieces_read (arg3 : Memref sig .tc .vmem S256x8x512 .f32) (X : BufTy.Contents (Elt F) arg3.view.ty) (P : Vec F S256x8x512 .f32) (hX : arg3.view.read (Elt F) X = P)
    {sp : Space} (v : View sig .tc sp S8x512x256 .f32) (f : BufTy.Contents (Elt F) v.ty) :
    v.read (Elt F) (v.writes (Elt F) f (pathPieces arg3 X)) = fun y => P (ix3 (n0 := 256) (n1 := 8) (n2 := 512) (y 2) (y 0) (y 1)) := by
  funext y
  refine View.read_writes_apply_of_pieces v f (fun y => P (ix3 (n0 := 256) (n1 := 8) (n2 := 512) (y 2) (y 0) (y 1))) _ (fun p hp x => ?_) y ?_
  · obtain ⟨b, -, rfl⟩ := List.mem_map.mp hp
    refine Eq.trans ?_ (congrArg (fun y : S8x512x256.Idx => P (ix3 (n0 := 256) (n1 := 8) (n2 := 512) (y 2) (y 0) (y 1))) (emb_batch b x)).symm
    have ex : x = ix3 (n0 := 1) (n1 := 512) (n2 := 256) (x 0) (x 1) (x 2) := eq_ix3 (n0 := 1) (n1 := 512) (n2 := 256) x
    refine Eq.trans (congrArg (toPath (View.readAt (Elt F) arg3.view (Rect.unit (s := S256x8x512) ![0, b.val, 0] S256x1x512.size (inb_cols b)).toLoadRect X)) ex) ?_
    refine (toPath_apply (F := F) _ (x 0) (x 1) (x 2)).trans ?_
    rw [View.readAt_apply, hX]
    exact congrArg P (emb_cols b _)
  · refine ⟨_, List.mem_map.mpr ⟨y 0, List.mem_reverse.mpr (List.mem_finRange (y 0)), rfl⟩, ?_⟩
    rw [Rect.mem_set_unit]
    intro a
    match a with
    | ⟨0, _⟩ => exact ⟨le_refl _, Nat.lt_succ_self _⟩
    | ⟨1, _⟩ => exact ⟨Nat.zero_le _, by simpa using (y 1).isLt⟩
    | ⟨2, _⟩ => exact ⟨Nat.zero_le _, by simpa using (y 2).isLt⟩

/-! ## What the five runs leave -/

theorem whole_read {arg4 : Memref sig .tc .vmem S8x512 .f32} (w : Vec F S8x512 .f32) (L : List (View.Piece (Elt F) S8x512 .f32)) (f : BufTy.Contents (Elt F) arg4.view.ty)
    (inb : ∀ a, (![0, 0] : Fin 2 → ℕ) a + S8x512.size a ≤ S8x512.size a) :
    arg4.view.read (Elt F) (arg4.view.writes (Elt F) f (⟨Rect.unit (s := S8x512) ![0, 0] S8x512.size inb, w⟩ :: L)) = w := by
  funext y
  have h0 : (![0, 0] : Fin 2 → ℕ) = fun _ => 0 := by funext a; fin_cases a <;> rfl
  have e : (Rect.unit (s := S8x512) ![0, 0] S8x512.size inb).emb y = y := by
    funext a
    refine Fin.ext ?_
    show _ + 1 * (y a).val = _
    show (![0, 0] : Fin 2 → ℕ) a + _ = _
    rw [show (![0, 0] : Fin 2 → ℕ) a = 0 from congrFun h0 a, Nat.one_mul, Nat.zero_add]
  have := View.read_writes_cons_emb arg4.view f (Rect.unit (s := S8x512) ![0, 0] S8x512.size inb) w L y
  rwa [e] at this

theorem whole_load {arg4 : Memref sig .tc .vmem S8x512 .f32} (harg4 : arg4.IsWhole) (xs : Vec F S8x512 .f32) (inb : ∀ a, (![0, 0] : Fin 2 → ℕ) a + S8x512.size a ≤ S8x512.size a) :
    View.readAt (Elt F) arg4.view (Rect.unit (s := S8x512) ![0, 0] S8x512.size inb).toLoadRect (harg4.unread xs) = xs := by
  funext y
  rw [View.readAt_apply, harg4.read_unread]
  have h0 : (![0, 0] : Fin 2 → ℕ) = fun _ => 0 := by funext a; fin_cases a <;> rfl
  refine congrArg xs (funext fun a => Fin.ext ?_)
  show _ + 1 * (y a).val = _
  show (![0, 0] : Fin 2 → ℕ) a + _ = _
  rw [show (![0, 0] : Fin 2 → ℕ) a = 0 from congrFun h0 a, Nat.one_mul, Nat.zero_add]

theorem trips_eq : Scf.trips 0#32 (Scalar.addi 0#32 32#32) 1#32 = 32 := by decide +kernel

theorem zeros2 : (![0, 0] : Fin 2 → ℕ) = fun _ => 0 := by funext a; fin_cases a <;> rfl

theorem fwdPlain_out (c : Dev nD) (i : grid0.Coords) (arg1 : Memref sig .tc .vmem S8x512x256 .f32) (harg1 : arg1.IsWhole) (arg2 : Memref sig .tc .vmem S256x8x512 .f32) (harg2 : arg2.IsWhole) (arg3 : Memref sig .tc .vmem S256x8x512 .f32) (harg3 : arg3.IsWhole) (arg4 : Memref sig .tc .vmem S8x512 .f32) (harg4 : arg4.IsWhole) (hc0 : ¬isFirst i) (hc1 : ¬isDiag i) (hc2 : isPlain i) (x0 : Vec F S8x512x256 .f32) (xs : Vec F S8x512 .f32)
    (f2 : BufTy.Contents (Elt F) arg2.view.ty) (f4 : BufTy.Contents (Elt F) arg4.view.ty) :
    arg2.view.read (Elt F) (arg2.view.writes (Elt F) f2 (fwdPlain c i arg1 harg1 arg2 harg2 arg3 harg3 arg4 harg4 hc0 hc1 hc2 x0 xs).1) = plainBits (columns x0) xs
      ∧ arg4.view.read (Elt F) (arg4.view.writes (Elt F) f4 (fwdPlain c i arg1 harg1 arg2 harg2 arg3 harg3 arg4 harg4 hc0 hc1 hc2 x0 xs).2.1) = plainCol (columns x0) xs 32 := by
  have hX := colPieces_read arg1 harg1 x0 arg3.view arg3.view.junk
  have ha : (View.readAt (Elt F) arg4.view (Rect.unit (s := S8x512) ![0, 0] S8x512.size inb_S8x512_S8x512_0_0).toLoadRect (harg4.unread xs)) = xs := whole_load harg4 xs inb_S8x512_S8x512_0_0
  obtain ⟨h1, h2⟩ := plain_state (F := F) Variants.none c none i arg1 harg1 arg2 harg2 arg3 harg3 arg4 harg4 hc2 _ (columns x0) hX (View.readAt (Elt F) arg4.view (Rect.unit (s := S8x512) ![0, 0] S8x512.size inb_S8x512_S8x512_0_0).toLoadRect (harg4.unread xs)) (Scf.trips 0#32 (Scalar.addi 0#32 32#32) 1#32) (le_of_eq trips_eq)
  refine ⟨?_, ?_⟩
  · refine Eq.trans ?_ ((h2.read (fun n hn => by show n < 8 * Scf.trips _ _ _; rw [trips_eq]; omega) arg2.view f2).trans (congrArg (plainBits (columns x0)) ha))
    refine congrArg (fun L => arg2.view.read (Elt F) (arg2.view.writes (Elt F) f2 L)) ?_
    rfl
  · refine Eq.trans ?_ (h1.trans ((congrArg (fun n => plainCol (columns x0) _ n) trips_eq).trans (congrArg (fun a => plainCol (columns x0) a 32) ha)))
    refine (whole_read (arg4 := arg4) _ _ f4 inb_S8x512_S8x512_0_0).trans ?_
    exact shapeCast_self _ _

theorem fwdDiag_out (c : Dev nD) (i : grid0.Coords) (arg1 : Memref sig .tc .vmem S8x512x256 .f32) (harg1 : arg1.IsWhole) (arg2 : Memref sig .tc .vmem S256x8x512 .f32) (harg2 : arg2.IsWhole) (arg3 : Memref sig .tc .vmem S256x8x512 .f32) (harg3 : arg3.IsWhole) (arg4 : Memref sig .tc .vmem S8x512 .f32) (harg4 : arg4.IsWhole) (hc0 : ¬isFirst i) (hc1 : isDiag i) (hc2 : ¬isPlain i) (x0 : Vec F S8x512x256 .f32) (xs : Vec F S8x512 .f32)
    (f2 : BufTy.Contents (Elt F) arg2.view.ty) (f4 : BufTy.Contents (Elt F) arg4.view.ty) :
    arg2.view.read (Elt F) (arg2.view.writes (Elt F) f2 (fwdDiag c i arg1 harg1 arg2 harg2 arg3 harg3 arg4 harg4 hc0 hc1 hc2 x0 xs).1) = diagBits (BitVec.ofNat 32 (i 0).val) (columns x0) xs
      ∧ arg4.view.read (Elt F) (arg4.view.writes (Elt F) f4 (fwdDiag c i arg1 harg1 arg2 harg2 arg3 harg3 arg4 harg4 hc0 hc1 hc2 x0 xs).2.1) = diagCol (BitVec.ofNat 32 (i 0).val) (columns x0) xs 32 := by
  have hX := colPieces_read arg1 harg1 x0 arg3.view arg3.view.junk
  have ha : (View.readAt (Elt F) arg4.view (Rect.unit (s := S8x512) ![0, 0] S8x512.size inb_S8x512_S8x512_0_0).toLoadRect (harg4.unread xs)) = xs := whole_load harg4 xs inb_S8x512_S8x512_0_0
  obtain ⟨h1, h2⟩ := diag_state (F := F) Variants.none c none i arg1 harg1 arg2 harg2 arg3 harg3 arg4 harg4 (BitVec.ofNat 32 (i 0).val) hc1 _ (columns x0) hX (View.readAt (Elt F) arg4.view (Rect.unit (s := S8x512) ![0, 0] S8x512.size inb_S8x512_S8x512_0_0).toLoadRect (harg4.unread xs)) (Scf.trips 0#32 (Scalar.addi 0#32 32#32) 1#32) (le_of_eq trips_eq)
  refine ⟨?_, ?_⟩
  · refine Eq.trans ?_ ((h2.read (fun n hn => by show n < 8 * Scf.trips _ _ _; rw [trips_eq]; omega) arg2.view f2).trans (congrArg (diagBits (BitVec.ofNat 32 (i 0).val) (columns x0)) ha))
    refine congrArg (fun L => arg2.view.read (Elt F) (arg2.view.writes (Elt F) f2 L)) ?_
    rfl
  · refine Eq.trans ?_ (h1.trans ((congrArg (fun n => diagCol (BitVec.ofNat 32 (i 0).val) (columns x0) _ n) trips_eq).trans (congrArg (fun a => diagCol (BitVec.ofNat 32 (i 0).val) (columns x0) a 32) ha)))
    refine (whole_read (arg4 := arg4) _ _ f4 inb_S8x512_S8x512_0_0).trans ?_
    exact shapeCast_self _ _

theorem fwdFirst_out (c : Dev nD) (i : grid0.Coords) (arg1 : Memref sig .tc .vmem S8x512x256 .f32) (harg1 : arg1.IsWhole) (arg2 : Memref sig .tc .vmem S256x8x512 .f32) (harg2 : arg2.IsWhole) (arg3 : Memref sig .tc .vmem S256x8x512 .f32) (harg3 : arg3.IsWhole) (arg4 : Memref sig .tc .vmem S8x512 .f32) (harg4 : arg4.IsWhole) (hc0 : isFirst i) (hc1 : isDiag i) (hc2 : ¬isPlain i) (x0 : Vec F S8x512x256 .f32)
    (f2 : BufTy.Contents (Elt F) arg2.view.ty) (f4 : BufTy.Contents (Elt F) arg4.view.ty) :
    arg2.view.read (Elt F) (arg2.view.writes (Elt F) f2 (fwdFirst c i arg1 harg1 arg2 harg2 arg3 harg3 arg4 harg4 hc0 hc1 hc2 x0).1) = diagBits (BitVec.ofNat 32 (i 0).val) (columns x0) k0_pay138
      ∧ arg4.view.read (Elt F) (arg4.view.writes (Elt F) f4 (fwdFirst c i arg1 harg1 arg2 harg2 arg3 harg3 arg4 harg4 hc0 hc1 hc2 x0).2.1) = diagCol (BitVec.ofNat 32 (i 0).val) (columns x0) k0_pay138 32 := by
  have hX := colPieces_read arg1 harg1 x0 arg3.view arg3.view.junk
  have ha : (arg4.view.readCov [(⟨Rect.unit (s := S8x512) ![0, 0] S8x512.size inb_S8x512_S8x512_0_0, k0_pay138⟩ : View.Piece (Elt F) S8x512 .f32)] (Rect.unit (s := S8x512) ![0, 0] S8x512.size inb_S8x512_S8x512_0_0).toLoadRect) = k0_pay138 := View.readCov_unit_zero (Val := Elt F) arg4.view (off := ![0, 0]) zeros2 inb_S8x512_S8x512_0_0 (k0_pay138 : Vec F S8x512 .f32)
  obtain ⟨h1, h2⟩ := diag_state (F := F) Variants.none c none i arg1 harg1 arg2 harg2 arg3 harg3 arg4 harg4 (BitVec.ofNat 32 (i 0).val) hc1 _ (columns x0) hX (arg4.view.readCov [(⟨Rect.unit (s := S8x512) ![0, 0] S8x512.size inb_S8x512_S8x512_0_0, k0_pay138⟩ : View.Piece (Elt F) S8x512 .f32)] (Rect.unit (s := S8x512) ![0, 0] S8x512.size inb_S8x512_S8x512_0_0).toLoadRect) (Scf.trips 0#32 (Scalar.addi 0#32 32#32) 1#32) (le_of_eq trips_eq)
  refine ⟨?_, ?_⟩
  · refine Eq.trans ?_ ((h2.read (fun n hn => by show n < 8 * Scf.trips _ _ _; rw [trips_eq]; omega) arg2.view f2).trans (congrArg (diagBits (BitVec.ofNat 32 (i 0).val) (columns x0)) ha))
    refine congrArg (fun L => arg2.view.read (Elt F) (arg2.view.writes (Elt F) f2 L)) ?_
    rfl
  · refine Eq.trans ?_ (h1.trans ((congrArg (fun n => diagCol (BitVec.ofNat 32 (i 0).val) (columns x0) _ n) trips_eq).trans (congrArg (fun a => diagCol (BitVec.ofNat 32 (i 0).val) (columns x0) a 32) ha)))
    refine (whole_read (arg4 := arg4) _ _ f4 inb_S8x512_S8x512_0_0).trans ?_
    exact shapeCast_self _ _

theorem bwdNext_out (c : Dev nD) (i : grid1.Coords) (arg1 : Memref sig .tc .vmem S256x8x512 .f32) (harg1 : arg1.IsWhole) (arg2 : Memref sig .tc .vmem S8x512x256 .f32) (harg2 : arg2.IsWhole) (arg3 : Memref sig .tc .vmem S256x8x512 .f32) (harg3 : arg3.IsWhole) (arg4 : Memref sig .tc .vmem S8x512 .f32) (harg4 : arg4.IsWhole) (hc0 : ¬isLast i) (x0 : Vec F S256x8x512 .f32) (xs : Vec F S8x512 .f32)
    (f2 : BufTy.Contents (Elt F) arg2.view.ty) (f3 : BufTy.Contents (Elt F) arg3.view.ty) (f4 : BufTy.Contents (Elt F) arg4.view.ty) :
    arg2.view.read (Elt F) (arg2.view.writes (Elt F) f2 ((bwdNext c i arg1 harg1 arg2 harg2 arg3 harg3 arg4 harg4 hc0 x0 xs).1 f3)) = (fun y => pathCols x0 xs (ix3 (n0 := 256) (n1 := 8) (n2 := 512) (y 2) (y 0) (y 1)))
      ∧ arg4.view.read (Elt F) (arg4.view.writes (Elt F) f4 (bwdNext c i arg1 harg1 arg2 harg2 arg3 harg3 arg4 harg4 hc0 x0 xs).2.1) = headCol x0 xs 32 := by
  have ha : (View.readAt (Elt F) arg4.view (Rect.unit (s := S8x512) ![0, 0] S8x512.size inb_S8x512_S8x512_0_0).toLoadRect (harg4.unread xs)) = xs := whole_load harg4 xs inb_S8x512_S8x512_0_0
  obtain ⟨h1, h2⟩ := back_state (F := F) Variants.none c none i arg1 harg1 arg2 harg2 arg3 harg3 arg4 harg4 (harg1.unread x0) x0 (harg1.read_unread x0) (View.readAt (Elt F) arg4.view (Rect.unit (s := S8x512) ![0, 0] S8x512.size inb_S8x512_S8x512_0_0).toLoadRect (harg4.unread xs)) (Scf.trips 0#32 (Scalar.addi 0#32 32#32) 1#32) (le_of_eq trips_eq)
  refine ⟨?_, ?_⟩
  · refine Eq.trans ?_ ((pathPieces_read arg3 _ _ (h2.read (fun n hn => ⟨by rw [trips_eq]; omega, hn⟩) arg3.view f3) arg2.view f2).trans
        (congrArg (fun (a : Vec F S8x512 .f32) (y : S8x512x256.Idx) => pathCols x0 a (ix3 (n0 := 256) (n1 := 8) (n2 := 512) (y 2) (y 0) (y 1))) ha))
    refine congrArg (fun L => arg2.view.read (Elt F) (arg2.view.writes (Elt F) f2 L)) ?_
    rfl
  · refine Eq.trans ?_ (h1.trans ((congrArg (fun n => headCol x0 _ n) trips_eq).trans (congrArg (fun a => headCol x0 a 32) ha)))
    refine (whole_read (arg4 := arg4) _ _ f4 inb_S8x512_S8x512_0_0).trans ?_
    exact shapeCast_self _ _

theorem bwdFirst_out (c : Dev nD) (i : grid1.Coords) (arg1 : Memref sig .tc .vmem S256x8x512 .f32) (harg1 : arg1.IsWhole) (arg2 : Memref sig .tc .vmem S8x512x256 .f32) (harg2 : arg2.IsWhole) (arg3 : Memref sig .tc .vmem S256x8x512 .f32) (harg3 : arg3.IsWhole) (arg4 : Memref sig .tc .vmem S8x512 .f32) (harg4 : arg4.IsWhole) (hc0 : isLast i) (x0 : Vec F S256x8x512 .f32)
    (f2 : BufTy.Contents (Elt F) arg2.view.ty) (f3 : BufTy.Contents (Elt F) arg3.view.ty) (f4 : BufTy.Contents (Elt F) arg4.view.ty) :
    arg2.view.read (Elt F) (arg2.view.writes (Elt F) f2 ((bwdFirst c i arg1 harg1 arg2 harg2 arg3 harg3 arg4 harg4 hc0 x0).1 f3)) = (fun y => pathCols x0 k1_pay113 (ix3 (n0 := 256) (n1 := 8) (n2 := 512) (y 2) (y 0) (y 1)))
      ∧ arg4.view.read (Elt F) (arg4.view.writes (Elt F) f4 (bwdFirst c i arg1 harg1 arg2 harg2 arg3 harg3 arg4 harg4 hc0 x0).2.1) = headCol x0 k1_pay113 32 := by
  have ha : (arg4.view.readCov [(⟨Rect.unit (s := S8x512) ![0, 0] S8x512.size inb_S8x512_S8x512_0_0, k1_pay113⟩ : View.Piece (Elt F) S8x512 .f32)] (Rect.unit (s := S8x512) ![0, 0] S8x512.size inb_S8x512_S8x512_0_0).toLoadRect) = k1_pay113 := View.readCov_unit_zero (Val := Elt F) arg4.view (off := ![0, 0]) zeros2 inb_S8x512_S8x512_0_0 (k1_pay113 : Vec F S8x512 .f32)
  obtain ⟨h1, h2⟩ := back_state (F := F) Variants.none c none i arg1 harg1 arg2 harg2 arg3 harg3 arg4 harg4 (harg1.unread x0) x0 (harg1.read_unread x0) (arg4.view.readCov [(⟨Rect.unit (s := S8x512) ![0, 0] S8x512.size inb_S8x512_S8x512_0_0, k1_pay113⟩ : View.Piece (Elt F) S8x512 .f32)] (Rect.unit (s := S8x512) ![0, 0] S8x512.size inb_S8x512_S8x512_0_0).toLoadRect) (Scf.trips 0#32 (Scalar.addi 0#32 32#32) 1#32) (le_of_eq trips_eq)
  refine ⟨?_, ?_⟩
  · refine Eq.trans ?_ ((pathPieces_read arg3 _ _ (h2.read (fun n hn => ⟨by rw [trips_eq]; omega, hn⟩) arg3.view f3) arg2.view f2).trans
        (congrArg (fun (a : Vec F S8x512 .f32) (y : S8x512x256.Idx) => pathCols x0 a (ix3 (n0 := 256) (n1 := 8) (n2 := 512) (y 2) (y 0) (y 1))) ha))
    refine congrArg (fun L => arg2.view.read (Elt F) (arg2.view.writes (Elt F) f2 L)) ?_
    rfl
  · refine Eq.trans ?_ (h1.trans ((congrArg (fun n => headCol x0 _ n) trips_eq).trans (congrArg (fun a => headCol x0 a 32) ha)))
    refine (whole_read (arg4 := arg4) _ _ f4 inb_S8x512_S8x512_0_0).trans ?_
    exact shapeCast_self _ _

end Cert.KernelIdeal.Hand
end
-- ==== Proof.KernelIdeal.Spec.lean ====
/- The two bodies at every point: what a point makes of its block and of the column carried in. -/
module

public import proofs.«01_k».proof.Proof.KernelIdeal.Block

@[expose] public section

-- the rectangles of this kernel have large extents
set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The forward body -/

/-- The column a point starts from: zeros at the first, else what is carried in. -/
def fwdStart (i : grid0.Coords) (xs : Vec F S8x512 .f32) : Vec F S8x512 .f32 := if (i 0).val = 0 then k0_pay138 else xs
/-- The column a point leaves. -/
def fwdCol (i : grid0.Coords) (x0 : Vec F S8x512x256 .f32) (xs : Vec F S8x512 .f32) : Vec F S8x512 .f32 :=
  if (i 0).val < 2 then diagCol (BitVec.ofNat 32 (i 0).val) (columns x0) (fwdStart i xs) 32 else plainCol (columns x0) (fwdStart i xs) 32
/-- The block of decision bits a point leaves. -/
def fwdBits (i : grid0.Coords) (x0 : Vec F S8x512x256 .f32) (xs : Vec F S8x512 .f32) : Vec F S256x8x512 .f32 :=
  if (i 0).val < 2 then diagBits (BitVec.ofNat 32 (i 0).val) (columns x0) (fwdStart i xs) else plainBits (columns x0) (fwdStart i xs)

theorem isFirst_iff (i : grid0.Coords) : isFirst i ↔ (i 0).val = 0 :=
  (by decide +kernel : ∀ n : Fin 8, ((Scalar.cmpi .ne (Scalar.extui (Scalar.cmpi .eq (BitVec.ofNat 32 n.val) 0#32)) 0#32) = 1#1 ↔ n.val = 0)) (i 0)
theorem isDiag_iff (i : grid0.Coords) : isDiag i ↔ (i 0).val < 2 :=
  (by decide +kernel : ∀ n : Fin 8, (k0_cond2 (fun | 0 => n) = 1#1 ↔ n.val < 2)) (i 0)
theorem isPlain_iff (i : grid0.Coords) : isPlain i ↔ 2 ≤ (i 0).val :=
  (by decide +kernel : ∀ n : Fin 8, (k0_cond3 (fun | 0 => n) = 1#1 ↔ 2 ≤ n.val)) (i 0)

theorem fwdStart_first {i : grid0.Coords} (h : (i 0).val = 0) (xs : Vec F S8x512 .f32) : fwdStart i xs = k0_pay138 := if_pos h
theorem fwdCol_first {i : grid0.Coords} (h : (i 0).val = 0) (x0 : Vec F S8x512x256 .f32) (xs xs' : Vec F S8x512 .f32) : fwdCol i x0 xs = fwdCol i x0 xs' := by
  unfold fwdCol; rw [fwdStart_first h xs, fwdStart_first h xs']
theorem fwdBits_first {i : grid0.Coords} (h : (i 0).val = 0) (x0 : Vec F S8x512x256 .f32) (xs xs' : Vec F S8x512 .f32) : fwdBits i x0 xs = fwdBits i x0 xs' := by
  unfold fwdBits; rw [fwdStart_first h xs, fwdStart_first h xs']

set_option maxHeartbeats 1000000 in
theorem fwd_spec (c : Dev nD) (i : grid0.Coords) (arg1 : Memref sig .tc .vmem S8x512x256 .f32) (harg1 : arg1.IsWhole) (arg2 : Memref sig .tc .vmem S256x8x512 .f32) (harg2 : arg2.IsWhole) (arg3 : Memref sig .tc .vmem S256x8x512 .f32) (harg3 : arg3.IsWhole) (arg4 : Memref sig .tc .vmem S8x512 .f32) (harg4 : arg4.IsWhole) (x0 : Vec F S8x512x256 .f32) (xs : Vec F S8x512 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d) ∗ owns (c : Thread nD τ) arg4 fullShare xs
        ∗ (iprop(owns (c : Thread nD τ) arg1 fullShare x0 ∗ owns (c : Thread nD τ) arg2 fullShare (fwdBits i x0 xs) ∗ (∃ d, owns (c : Thread nD τ) arg3 fullShare d) ∗ owns (c : Thread nD τ) arg4 fullShare (fwdCol i x0 xs)) -∗ K ⟨⟩))
      ⊢ wp frame (wpE (defs₀ (F := F)) Variants.none c none) E (cc0__fwd_kernel i arg1 harg1 arg2 harg2 arg3 harg3 arg4 harg4) K := by
  iintro ⟨H1, H2, H3, H4, Hk⟩
  by_cases h0 : (i 0).val = 0
  · iapply ((fwdFirst c i arg1 harg1 arg2 harg2 arg3 harg3 arg4 harg4 ((isFirst_iff i).mpr h0) ((isDiag_iff i).mpr (by omega)) (fun h => absurd ((isPlain_iff i).mp h) (by omega)) x0).2.2 E K)
    isplitl [H1]; · iexact H1
    isplitl [H2]; · iexact H2
    isplitl [H3]; · iexact H3
    isplitl [H4]; · iexists _; iexact H4
    iintro ⟨H1, ⟨%f2, H2⟩, H3, ⟨%f4, H4⟩⟩
    iapply Hk
    isplitl [H1]; · iexact H1
    isplitl [H2]
    · unfold owns; iexists _; isplitr; swap; · iexact H2
      ipureintro; rw [(fwdFirst_out c i arg1 harg1 arg2 harg2 arg3 harg3 arg4 harg4 ((isFirst_iff i).mpr h0) ((isDiag_iff i).mpr (by omega)) (fun h => absurd ((isPlain_iff i).mp h) (by omega)) x0 f2 f4).1]; unfold fwdBits fwdStart; rw [if_pos (show (i 0).val < 2 by omega), if_pos h0]
    isplitl [H3]; · iexact H3
    unfold owns; iexists _; isplitr; swap; · iexact H4
    ipureintro; rw [(fwdFirst_out c i arg1 harg1 arg2 harg2 arg3 harg3 arg4 harg4 ((isFirst_iff i).mpr h0) ((isDiag_iff i).mpr (by omega)) (fun h => absurd ((isPlain_iff i).mp h) (by omega)) x0 f2 f4).2]; unfold fwdCol fwdStart; rw [if_pos (show (i 0).val < 2 by omega), if_pos h0]
  by_cases h1 : (i 0).val < 2
  · iapply ((fwdDiag c i arg1 harg1 arg2 harg2 arg3 harg3 arg4 harg4 (fun h => h0 ((isFirst_iff i).mp h)) ((isDiag_iff i).mpr h1) (fun h => absurd ((isPlain_iff i).mp h) (by omega)) x0 xs).2.2 E K)
    isplitl [H1]; · iexact H1
    isplitl [H2]; · iexact H2
    isplitl [H3]; · iexact H3
    isplitl [H4]; · iexact H4
    iintro ⟨H1, ⟨%f2, H2⟩, H3, ⟨%f4, H4⟩⟩
    iapply Hk
    isplitl [H1]; · iexact H1
    isplitl [H2]
    · unfold owns; iexists _; isplitr; swap; · iexact H2
      ipureintro; rw [(fwdDiag_out c i arg1 harg1 arg2 harg2 arg3 harg3 arg4 harg4 (fun h => h0 ((isFirst_iff i).mp h)) ((isDiag_iff i).mpr h1) (fun h => absurd ((isPlain_iff i).mp h) (by omega)) x0 xs f2 f4).1]; unfold fwdBits fwdStart; rw [if_pos h1, if_neg h0]
    isplitl [H3]; · iexact H3
    unfold owns; iexists _; isplitr; swap; · iexact H4
    ipureintro; rw [(fwdDiag_out c i arg1 harg1 arg2 harg2 arg3 harg3 arg4 harg4 (fun h => h0 ((isFirst_iff i).mp h)) ((isDiag_iff i).mpr h1) (fun h => absurd ((isPlain_iff i).mp h) (by omega)) x0 xs f2 f4).2]; unfold fwdCol fwdStart; rw [if_pos h1, if_neg h0]
  · iapply ((fwdPlain c i arg1 harg1 arg2 harg2 arg3 harg3 arg4 harg4 (fun h => h0 ((isFirst_iff i).mp h)) (fun h => h1 ((isDiag_iff i).mp h)) ((isPlain_iff i).mpr (by omega)) x0 xs).2.2 E K)
    isplitl [H1]; · iexact H1
    isplitl [H2]; · iexact H2
    isplitl [H3]; · iexact H3
    isplitl [H4]; · iexact H4
    iintro ⟨H1, ⟨%f2, H2⟩, H3, ⟨%f4, H4⟩⟩
    iapply Hk
    isplitl [H1]; · iexact H1
    isplitl [H2]
    · unfold owns; iexists _; isplitr; swap; · iexact H2
      ipureintro; rw [(fwdPlain_out c i arg1 harg1 arg2 harg2 arg3 harg3 arg4 harg4 (fun h => h0 ((isFirst_iff i).mp h)) (fun h => h1 ((isDiag_iff i).mp h)) ((isPlain_iff i).mpr (by omega)) x0 xs f2 f4).1]; unfold fwdBits fwdStart; rw [if_neg h1, if_neg h0]
    isplitl [H3]; · iexact H3
    unfold owns; iexists _; isplitr; swap; · iexact H4
    ipureintro; rw [(fwdPlain_out c i arg1 harg1 arg2 harg2 arg3 harg3 arg4 harg4 (fun h => h0 ((isFirst_iff i).mp h)) (fun h => h1 ((isDiag_iff i).mp h)) ((isPlain_iff i).mpr (by omega)) x0 xs f2 f4).2]; unfold fwdCol fwdStart; rw [if_neg h1, if_neg h0]

/-! ## The backward body -/

/-- The one-hot block a point starts from: the last token at the first, else what is carried in. -/
def bwdStart (i : grid1.Coords) (xs : Vec F S8x512 .f32) : Vec F S8x512 .f32 := if (i 0).val = 0 then k1_pay113 else xs
/-- The one-hot block a point leaves. -/
def bwdCol (i : grid1.Coords) (x0 : Vec F S256x8x512 .f32) (xs : Vec F S8x512 .f32) : Vec F S8x512 .f32 := headCol x0 (bwdStart i xs) 32
/-- The block of the path a point leaves. -/
def bwdPath (i : grid1.Coords) (x0 : Vec F S256x8x512 .f32) (xs : Vec F S8x512 .f32) : Vec F S8x512x256 .f32 :=
  fun y => pathCols x0 (bwdStart i xs) (ix3 (n0 := 256) (n1 := 8) (n2 := 512) (y 2) (y 0) (y 1))

theorem isLast_iff (i : grid1.Coords) : isLast i ↔ (i 0).val = 0 :=
  (by decide +kernel : ∀ n : Fin 8, ((Scalar.cmpi .ne (Scalar.extui (Scalar.cmpi .eq (BitVec.ofNat 32 n.val) 0#32)) 0#32) = 1#1 ↔ n.val = 0)) (i 0)

theorem bwdStart_first {i : grid1.Coords} (h : (i 0).val = 0) (xs : Vec F S8x512 .f32) : bwdStart i xs = k1_pay113 := if_pos h
theorem bwdCol_first {i : grid1.Coords} (h : (i 0).val = 0) (x0 : Vec F S256x8x512 .f32) (xs xs' : Vec F S8x512 .f32) : bwdCol i x0 xs = bwdCol i x0 xs' := by
  unfold bwdCol; rw [bwdStart_first h xs, bwdStart_first h xs']
theorem bwdPath_first {i : grid1.Coords} (h : (i 0).val = 0) (x0 : Vec F S256x8x512 .f32) (xs xs' : Vec F S8x512 .f32) : bwdPath i x0 xs = bwdPath i x0 xs' := by
  unfold bwdPath; rw [bwdStart_first h xs, bwdStart_first h xs']

set_option maxHeartbeats 1000000 in
theorem bwd_spec (c : Dev nD) (i : grid1.Coords) (arg1 : Memref sig .tc .vmem S256x8x512 .f32) (harg1 : arg1.IsWhole) (arg2 : Memref sig .tc .vmem S8x512x256 .f32) (harg2 : arg2.IsWhole) (arg3 : Memref sig .tc .vmem S256x8x512 .f32) (harg3 : arg3.IsWhole) (arg4 : Memref sig .tc .vmem S8x512 .f32) (harg4 : arg4.IsWhole) (x0 : Vec F S256x8x512 .f32) (xs : Vec F S8x512 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d) ∗ owns (c : Thread nD τ) arg4 fullShare xs
        ∗ (iprop(owns (c : Thread nD τ) arg1 fullShare x0 ∗ owns (c : Thread nD τ) arg2 fullShare (bwdPath i x0 xs) ∗ (∃ d, owns (c : Thread nD τ) arg3 fullShare d) ∗ owns (c : Thread nD τ) arg4 fullShare (bwdCol i x0 xs)) -∗ K ⟨⟩))
      ⊢ wp frame (wpE (defs₀ (F := F)) Variants.none c none) E (cc1__bwd_kernel i arg1 harg1 arg2 harg2 arg3 harg3 arg4 harg4) K := by
  iintro ⟨H1, H2, ⟨%d3, H3⟩, H4, Hk⟩
  ihave H3 := (show owns (c : Thread nD τ) arg3 fullShare d3 ⊢ (iprop(∃ f, ⌜arg3.view.read (Elt F) f = d3⌝ ∗ arg3.view.loc (c : Thread nD τ) ↦[arg3.view.set]{fullShare} f) : sProp 𝕄) from by unfold owns; exact .rfl) $$ H3
  icases H3 with ⟨%f3, -, H3⟩
  by_cases h0 : (i 0).val = 0
  · iapply ((bwdFirst c i arg1 harg1 arg2 harg2 arg3 harg3 arg4 harg4 ((isLast_iff i).mpr h0) x0).2.2 E K f3)
    isplitl [H1]; · iexact H1
    isplitl [H2]; · iexact H2
    isplitl [H3]; · iexact H3
    isplitl [H4]; · iexists _; iexact H4
    iintro ⟨H1, ⟨%f2, H2⟩, H3, ⟨%f4, H4⟩⟩
    iapply Hk
    isplitl [H1]; · iexact H1
    isplitl [H2]
    · unfold owns; iexists _; isplitr; swap; · iexact H2
      ipureintro; rw [(bwdFirst_out c i arg1 harg1 arg2 harg2 arg3 harg3 arg4 harg4 ((isLast_iff i).mpr h0) x0 f2 f3 f4).1]; unfold bwdPath bwdStart; rw [if_pos h0]
    isplitl [H3]; · iexact H3
    unfold owns; iexists _; isplitr; swap; · iexact H4
    ipureintro; rw [(bwdFirst_out c i arg1 harg1 arg2 harg2 arg3 harg3 arg4 harg4 ((isLast_iff i).mpr h0) x0 f2 f3 f4).2]; unfold bwdCol bwdStart; rw [if_pos h0]
  · iapply ((bwdNext c i arg1 harg1 arg2 harg2 arg3 harg3 arg4 harg4 (fun h => h0 ((isLast_iff i).mp h)) x0 xs).2.2 E K f3)
    isplitl [H1]; · iexact H1
    isplitl [H2]; · iexact H2
    isplitl [H3]; · iexact H3
    isplitl [H4]; · iexact H4
    iintro ⟨H1, ⟨%f2, H2⟩, H3, ⟨%f4, H4⟩⟩
    iapply Hk
    isplitl [H1]; · iexact H1
    isplitl [H2]
    · unfold owns; iexists _; isplitr; swap; · iexact H2
      ipureintro; rw [(bwdNext_out c i arg1 harg1 arg2 harg2 arg3 harg3 arg4 harg4 (fun h => h0 ((isLast_iff i).mp h)) x0 xs f2 f3 f4).1]; unfold bwdPath bwdStart; rw [if_neg h0]
    isplitl [H3]; · iexact H3
    unfold owns; iexists _; isplitr; swap; · iexact H4
    ipureintro; rw [(bwdNext_out c i arg1 harg1 arg2 harg2 arg3 harg3 arg4 harg4 (fun h => h0 ((isLast_iff i).mp h)) x0 xs f2 f3 f4).2]; unfold bwdCol bwdStart; rw [if_neg h0]

end Cert.KernelIdeal.Hand
end
-- ==== Proof.KernelIdeal.Frame.lean ====
/- The kernel's two regions and its launch: at every point each output block and the carried scratch by name, and from
   there the run of @main, which ends with both arguments as launched and the path array at the second region's output. -/
module

public import proofs.«01_k».proof.Proof.KernelIdeal.Spec
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix

@[expose] public section

-- the rectangles of this kernel have large extents
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions

variable (V : (c : Dev nD) → (b : Ref sig .tc) → Buf (Elt F) ((c : Thread nD τ).loc b))

/-! ## Region 0 -/

/-- A window's block at a point, read off the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev ms0_0 (t : Fin cfg0.N) : Memref sig .tc .vmem S8x512x256 .f32 := win0_0.stage (cfg0.slots t 0)
abbrev ms0_1 (t : Fin cfg0.N) : Memref sig .tc .vmem S256x8x512 .f32 := win0_1.stage (cfg0.slots t 1)
abbrev scM0_0 : Memref sig .tc .vmem S256x8x512 .f32 := Memref.whole cc0_scratch0
abbrev scM0_1 : Memref sig .tc .vmem S8x512 .f32 := Memref.whole cc0_scratch1

/-- The carried block before point `n` (before the first: anything). -/
def carry0 (c : Dev nD) : ℕ → Vec F S8x512 .f32
  | 0 => k0_pay138
  | n + 1 => if h : n < cfg0.N then fwdCol (grid0.coords ⟨n, h⟩) (iblk0 V c 0 ⟨n, h⟩) (carry0 c n) else carry0 c n
/-- What a point writes into its output block. -/
def outsAt0 (c : Dev nD) (t : Fin cfg0.N) : Vec F S256x8x512 .f32 := fwdBits (grid0.coords t) (iblk0 V c 0 t) (carry0 V c t.val)

theorem carry0_succ (c : Dev nD) (t : Fin cfg0.N) :
    carry0 V c (t.val + 1) = fwdCol (grid0.coords t) (iblk0 V c 0 t) (carry0 V c t.val) := by
  rw [carry0, dif_pos t.isLt]

theorem coords0_val (t : Fin cfg0.N) : (grid0.coords t 0).val = t.val :=
  (by decide +kernel : ∀ t : Fin grid0.N, (grid0.coords t 0).val = t.val) t

/-- What the scratch buffers hold before point `n`: the carried one its block, once a point has run. -/
def phi0 (c : Dev nD) (n : ℕ) : sProp 𝕄 :=
  iprop(iprop((∃ d, owns (c : Thread nD τ) scM0_0 fullShare d) ∗ (∃ d, iprop(⌜n ≠ 0 → d = carry0 V c n⌝ ∗ owns (c : Thread nD τ) scM0_1 fullShare d)) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r))

theorem phiA0_eq (c : Dev nD) : (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := by
  unfold Pipeline.ΦA; rw [scopedRest0_eq]; simp only [scM0_0, scM0_1, owns_whole]; try rfl

/-- The proof data: the arrays as found, each point's blocks, the carried scratch. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outsAt0 V c t
  Φ t := phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = outsAt0 V c t := by dsimp only [dat0]
theorem phi_eq0 (c : Dev nD) (t : Fin (cfg0.N + 1)) : (dat0 V c).Φ t = phi0 V c t.val := by dsimp only [dat0]
theorem before0_0 (c : Dev nD) (t : Fin cfg0.N) (d) : (dat0 V c).before 0 t d = iblk0 V c 0 t :=
  before0_0_of V (dat0 V c) (A_eq0 V c 0) (after0_0 V c) t d

theorem phi_in0 (c : Dev nD) : (Pipeline.ΦA spec0 c : sProp 𝕄) ⊢ (dat0 V c).Φ 0 := by
  rw [phi_eq0, phiA0_eq]; unfold phi0
  iintro ⟨⟨HS0, ⟨%d, HS1⟩, HR0, HR1, HR2, HR3, HR4, HR5⟩, Hg⟩
  isplitl [HS0 HS1 HR0 HR1 HR2 HR3 HR4 HR5]
  · isplitl [HS0]; · iexact HS0
    isplitl [HS1]; · (iexists d; isplitr; · (ipureintro; intro h; exact absurd rfl h)); iexact HS1
    isplitl [HR0]; · iexact HR0
    isplitl [HR1]; · iexact HR1
    isplitl [HR2]; · iexact HR2
    isplitl [HR3]; · iexact HR3
    isplitl [HR4]; · iexact HR4
    iexact HR5
  iexact Hg

theorem phi_out0 (c : Dev nD) : (dat0 V c).Φ (Fin.last _) ⊢ (Pipeline.ΦA spec0 c : sProp 𝕄) := by
  rw [phi_eq0, phiA0_eq]; unfold phi0
  iintro ⟨⟨HS0, ⟨%d, -, HS1⟩, HR0, HR1, HR2, HR3, HR4, HR5⟩, Hg⟩
  isplitl [HS0 HS1 HR0 HR1 HR2 HR3 HR4 HR5]
  · isplitl [HS0]; · iexact HS0
    isplitl [HS1]; · iexists d; iexact HS1
    isplitl [HR0]; · iexact HR0
    isplitl [HR1]; · iexact HR1
    isplitl [HR2]; · iexact HR2
    isplitl [HR3]; · iexact HR3
    isplitl [HR4]; · iexact HR4
    iexact HR5
  iexact Hg

theorem live0_0 (t : Fin cfg0.N) : cfg0.idle 0 (grid0.coords t) = false := rfl
theorem live0_1 : ∀ t : Fin cfg0.N, cfg0.idle 1 (grid0.coords t) = false := by decide +kernel

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 1000000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [phi_eq0, phi_eq0, show (dat0 V c).owesAt () t.succ = (dat0 V c).owesAt () t.castSucc from rfl,
    show (dat0 V c).leavesExact 0 t = owns (c : Thread nD τ) (ms0_0 t) fullShare ((dat0 V c).after 0 t) from by
      unfold Dat.leavesExact; rw [live0_0 t],
    show (dat0 V c).leavesExact 1 t = owns (c : Thread nD τ) (ms0_1 t) fullShare ((dat0 V c).after 1 t) from by
      unfold Dat.leavesExact; rw [live0_1 t], after0_0, after0_1]
  unfold phi0
  iintro ⟨⟨⟨HS0, ⟨%d, %hd, HS1⟩, HR0, HR1, HR2, HR3, HR4, HR5⟩, Hg⟩, Ho, ⟨%d0, H0⟩, ⟨%d1, H1⟩⟩
  have hcol : fwdCol (grid0.coords t) (iblk0 V c 0 t) d = carry0 V c t.succ.val := by
    rw [show t.succ.val = t.val + 1 from rfl, carry0_succ]
    by_cases h : t.val = 0
    · exact fwdCol_first ((coords0_val t).trans h) _ _ _
    · rw [hd h]; rfl
  have hout : fwdBits (grid0.coords t) (iblk0 V c 0 t) d = outsAt0 V c t := by
    unfold outsAt0
    by_cases h : t.val = 0
    · exact fwdBits_first ((coords0_val t).trans h) _ _ _
    · rw [hd h]; rfl
  iapply (fwd_spec c (grid0.coords t) _ _ _ _ _ _ _ _ (iblk0 V c 0 t) d Set.univ _)
  isplitl [H0]; · iexact H0
  isplitl [H1]; · iexists _; iexact H1
  isplitl [HS0]; · iexact HS0
  isplitl [HS1]; · iexact HS1
  rw [hcol, hout]
  iintro ⟨H0, H1, HS0, HS1⟩
  isplitl [HS0 HS1 HR0 HR1 HR2 HR3 HR4 HR5 Hg]
  · skip
    isplitl [HS0 HS1 HR0 HR1 HR2 HR3 HR4 HR5]
    · isplitl [HS0]; · iexact HS0
      isplitl [HS1]; · (iexists _; isplitr; swap; · iexact HS1); (ipureintro; intro _; rfl)
      isplitl [HR0]; · iexact HR0
      isplitl [HR1]; · iexact HR1
      isplitl [HR2]; · iexact HR2
      isplitl [HR3]; · iexact HR3
      isplitl [HR4]; · iexact HR4
      iexact HR5
    iexact Hg
  isplitl [Ho]; · iexact Ho
  isplitl [H0]; · iexact H0
  iexact H1

theorem defs₀_row0 (t : Fin cfg0.N) : defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! ## Region 1 -/

/-- A window's block at a point, read off the array the region finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S256x8x512 .f32 := win1_0.stage (cfg1.slots t 0)
abbrev ms1_1 (t : Fin cfg1.N) : Memref sig .tc .vmem S8x512x256 .f32 := win1_1.stage (cfg1.slots t 1)
abbrev scM1_0 : Memref sig .tc .vmem S256x8x512 .f32 := Memref.whole cc1_scratch0
abbrev scM1_1 : Memref sig .tc .vmem S8x512 .f32 := Memref.whole cc1_scratch1

/-- The carried block before point `n` (before the first: anything). -/
def carry1 (c : Dev nD) : ℕ → Vec F S8x512 .f32
  | 0 => k0_pay138
  | n + 1 => if h : n < cfg1.N then bwdCol (grid1.coords ⟨n, h⟩) (iblk1 V c 0 ⟨n, h⟩) (carry1 c n) else carry1 c n
/-- What a point writes into its output block. -/
def outsAt1 (c : Dev nD) (t : Fin cfg1.N) : Vec F S8x512x256 .f32 := bwdPath (grid1.coords t) (iblk1 V c 0 t) (carry1 V c t.val)

theorem carry1_succ (c : Dev nD) (t : Fin cfg1.N) :
    carry1 V c (t.val + 1) = bwdCol (grid1.coords t) (iblk1 V c 0 t) (carry1 V c t.val) := by
  rw [carry1, dif_pos t.isLt]

theorem coords1_val (t : Fin cfg1.N) : (grid1.coords t 0).val = t.val :=
  (by decide +kernel : ∀ t : Fin grid1.N, (grid1.coords t 0).val = t.val) t

/-- What the scratch buffers hold before point `n`: the carried one its block, once a point has run. -/
def phi1 (c : Dev nD) (n : ℕ) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, iprop(⌜n ≠ 0 → d = carry1 V c n⌝ ∗ owns (c : Thread nD τ) scM1_1 fullShare d))) ∗ (∃ r, prngReg c r))

theorem phiA1_eq (c : Dev nD) : (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- The proof data: the arrays as found, each point's blocks, the carried scratch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => outsAt1 V c t
  Φ t := phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = outsAt1 V c t := by dsimp only [dat1]
theorem phi_eq1 (c : Dev nD) (t : Fin (cfg1.N + 1)) : (dat1 V c).Φ t = phi1 V c t.val := by dsimp only [dat1]
theorem before1_0 (c : Dev nD) (t : Fin cfg1.N) (d) : (dat1 V c).before 0 t d = iblk1 V c 0 t :=
  before1_0_of V (dat1 V c) (A_eq1 V c 0) (after1_0 V c) t d

theorem phi_in1 (c : Dev nD) : (Pipeline.ΦA spec1 c : sProp 𝕄) ⊢ (dat1 V c).Φ 0 := by
  rw [phi_eq1, phiA1_eq]; unfold phi1
  iintro ⟨⟨HR0, HR1, HR2, HR3, HR4, HR5, HS0, ⟨%d, HS1⟩⟩, Hg⟩
  isplitl [HR0 HR1 HR2 HR3 HR4 HR5 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexact HS0
    (iexists d; isplitr; · (ipureintro; intro h; exact absurd rfl h)); iexact HS1
  iexact Hg

theorem phi_out1 (c : Dev nD) : (dat1 V c).Φ (Fin.last _) ⊢ (Pipeline.ΦA spec1 c : sProp 𝕄) := by
  rw [phi_eq1, phiA1_eq]; unfold phi1
  iintro ⟨⟨HR0, HR1, HR2, HR3, HR4, HR5, HS0, ⟨%d, -, HS1⟩⟩, Hg⟩
  isplitl [HR0 HR1 HR2 HR3 HR4 HR5 HS0 HS1]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexact HS0
    iexists d; iexact HS1
  iexact Hg

theorem live1_0 (t : Fin cfg1.N) : cfg1.idle 0 (grid1.coords t) = false := rfl
theorem live1_1 : ∀ t : Fin cfg1.N, cfg1.idle 1 (grid1.coords t) = false := by decide +kernel

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 1000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [phi_eq1, phi_eq1, show (dat1 V c).owesAt () t.succ = (dat1 V c).owesAt () t.castSucc from rfl,
    show (dat1 V c).leavesExact 0 t = owns (c : Thread nD τ) (ms1_0 t) fullShare ((dat1 V c).after 0 t) from by
      unfold Dat.leavesExact; rw [live1_0 t],
    show (dat1 V c).leavesExact 1 t = owns (c : Thread nD τ) (ms1_1 t) fullShare ((dat1 V c).after 1 t) from by
      unfold Dat.leavesExact; rw [live1_1 t], after1_0, after1_1]
  unfold phi1
  iintro ⟨⟨⟨HR0, HR1, HR2, HR3, HR4, HR5, HS0, ⟨%d, %hd, HS1⟩⟩, Hg⟩, Ho, ⟨%d0, H0⟩, ⟨%d1, H1⟩⟩
  have hcol : bwdCol (grid1.coords t) (iblk1 V c 0 t) d = carry1 V c t.succ.val := by
    rw [show t.succ.val = t.val + 1 from rfl, carry1_succ]
    by_cases h : t.val = 0
    · exact bwdCol_first ((coords1_val t).trans h) _ _ _
    · rw [hd h]; rfl
  have hout : bwdPath (grid1.coords t) (iblk1 V c 0 t) d = outsAt1 V c t := by
    unfold outsAt1
    by_cases h : t.val = 0
    · exact bwdPath_first ((coords1_val t).trans h) _ _ _
    · rw [hd h]; rfl
  iapply (bwd_spec c (grid1.coords t) _ _ _ _ _ _ _ _ (iblk1 V c 0 t) d Set.univ _)
  isplitl [H0]; · iexact H0
  isplitl [H1]; · iexists _; iexact H1
  isplitl [HS0]; · iexact HS0
  isplitl [HS1]; · iexact HS1
  rw [hcol, hout]
  iintro ⟨H0, H1, HS0, HS1⟩
  isplitl [HR0 HR1 HR2 HR3 HR4 HR5 HS0 HS1 Hg]
  · skip
    isplitl [HR0 HR1 HR2 HR3 HR4 HR5 HS0 HS1]
    · isplitl [HR0]; · iexact HR0
      isplitl [HR1]; · iexact HR1
      isplitl [HR2]; · iexact HR2
      isplitl [HR3]; · iexact HR3
      isplitl [HR4]; · iexact HR4
      isplitl [HR5]; · iexact HR5
      isplitl [HS0]; · iexact HS0
      (iexists _; isplitr; swap; · iexact HS1); (ipureintro; intro _; rfl)
    iexact Hg
  isplitl [Ho]; · iexact Ho
  isplitl [H0]; · iexact H0
  iexact H1

theorem defs₀_row1 (t : Fin cfg1.N) : defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! ## The launch -/

/-- @main's two arguments. -/
abbrev argRefs : List (Ref sig .tc) := [main_arg0, main_arg1]

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev V0 : (c : Dev nD) → (b : Ref sig .tc) → Buf (Elt F) ((c : Thread nD τ).loc b) := fun c b => W0 m ρ c b
/-- The buffers between the two regions: the first region's arrays at what its pipeline leaves. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- The buffers at the return. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

theorem W2_main_arg0 (c : Dev nD) : W2 m ρ c (Proc.devRef .tc main_arg0) = m ((c : Thread nD τ).loc main_arg0) :=
  W2_args m ρ c main_arg0 (by decide)
theorem W2_main_arg1 (c : Dev nD) : W2 m ρ c (Proc.devRef .tc main_arg1) = m ((c : Thread nD τ).loc main_arg1) :=
  W2_args m ρ c main_arg1 (by decide)

abbrev adm : (p : Fin 2) → (pcfgs (F := F) p).Adm := fun p => (cfgs p).toPCfg_adm
/-- Both pipelines' proof data, each at the contents its region is entered with. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state. -/
abbrev Tₙ (c : Dev nD) : sProp 𝕄 := iprop(StableHlo.held (c : Thread nD τ) (Pipeline.ucRefs τ sig) (W2 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec0 c : sProp 𝕄) ⊢ (pdats m ρ 0 c).Φ 0 from phi_in0 (V0 m ρ) c)
    unfold Pipeline.ΦA
    isplitl [Hr]; · iexact Hr
    iexact Hp
  hout c := by
    rw [Pipeline.ownSems0_none]
    iintro HΦ
    ihave H := (show (pdats m ρ 0 c).Φ (Fin.last _) ⊢ (Pipeline.ΦA spec0 c : sProp 𝕄) from phi_out0 (V0 m ρ) c) $$ HΦ
    unfold Pipeline.ΦA
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    iintro ⟨Hp, -, Hr⟩
    iapply (show (Pipeline.ΦA spec1 c : sProp 𝕄) ⊢ (pdats m ρ 1 c).Φ 0 from phi_in1 (V1 m ρ) c)
    unfold Pipeline.ΦA
    isplitl [Hr]; · iexact Hr
    iexact Hp
  hout c := by
    rw [Pipeline.ownSems0_none]
    iintro HΦ
    ihave H := (show (pdats m ρ 1 c).Φ (Fin.last _) ⊢ (Pipeline.ΦA spec1 c : sProp 𝕄) from phi_out1 (V1 m ρ) c) $$ HΦ
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ),
    .region (reg1 m ρ) ]
/-- @main is the run of the two regions. -/
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- From any launch memory the kernel's program terminates on every schedule, leaves both arguments as they were, every
    counter at zero, and the path array at what the second pipeline writes back. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v1) = (dat1 (V1 m ρ) c).arrAt 1 cfg1.N)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨(fun c =>
      ⟨(h c _ (mem_uc main_arg0 (by decide))).trans (W2_main_arg0 m ρ c),
       (h c _ (mem_uc main_arg1 (by decide))).trans (W2_main_arg1 m ρ c),
       (h c _ (mem_uc main_v1 (by decide))).trans (W2_arr m ρ c 1)⟩), funext fun g => hz g (.inr (no_unscoped g.2))⟩)

end Cert.KernelIdeal.Hand
end
-- ==== Proof.ReferenceIdeal.Ops.lean ====
/- The reference's host operations, in order: the stretches of @main before, between and after its two loops,
   and those of each loop's body; @main and the bodies as chains of these stretches. -/
module

public import proofs.«01_k».proof.ReferenceIdeal
public import proofs.«01_k».proof.Proof.Gen.ReferenceIdeal
public import Idealize.ShloMosaic.Lib.StableHlo.RunLoop

@[expose] public section

noncomputable section

namespace Cert.ReferenceIdeal.Hand

open Idealize.ShloMosaic Idealize.ShloMosaic.TcCoe
open Idealize.SL Idealize.SL.RA Idealize.SL.BI
open scoped Idealize.SL.BI
open Idealize.SL.BI.BIBase Idealize.SL.Sem
open Cert.ReferenceIdeal Cert.ReferenceIdeal.Gen

variable {F : FTy → Type} [FloatOps F]

abbrev hostOps0 : List (HloOp τ sig (Elt F)) :=
  [ StableHlo.binary main_arg0 main_arg1 main_v0 (mulf : (⟨S8x512x2048, .f32⟩ : BufTy).Contents (Elt F) → (⟨S8x512x2048, .f32⟩ : BufTy).Contents (Elt F) → (⟨S8x512x2048, .f32⟩ : BufTy).Contents (Elt F)),
    StableHlo.nullary main_cst (constant S_ .f32 0x00000000#32),
    StableHlo.binary main_arg1 main_cst main_v1 ((fun x v => Host.reduceAdd x v reducesTo_S8x512x2048_S8x2048_d1 h_S_) : (⟨S8x512x2048, .f32⟩ : BufTy).Contents (Elt F) → (⟨S_, .f32⟩ : BufTy).Contents (Elt F) → (⟨S8x2048, .f32⟩ : BufTy).Contents (Elt F)),
    StableHlo.unary main_v1 main_v2 ((extractStridedSlice S8x1 ![0, 0] · slices_S8x2048_S8x1_0_0) : (⟨S8x2048, .f32⟩ : BufTy).Contents (Elt F) → (⟨S8x1, .f32⟩ : BufTy).Contents (Elt F)),
    StableHlo.reshape main_v2 main_v3 (rfl : (.f32 : EltTy) = .f32) shapeCasts_S8x1_S8,
    StableHlo.unary main_v3 main_v4 (fptosi 32 : (⟨S8, .f32⟩ : BufTy).Contents (Elt F) → (⟨S8, .i32⟩ : BufTy).Contents (Elt F)),
    StableHlo.nullary main_cst_0 (constant S_ .f32 0x00000000#32),
    StableHlo.binary main_arg1 main_cst_0 main_v5 ((fun x v => Host.reduceAdd x v reducesTo_S8x512x2048_S8x512_d2 h_S_) : (⟨S8x512x2048, .f32⟩ : BufTy).Contents (Elt F) → (⟨S_, .f32⟩ : BufTy).Contents (Elt F) → (⟨S8x512, .f32⟩ : BufTy).Contents (Elt F)),
    StableHlo.unary main_v5 main_v6 ((extractStridedSlice S8x1 ![0, 0] · slices_S8x512_S8x1_0_0) : (⟨S8x512, .f32⟩ : BufTy).Contents (Elt F) → (⟨S8x1, .f32⟩ : BufTy).Contents (Elt F)),
    StableHlo.reshape main_v6 main_v7 (rfl : (.f32 : EltTy) = .f32) shapeCasts_S8x1_S8,
    StableHlo.unary main_v7 main_v8 (fptosi 32 : (⟨S8, .f32⟩ : BufTy).Contents (Elt F) → (⟨S8, .i32⟩ : BufTy).Contents (Elt F)),
    StableHlo.nullary main_v9 (iotaInDim S8 32 0),
    StableHlo.nullary main_v10 (iotaInDim S512 32 0),
    StableHlo.unary main_v10 main_v11 (broadcastInDim S1x512 ![1] bcast_S512_S1x512_1 : (⟨S512, .i32⟩ : BufTy).Contents (Elt F) → (⟨S1x512, .i32⟩ : BufTy).Contents (Elt F)),
    StableHlo.nullary main_cst_1 (constant S_ .f32 0x00000000#32),
    StableHlo.unary main_cst_1 main_v12 (broadcastInDim S8x512 ![] bcast_S_S8x512 : (⟨S_, .f32⟩ : BufTy).Contents (Elt F) → (⟨S8x512, .f32⟩ : BufTy).Contents (Elt F)),
    StableHlo.nullary main_v13 (iotaInDim S2048 32 0),
    StableHlo.nullary main_cst_2 (constant S_ .f32 0x00000000#32),
    StableHlo.unary main_cst_2 main_v14 (broadcastInDim S2048x8x512 ![] bcast_S_S2048x8x512 : (⟨S_, .f32⟩ : BufTy).Contents (Elt F) → (⟨S2048x8x512, .f32⟩ : BufTy).Contents (Elt F)),
    StableHlo.nullary main_c (constantI S_ 32 0#32),
    StableHlo.unary main_v13 main_v15_0 id,
    StableHlo.unary main_v0 main_v15_1 id,
    StableHlo.unary main_v11 main_v15_2 id,
    StableHlo.unary main_v4 main_v15_3 id,
    StableHlo.unary main_v8 main_v15_4 id,
    StableHlo.unary main_c main_v15_5 id,
    StableHlo.unary main_v12 main_v15_6 id,
    StableHlo.unary main_v14 main_v15_7 id ]
theorem hostOps0_sub : (hostOps0 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.reshape_bufs_sub .., StableHlo.unary_bufs_sub .., StableHlo.nullary_bufs_sub .., StableHlo.binary_bufs_sub .., StableHlo.unary_bufs_sub .., StableHlo.reshape_bufs_sub .., StableHlo.unary_bufs_sub .., StableHlo.nullary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
abbrev hostOps0_1 : List (HloOp τ sig (Elt F)) :=
  [ StableHlo.nullary main_c_3 (constantI S_ 32 1#32),
    StableHlo.unary main_c_3 main_v16 (broadcastInDim S8 ![] bcast_S_S8 : (⟨S_, .i32⟩ : BufTy).Contents (Elt F) → (⟨S8, .i32⟩ : BufTy).Contents (Elt F)),
    StableHlo.binary main_v4 main_v16 main_v17 (subi : (⟨S8, .i32⟩ : BufTy).Contents (Elt F) → (⟨S8, .i32⟩ : BufTy).Contents (Elt F) → (⟨S8, .i32⟩ : BufTy).Contents (Elt F)),
    StableHlo.nullary main_v18 (iotaInDim S2048 32 0),
    StableHlo.nullary main_cst_4 (constant S_ .f32 0x00000000#32),
    StableHlo.unary main_cst_4 main_v19 (broadcastInDim S2048x8x512 ![] bcast_S_S2048x8x512 : (⟨S_, .f32⟩ : BufTy).Contents (Elt F) → (⟨S2048x8x512, .f32⟩ : BufTy).Contents (Elt F)),
    StableHlo.nullary main_c_5 (constantI S_ 32 0#32),
    StableHlo.unary main_v18 main_v20_0 id,
    StableHlo.unary main_v8 main_v20_1 id,
    StableHlo.unary main_v11 main_v20_2 id,
    StableHlo.unary main_v15_7 main_v20_3 id,
    StableHlo.unary main_v9 main_v20_4 id,
    StableHlo.unary main_c_5 main_v20_5 id,
    StableHlo.unary main_v17 main_v20_6 id,
    StableHlo.unary main_v19 main_v20_7 id ]
theorem hostOps0_1_sub : (hostOps0_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
abbrev hostOps0_2 : List (HloOp τ sig (Elt F)) :=
  [ StableHlo.unary main_v20_7 main_v21 ((transpose S8x512x2048 [1, 2, 0] · transposes_S2048x8x512_S8x512x2048_1_2_0) : (⟨S2048x8x512, .f32⟩ : BufTy).Contents (Elt F) → (⟨S8x512x2048, .f32⟩ : BufTy).Contents (Elt F)) ]
theorem hostOps0_2_sub : (hostOps0_2 : List (HloOp τ sig (Elt F))).Forall fun op => op.bufs ⊆ StableHlo.tcRefs τ sig :=
  StableHlo.unary_bufs_sub ..
theorem main_chain (c : Dev nD) : main (F := F) c = (Pipeline.chain
  [ StableHlo.seq hostOps0,
    HostLoop.enter 0,
    StableHlo.seq hostOps0_1,
    HostLoop.enter 1,
    StableHlo.seq hostOps0_2 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

abbrev while0Ops0 : List (HloOp τ sig (Elt F)) :=
  [ StableHlo.TRef.unaryIndexed (.of main_v15_0 : StableHlo.TRef sig ⟨S2048, .i32⟩) ![(.of main_v15_5 : StableHlo.TRef sig ⟨S_, .i32⟩)] (.of main_while0b_call0_v0 : StableHlo.TRef sig ⟨S1, .i32⟩) (fun x i => Host.dynamicSlice S1 x (fun k => (i k (Shape.Idx.first h_S_)).toInt) sliceFits_S2048_S1),
    StableHlo.TRef.reshape (.of main_while0b_call0_v0 : StableHlo.TRef sig ⟨S1, .i32⟩) (.of main_while0b_v22 : StableHlo.TRef sig ⟨S_, .i32⟩) (rfl : (.i32 : EltTy) = .i32) shapeCasts_S1_S_ ]
theorem while0Ops0_sub : (while0Ops0 : List (HloOp τ sig (Elt F))).Forall fun op => op.bufs ⊆ StableHlo.tcRefs τ sig :=
  ⟨StableHlo.unaryIndexed_bufs_sub .., StableHlo.reshape_bufs_sub ..⟩
abbrev while0Ops0_1 : List (HloOp τ sig (Elt F)) :=
  [ StableHlo.TRef.nullary (.of main_while0b_call1_c : StableHlo.TRef sig ⟨S_, .i32⟩) (constantI S_ 32 0#32),
    StableHlo.TRef.binary (.of main_while0b_v22 : StableHlo.TRef sig ⟨S_, .i32⟩) (.of main_while0b_call1_c : StableHlo.TRef sig ⟨S_, .i32⟩) (.of main_while0b_call1_v0 : StableHlo.TRef sig ⟨S_, .i1⟩) (cmpi .slt),
    StableHlo.TRef.nullary (.of main_while0b_call1_c_0 : StableHlo.TRef sig ⟨S_, .i32⟩) (constantI S_ 32 2048#32),
    StableHlo.TRef.binary (.of main_while0b_v22 : StableHlo.TRef sig ⟨S_, .i32⟩) (.of main_while0b_call1_c_0 : StableHlo.TRef sig ⟨S_, .i32⟩) (.of main_while0b_call1_v1 : StableHlo.TRef sig ⟨S_, .i32⟩) addi,
    StableHlo.TRef.ternary (.of main_while0b_call1_v0 : StableHlo.TRef sig ⟨S_, .i1⟩) (.of main_while0b_call1_v1 : StableHlo.TRef sig ⟨S_, .i32⟩) (.of main_while0b_v22 : StableHlo.TRef sig ⟨S_, .i32⟩) (.of main_while0b_call1_v2 : StableHlo.TRef sig ⟨S_, .i32⟩) select,
    StableHlo.TRef.nullary (.of main_while0b_call1_c_1 : StableHlo.TRef sig ⟨S_, .i32⟩) (constantI S_ 32 0#32),
    StableHlo.TRef.nullary (.of main_while0b_call1_c_2 : StableHlo.TRef sig ⟨S_, .i32⟩) (constantI S_ 32 0#32),
    StableHlo.TRef.unaryIndexed (.of main_v15_1 : StableHlo.TRef sig ⟨S8x512x2048, .f32⟩) ![(.of main_while0b_call1_c_1 : StableHlo.TRef sig ⟨S_, .i32⟩), (.of main_while0b_call1_c_2 : StableHlo.TRef sig ⟨S_, .i32⟩), (.of main_while0b_call1_v2 : StableHlo.TRef sig ⟨S_, .i32⟩)] (.of main_while0b_call1_v3 : StableHlo.TRef sig ⟨S8x512x1, .f32⟩) (fun x i => Host.dynamicSlice S8x512x1 x (fun k => (i k (Shape.Idx.first h_S_)).toInt) sliceFits_S8x512x2048_S8x512x1),
    StableHlo.TRef.reshape (.of main_while0b_call1_v3 : StableHlo.TRef sig ⟨S8x512x1, .f32⟩) (.of main_while0b_v23 : StableHlo.TRef sig ⟨S8x512, .f32⟩) (rfl : (.f32 : EltTy) = .f32) shapeCasts_S8x512x1_S8x512 ]
theorem while0Ops0_1_sub : (while0Ops0_1 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.unaryIndexed_bufs_sub .., StableHlo.reshape_bufs_sub ..⟩
abbrev while0Ops0_2 : List (HloOp τ sig (Elt F)) :=
  [ StableHlo.unary main_while0b_v22 main_while0b_v24 (broadcastInDim S1x512 ![] bcast_S_S1x512 : (⟨S_, .i32⟩ : BufTy).Contents (Elt F) → (⟨S1x512, .i32⟩ : BufTy).Contents (Elt F)),
    StableHlo.binary main_v15_2 main_while0b_v24 main_while0b_v25 (cmpi .eq : (⟨S1x512, .i32⟩ : BufTy).Contents (Elt F) → (⟨S1x512, .i32⟩ : BufTy).Contents (Elt F) → (⟨S1x512, .i1⟩ : BufTy).Contents (Elt F)),
    StableHlo.nullary main_while0b_cst_13 (constant S_ .f32 0xCB189680#32) ]
theorem while0Ops0_2_sub : (while0Ops0_2 : List (HloOp τ sig (Elt F))).Forall fun op => op.bufs ⊆ StableHlo.tcRefs τ sig :=
  ⟨StableHlo.unary_bufs_sub .., StableHlo.binary_bufs_sub .., StableHlo.nullary_bufs_sub ..⟩
abbrev while0Ops0_3 : List (HloOp τ sig (Elt F)) :=
  [ StableHlo.TRef.unary (.of main_while0b_cst_13 : StableHlo.TRef sig ⟨S_, .f32⟩) (.of main_while0b_call2_v0 : StableHlo.TRef sig ⟨S_, .f32⟩) id,
    StableHlo.TRef.unary (.of main_while0b_v25 : StableHlo.TRef sig ⟨S1x512, .i1⟩) (.of main_while0b_call2_v1 : StableHlo.TRef sig ⟨S8x512, .i1⟩) (broadcastInDim S8x512 ![0, 1] bcast_S1x512_S8x512_0_1),
    StableHlo.TRef.unary (.of main_while0b_call2_v0 : StableHlo.TRef sig ⟨S_, .f32⟩) (.of main_while0b_call2_v2 : StableHlo.TRef sig ⟨S8x512, .f32⟩) (broadcastInDim S8x512 ![] bcast_S_S8x512),
    StableHlo.TRef.ternary (.of main_while0b_call2_v1 : StableHlo.TRef sig ⟨S8x512, .i1⟩) (.of main_while0b_call2_v2 : StableHlo.TRef sig ⟨S8x512, .f32⟩) (.of main_v15_6 : StableHlo.TRef sig ⟨S8x512, .f32⟩) (.of main_while0b_v26 : StableHlo.TRef sig ⟨S8x512, .f32⟩) select ]
theorem while0Ops0_3_sub : (while0Ops0_3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
abbrev while0Ops0_4 : List (HloOp τ sig (Elt F)) :=
  [ StableHlo.nullary main_while0b_c_14 (constantI S_ 32 0#32),
    StableHlo.binary main_while0b_v22 main_while0b_c_14 main_while0b_v27 (cmpi .eq : (⟨S_, .i32⟩ : BufTy).Contents (Elt F) → (⟨S_, .i32⟩ : BufTy).Contents (Elt F) → (⟨S_, .i1⟩ : BufTy).Contents (Elt F)),
    StableHlo.nullary main_while0b_cst_15 (constant S_ .f32 0x00000000#32),
    StableHlo.nullary main_while0b_cst_16 (constant S_ .f32 0xCB189680#32) ]
theorem while0Ops0_4_sub : (while0Ops0_4 : List (HloOp τ sig (Elt F))).Forall fun op => op.bufs ⊆ StableHlo.tcRefs τ sig :=
  ⟨StableHlo.nullary_bufs_sub .., StableHlo.binary_bufs_sub .., StableHlo.nullary_bufs_sub .., StableHlo.nullary_bufs_sub ..⟩
abbrev while0Ops0_5 : List (HloOp τ sig (Elt F)) :=
  [ StableHlo.TRef.ternary (.of main_while0b_v27 : StableHlo.TRef sig ⟨S_, .i1⟩) (.of main_while0b_cst_15 : StableHlo.TRef sig ⟨S_, .f32⟩) (.of main_while0b_cst_16 : StableHlo.TRef sig ⟨S_, .f32⟩) (.of main_while0b_v28 : StableHlo.TRef sig ⟨S_, .f32⟩) select ]
theorem while0Ops0_5_sub : (while0Ops0_5 : List (HloOp τ sig (Elt F))).Forall fun op => op.bufs ⊆ StableHlo.tcRefs τ sig :=
  StableHlo.ternary_bufs_sub ..
abbrev while0Ops0_6 : List (HloOp τ sig (Elt F)) :=
  [ StableHlo.unary main_while0b_v28 main_while0b_v29 (broadcastInDim S8x1 ![] bcast_S_S8x1 : (⟨S_, .f32⟩ : BufTy).Contents (Elt F) → (⟨S8x1, .f32⟩ : BufTy).Contents (Elt F)),
    StableHlo.unary main_v15_6 main_while0b_v30 ((extractStridedSlice S8x511 ![0, 0] · slices_S8x512_S8x511_0_0) : (⟨S8x512, .f32⟩ : BufTy).Contents (Elt F) → (⟨S8x511, .f32⟩ : BufTy).Contents (Elt F)),
    StableHlo.unary main_while0b_v29 main_while0b_v31 (id : (⟨S8x1, .f32⟩ : BufTy).Contents (Elt F) → (⟨S8x1, .f32⟩ : BufTy).Contents (Elt F)),
    StableHlo.binary main_while0b_v31 main_while0b_v30 main_while0b_v32 ((fun a b => concatenate S8x512 1 [⟨S8x1, a⟩, ⟨S8x511, b⟩] concatenates_S8x1_S8x511_S8x512_d1) : (⟨S8x1, .f32⟩ : BufTy).Contents (Elt F) → (⟨S8x511, .f32⟩ : BufTy).Contents (Elt F) → (⟨S8x512, .f32⟩ : BufTy).Contents (Elt F)),
    StableHlo.binary main_while0b_v26 main_while0b_v32 main_while0b_v33 (maximumf : (⟨S8x512, .f32⟩ : BufTy).Contents (Elt F) → (⟨S8x512, .f32⟩ : BufTy).Contents (Elt F) → (⟨S8x512, .f32⟩ : BufTy).Contents (Elt F)),
    StableHlo.unary main_while0b_v22 main_while0b_v34 (broadcastInDim S8 ![] bcast_S_S8 : (⟨S_, .i32⟩ : BufTy).Contents (Elt F) → (⟨S8, .i32⟩ : BufTy).Contents (Elt F)),
    StableHlo.binary main_v15_3 main_while0b_v34 main_while0b_v35 (addi : (⟨S8, .i32⟩ : BufTy).Contents (Elt F) → (⟨S8, .i32⟩ : BufTy).Contents (Elt F) → (⟨S8, .i32⟩ : BufTy).Contents (Elt F)),
    StableHlo.binary main_while0b_v35 main_v15_4 main_while0b_v36 (subi : (⟨S8, .i32⟩ : BufTy).Contents (Elt F) → (⟨S8, .i32⟩ : BufTy).Contents (Elt F) → (⟨S8, .i32⟩ : BufTy).Contents (Elt F)),
    StableHlo.nullary main_while0b_c_17 (constantI S_ 32 0#32),
    StableHlo.unary main_while0b_c_17 main_while0b_v37 (broadcastInDim S8 ![] bcast_S_S8 : (⟨S_, .i32⟩ : BufTy).Contents (Elt F) → (⟨S8, .i32⟩ : BufTy).Contents (Elt F)),
    StableHlo.binary main_while0b_v37 main_while0b_v36 main_while0b_v38 (maxsi : (⟨S8, .i32⟩ : BufTy).Contents (Elt F) → (⟨S8, .i32⟩ : BufTy).Contents (Elt F) → (⟨S8, .i32⟩ : BufTy).Contents (Elt F)),
    StableHlo.unary main_while0b_v38 main_while0b_v39 (broadcastInDim S8x1 ![0] bcast_S8_S8x1_0 : (⟨S8, .i32⟩ : BufTy).Contents (Elt F) → (⟨S8x1, .i32⟩ : BufTy).Contents (Elt F)),
    StableHlo.nullary main_while0b_c_18 (constantI S_ 32 1#32),
    StableHlo.binary main_while0b_v22 main_while0b_c_18 main_while0b_v40 (addi : (⟨S_, .i32⟩ : BufTy).Contents (Elt F) → (⟨S_, .i32⟩ : BufTy).Contents (Elt F) → (⟨S_, .i32⟩ : BufTy).Contents (Elt F)),
    StableHlo.unary main_while0b_v40 main_while0b_v41 (broadcastInDim S8 ![] bcast_S_S8 : (⟨S_, .i32⟩ : BufTy).Contents (Elt F) → (⟨S8, .i32⟩ : BufTy).Contents (Elt F)),
    StableHlo.binary main_v15_3 main_while0b_v41 main_while0b_v42 (minsi : (⟨S8, .i32⟩ : BufTy).Contents (Elt F) → (⟨S8, .i32⟩ : BufTy).Contents (Elt F) → (⟨S8, .i32⟩ : BufTy).Contents (Elt F)),
    StableHlo.unary main_while0b_v42 main_while0b_v43 (broadcastInDim S8x1 ![0] bcast_S8_S8x1_0 : (⟨S8, .i32⟩ : BufTy).Contents (Elt F) → (⟨S8x1, .i32⟩ : BufTy).Contents (Elt F)),
    StableHlo.unary main_v15_2 main_while0b_v44 (broadcastInDim S8x512 ![0, 1] bcast_S1x512_S8x512_0_1 : (⟨S1x512, .i32⟩ : BufTy).Contents (Elt F) → (⟨S8x512, .i32⟩ : BufTy).Contents (Elt F)),
    StableHlo.unary main_while0b_v39 main_while0b_v45 (broadcastInDim S8x512 ![0, 1] bcast_S8x1_S8x512_0_1 : (⟨S8x1, .i32⟩ : BufTy).Contents (Elt F) → (⟨S8x512, .i32⟩ : BufTy).Contents (Elt F)),
    StableHlo.binary main_while0b_v44 main_while0b_v45 main_while0b_v46 (cmpi .sge : (⟨S8x512, .i32⟩ : BufTy).Contents (Elt F) → (⟨S8x512, .i32⟩ : BufTy).Contents (Elt F) → (⟨S8x512, .i1⟩ : BufTy).Contents (Elt F)),
    StableHlo.unary main_v15_2 main_while0b_v47 (broadcastInDim S8x512 ![0, 1] bcast_S1x512_S8x512_0_1 : (⟨S1x512, .i32⟩ : BufTy).Contents (Elt F) → (⟨S8x512, .i32⟩ : BufTy).Contents (Elt F)),
    StableHlo.unary main_while0b_v43 main_while0b_v48 (broadcastInDim S8x512 ![0, 1] bcast_S8x1_S8x512_0_1 : (⟨S8x1, .i32⟩ : BufTy).Contents (Elt F) → (⟨S8x512, .i32⟩ : BufTy).Contents (Elt F)),
    StableHlo.binary main_while0b_v47 main_while0b_v48 main_while0b_v49 (cmpi .slt : (⟨S8x512, .i32⟩ : BufTy).Contents (Elt F) → (⟨S8x512, .i32⟩ : BufTy).Contents (Elt F) → (⟨S8x512, .i1⟩ : BufTy).Contents (Elt F)),
    StableHlo.binary main_while0b_v46 main_while0b_v49 main_while0b_v50 (andi : (⟨S8x512, .i1⟩ : BufTy).Contents (Elt F) → (⟨S8x512, .i1⟩ : BufTy).Contents (Elt F) → (⟨S8x512, .i1⟩ : BufTy).Contents (Elt F)),
    StableHlo.binary main_while0b_v23 main_while0b_v33 main_while0b_v51 (addf : (⟨S8x512, .f32⟩ : BufTy).Contents (Elt F) → (⟨S8x512, .f32⟩ : BufTy).Contents (Elt F) → (⟨S8x512, .f32⟩ : BufTy).Contents (Elt F)) ]
theorem while0Ops0_6_sub : (while0Ops0_6 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.binary_bufs_sub ..⟩
abbrev while0Ops0_7 : List (HloOp τ sig (Elt F)) :=
  [ StableHlo.TRef.ternary (.of main_while0b_v50 : StableHlo.TRef sig ⟨S8x512, .i1⟩) (.of main_while0b_v51 : StableHlo.TRef sig ⟨S8x512, .f32⟩) (.of main_while0b_v23 : StableHlo.TRef sig ⟨S8x512, .f32⟩) (.of main_while0b_v52 : StableHlo.TRef sig ⟨S8x512, .f32⟩) select ]
theorem while0Ops0_7_sub : (while0Ops0_7 : List (HloOp τ sig (Elt F))).Forall fun op => op.bufs ⊆ StableHlo.tcRefs τ sig :=
  StableHlo.ternary_bufs_sub ..
abbrev while0Ops0_8 : List (HloOp τ sig (Elt F)) :=
  [ StableHlo.TRef.unary (.of main_while0b_v52 : StableHlo.TRef sig ⟨S8x512, .f32⟩) (.of main_while0b_call5_v0 : StableHlo.TRef sig ⟨S1x8x512, .f32⟩) (broadcastInDim S1x8x512 ![1, 2] bcast_S8x512_S1x8x512_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v15_7 : StableHlo.TRef sig ⟨S2048x8x512, .f32⟩) (.of main_while0b_call5_v0 : StableHlo.TRef sig ⟨S1x8x512, .f32⟩) ![(.of main_v15_5 : StableHlo.TRef sig ⟨S_, .i32⟩), (.of main_while0b_call5_c : StableHlo.TRef sig ⟨S_, .i32⟩), (.of main_while0b_call5_c_0 : StableHlo.TRef sig ⟨S_, .i32⟩)] (.of main_while0b_v53 : StableHlo.TRef sig ⟨S2048x8x512, .f32⟩) (fun x u i => Host.dynamicUpdateSlice x u (fun k => (i k (Shape.Idx.first h_S_)).toInt) updateFits_S2048x8x512_S1x8x512) ]
theorem while0Ops0_8_sub : (while0Ops0_8 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
abbrev while0Ops0_9 : List (HloOp τ sig (Elt F)) :=
  [ StableHlo.nullary main_while0b_c_19 (constantI S_ 32 1#32),
    StableHlo.binary main_v15_5 main_while0b_c_19 main_while0b_v54 (addi : (⟨S_, .i32⟩ : BufTy).Contents (Elt F) → (⟨S_, .i32⟩ : BufTy).Contents (Elt F) → (⟨S_, .i32⟩ : BufTy).Contents (Elt F)),
    StableHlo.unary main_while0b_v54 main_v15_5 id,
    StableHlo.unary main_while0b_v52 main_v15_6 id,
    StableHlo.unary main_while0b_v53 main_v15_7 id ]
theorem while0Ops0_9_sub : (while0Ops0_9 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, StableHlo.chain_seq_cons, Pipeline.chain_cons, StableHlo.chain_seq_cons, Pipeline.chain_cons, Pipeline.chain_cons, StableHlo.chain_seq_cons]
  chain_rfl

abbrev while1Ops0 : List (HloOp τ sig (Elt F)) :=
  [ StableHlo.nullary main_while1b_c_13 (constantI S_ 32 2048#32),
    StableHlo.binary main_while1b_c_13 main_v20_5 main_while1b_v22 (subi : (⟨S_, .i32⟩ : BufTy).Contents (Elt F) → (⟨S_, .i32⟩ : BufTy).Contents (Elt F) → (⟨S_, .i32⟩ : BufTy).Contents (Elt F)),
    StableHlo.nullary main_while1b_c_14 (constantI S_ 32 1#32),
    StableHlo.binary main_while1b_v22 main_while1b_c_14 main_while1b_v23 (subi : (⟨S_, .i32⟩ : BufTy).Contents (Elt F) → (⟨S_, .i32⟩ : BufTy).Contents (Elt F) → (⟨S_, .i32⟩ : BufTy).Contents (Elt F)) ]
theorem while1Ops0_sub : (while1Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
abbrev while1Ops0_1 : List (HloOp τ sig (Elt F)) :=
  [ StableHlo.TRef.unaryIndexed (.of main_v20_0 : StableHlo.TRef sig ⟨S2048, .i32⟩) ![(.of main_while1b_v23 : StableHlo.TRef sig ⟨S_, .i32⟩)] (.of main_while1b_call6_v0 : StableHlo.TRef sig ⟨S1, .i32⟩) (fun x i => Host.dynamicSlice S1 x (fun k => (i k (Shape.Idx.first h_S_)).toInt) sliceFits_S2048_S1),
    StableHlo.TRef.reshape (.of main_while1b_call6_v0 : StableHlo.TRef sig ⟨S1, .i32⟩) (.of main_while1b_v24 : StableHlo.TRef sig ⟨S_, .i32⟩) (rfl : (.i32 : EltTy) = .i32) shapeCasts_S1_S_ ]
theorem while1Ops0_1_sub : (while1Ops0_1 : List (HloOp τ sig (Elt F))).Forall fun op => op.bufs ⊆ StableHlo.tcRefs τ sig :=
  ⟨StableHlo.unaryIndexed_bufs_sub .., StableHlo.reshape_bufs_sub ..⟩
abbrev while1Ops0_2 : List (HloOp τ sig (Elt F)) :=
  [ StableHlo.unary main_while1b_v24 main_while1b_v25 (broadcastInDim S8 ![] bcast_S_S8 : (⟨S_, .i32⟩ : BufTy).Contents (Elt F) → (⟨S8, .i32⟩ : BufTy).Contents (Elt F)),
    StableHlo.binary main_while1b_v25 main_v20_1 main_while1b_v26 (cmpi .slt : (⟨S8, .i32⟩ : BufTy).Contents (Elt F) → (⟨S8, .i32⟩ : BufTy).Contents (Elt F) → (⟨S8, .i1⟩ : BufTy).Contents (Elt F)),
    StableHlo.unary main_v20_6 main_while1b_v27 (broadcastInDim S8x1 ![0] bcast_S8_S8x1_0 : (⟨S8, .i32⟩ : BufTy).Contents (Elt F) → (⟨S8x1, .i32⟩ : BufTy).Contents (Elt F)),
    StableHlo.unary main_v20_2 main_while1b_v28 (broadcastInDim S8x512 ![0, 1] bcast_S1x512_S8x512_0_1 : (⟨S1x512, .i32⟩ : BufTy).Contents (Elt F) → (⟨S8x512, .i32⟩ : BufTy).Contents (Elt F)),
    StableHlo.unary main_while1b_v27 main_while1b_v29 (broadcastInDim S8x512 ![0, 1] bcast_S8x1_S8x512_0_1 : (⟨S8x1, .i32⟩ : BufTy).Contents (Elt F) → (⟨S8x512, .i32⟩ : BufTy).Contents (Elt F)),
    StableHlo.binary main_while1b_v28 main_while1b_v29 main_while1b_v30 (cmpi .eq : (⟨S8x512, .i32⟩ : BufTy).Contents (Elt F) → (⟨S8x512, .i32⟩ : BufTy).Contents (Elt F) → (⟨S8x512, .i1⟩ : BufTy).Contents (Elt F)),
    StableHlo.unary main_while1b_v26 main_while1b_v31 (broadcastInDim S8x1 ![0] bcast_S8_S8x1_0 : (⟨S8, .i1⟩ : BufTy).Contents (Elt F) → (⟨S8x1, .i1⟩ : BufTy).Contents (Elt F)),
    StableHlo.unary main_while1b_v31 main_while1b_v32 (broadcastInDim S8x512 ![0, 1] bcast_S8x1_S8x512_0_1 : (⟨S8x1, .i1⟩ : BufTy).Contents (Elt F) → (⟨S8x512, .i1⟩ : BufTy).Contents (Elt F)),
    StableHlo.binary main_while1b_v30 main_while1b_v32 main_while1b_v33 (andi : (⟨S8x512, .i1⟩ : BufTy).Contents (Elt F) → (⟨S8x512, .i1⟩ : BufTy).Contents (Elt F) → (⟨S8x512, .i1⟩ : BufTy).Contents (Elt F)),
    StableHlo.nullary main_while1b_cst_15 (constant S_ .f32 0x3F800000#32),
    StableHlo.nullary main_while1b_cst_16 (constant S_ .f32 0x00000000#32) ]
theorem while1Ops0_2_sub : (while1Ops0_2 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub ..⟩
abbrev while1Ops0_3 : List (HloOp τ sig (Elt F)) :=
  [ StableHlo.TRef.unary (.of main_while1b_cst_15 : StableHlo.TRef sig ⟨S_, .f32⟩) (.of main_while1b_call7_v0 : StableHlo.TRef sig ⟨S8x512, .f32⟩) (broadcastInDim S8x512 ![] bcast_S_S8x512),
    StableHlo.TRef.unary (.of main_while1b_cst_16 : StableHlo.TRef sig ⟨S_, .f32⟩) (.of main_while1b_call7_v1 : StableHlo.TRef sig ⟨S8x512, .f32⟩) (broadcastInDim S8x512 ![] bcast_S_S8x512),
    StableHlo.TRef.ternary (.of main_while1b_v33 : StableHlo.TRef sig ⟨S8x512, .i1⟩) (.of main_while1b_call7_v0 : StableHlo.TRef sig ⟨S8x512, .f32⟩) (.of main_while1b_call7_v1 : StableHlo.TRef sig ⟨S8x512, .f32⟩) (.of main_while1b_v34 : StableHlo.TRef sig ⟨S8x512, .f32⟩) select ]
theorem while1Ops0_3_sub : (while1Ops0_3 : List (HloOp τ sig (Elt F))).Forall fun op => op.bufs ⊆ StableHlo.tcRefs τ sig :=
  ⟨StableHlo.unary_bufs_sub .., StableHlo.unary_bufs_sub .., StableHlo.ternary_bufs_sub ..⟩
abbrev while1Ops0_4 : List (HloOp τ sig (Elt F)) :=
  [ StableHlo.nullary main_while1b_c_17 (constantI S_ 32 1#32),
    StableHlo.binary main_while1b_v24 main_while1b_c_17 main_while1b_v35 (subi : (⟨S_, .i32⟩ : BufTy).Contents (Elt F) → (⟨S_, .i32⟩ : BufTy).Contents (Elt F) → (⟨S_, .i32⟩ : BufTy).Contents (Elt F)),
    StableHlo.nullary main_while1b_c_18 (constantI S_ 32 2048#32) ]
theorem while1Ops0_4_sub : (while1Ops0_4 : List (HloOp τ sig (Elt F))).Forall fun op => op.bufs ⊆ StableHlo.tcRefs τ sig :=
  ⟨StableHlo.nullary_bufs_sub .., StableHlo.binary_bufs_sub .., StableHlo.nullary_bufs_sub ..⟩
abbrev while1Ops0_5 : List (HloOp τ sig (Elt F)) :=
  [ StableHlo.TRef.unary (.of main_while1b_c_18 : StableHlo.TRef sig ⟨S_, .i32⟩) (.of main_while1b_call8_v0 : StableHlo.TRef sig ⟨S_, .i32⟩) id,
    StableHlo.TRef.nullary (.of main_while1b_call8_c : StableHlo.TRef sig ⟨S_, .i32⟩) (constantI S_ 32 0#32),
    StableHlo.TRef.binary (.of main_while1b_call8_v0 : StableHlo.TRef sig ⟨S_, .i32⟩) (.of main_while1b_call8_c : StableHlo.TRef sig ⟨S_, .i32⟩) (.of main_while1b_call8_v1 : StableHlo.TRef sig ⟨S_, .i1⟩) (cmpi .eq),
    StableHlo.TRef.nullary (.of main_while1b_call8_c_0 : StableHlo.TRef sig ⟨S_, .i32⟩) (constantI S_ 32 1#32),
    StableHlo.TRef.ternary (.of main_while1b_call8_v1 : StableHlo.TRef sig ⟨S_, .i1⟩) (.of main_while1b_call8_c_0 : StableHlo.TRef sig ⟨S_, .i32⟩) (.of main_while1b_call8_v0 : StableHlo.TRef sig ⟨S_, .i32⟩) (.of main_while1b_call8_v2 : StableHlo.TRef sig ⟨S_, .i32⟩) select,
    StableHlo.TRef.binary (.of main_while1b_v35 : StableHlo.TRef sig ⟨S_, .i32⟩) main_while1b_call8_call0.v0 (.of main_while1b_call8_v3 : StableHlo.TRef sig ⟨S_, .i32⟩) Host.remsi,
    StableHlo.TRef.nullary (.of main_while1b_call8_c_1 : StableHlo.TRef sig ⟨S_, .i32⟩) (constantI S_ 32 0#32),
    StableHlo.TRef.binary (.of main_while1b_call8_v3 : StableHlo.TRef sig ⟨S_, .i32⟩) (.of main_while1b_call8_c_1 : StableHlo.TRef sig ⟨S_, .i32⟩) (.of main_while1b_call8_v4 : StableHlo.TRef sig ⟨S_, .i1⟩) (cmpi .ne),
    StableHlo.TRef.nullary (.of main_while1b_call8_c_2 : StableHlo.TRef sig ⟨S_, .i32⟩) (constantI S_ 32 0#32),
    StableHlo.TRef.binary (.of main_while1b_call8_v3 : StableHlo.TRef sig ⟨S_, .i32⟩) (.of main_while1b_call8_c_2 : StableHlo.TRef sig ⟨S_, .i32⟩) (.of main_while1b_call8_v5 : StableHlo.TRef sig ⟨S_, .i1⟩) (cmpi .slt),
    StableHlo.TRef.nullary (.of main_while1b_call8_c_3 : StableHlo.TRef sig ⟨S_, .i32⟩) (constantI S_ 32 0#32),
    StableHlo.TRef.binary main_while1b_call8_call0.v0 (.of main_while1b_call8_c_3 : StableHlo.TRef sig ⟨S_, .i32⟩) (.of main_while1b_call8_v6 : StableHlo.TRef sig ⟨S_, .i1⟩) (cmpi .slt),
    StableHlo.TRef.binary (.of main_while1b_call8_v5 : StableHlo.TRef sig ⟨S_, .i1⟩) (.of main_while1b_call8_v6 : StableHlo.TRef sig ⟨S_, .i1⟩) (.of main_while1b_call8_v7 : StableHlo.TRef sig ⟨S_, .i1⟩) (cmpi .ne),
    StableHlo.TRef.binary (.of main_while1b_call8_v7 : StableHlo.TRef sig ⟨S_, .i1⟩) (.of main_while1b_call8_v4 : StableHlo.TRef sig ⟨S_, .i1⟩) (.of main_while1b_call8_v8 : StableHlo.TRef sig ⟨S_, .i1⟩) andi,
    StableHlo.TRef.binary (.of main_while1b_call8_v3 : StableHlo.TRef sig ⟨S_, .i32⟩) main_while1b_call8_call0.v0 (.of main_while1b_call8_v9 : StableHlo.TRef sig ⟨S_, .i32⟩) addi,
    StableHlo.TRef.ternary (.of main_while1b_call8_v8 : StableHlo.TRef sig ⟨S_, .i1⟩) (.of main_while1b_call8_v9 : StableHlo.TRef sig ⟨S_, .i32⟩) (.of main_while1b_call8_v3 : StableHlo.TRef sig ⟨S_, .i32⟩) (.of main_while1b_v36 : StableHlo.TRef sig ⟨S_, .i32⟩) select ]
theorem while1Ops0_5_sub : (while1Ops0_5 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.binary_bufs_sub .., StableHlo.binary_bufs_sub .., StableHlo.ternary_bufs_sub ..⟩
abbrev while1Ops0_6 : List (HloOp τ sig (Elt F)) :=
  [ StableHlo.TRef.nullary (.of main_while1b_call9_c : StableHlo.TRef sig ⟨S_, .i32⟩) (constantI S_ 32 0#32),
    StableHlo.TRef.binary (.of main_while1b_v36 : StableHlo.TRef sig ⟨S_, .i32⟩) (.of main_while1b_call9_c : StableHlo.TRef sig ⟨S_, .i32⟩) (.of main_while1b_call9_v0 : StableHlo.TRef sig ⟨S_, .i1⟩) (cmpi .slt),
    StableHlo.TRef.nullary (.of main_while1b_call9_c_0 : StableHlo.TRef sig ⟨S_, .i32⟩) (constantI S_ 32 2048#32),
    StableHlo.TRef.binary (.of main_while1b_v36 : StableHlo.TRef sig ⟨S_, .i32⟩) (.of main_while1b_call9_c_0 : StableHlo.TRef sig ⟨S_, .i32⟩) (.of main_while1b_call9_v1 : StableHlo.TRef sig ⟨S_, .i32⟩) addi,
    StableHlo.TRef.ternary (.of main_while1b_call9_v0 : StableHlo.TRef sig ⟨S_, .i1⟩) (.of main_while1b_call9_v1 : StableHlo.TRef sig ⟨S_, .i32⟩) (.of main_while1b_v36 : StableHlo.TRef sig ⟨S_, .i32⟩) (.of main_while1b_call9_v2 : StableHlo.TRef sig ⟨S_, .i32⟩) select,
    StableHlo.TRef.nullary (.of main_while1b_call9_c_1 : StableHlo.TRef sig ⟨S_, .i32⟩) (constantI S_ 32 0#32),
    StableHlo.TRef.nullary (.of main_while1b_call9_c_2 : StableHlo.TRef sig ⟨S_, .i32⟩) (constantI S_ 32 0#32),
    StableHlo.TRef.unaryIndexed (.of main_v20_3 : StableHlo.TRef sig ⟨S2048x8x512, .f32⟩) ![(.of main_while1b_call9_v2 : StableHlo.TRef sig ⟨S_, .i32⟩), (.of main_while1b_call9_c_1 : StableHlo.TRef sig ⟨S_, .i32⟩), (.of main_while1b_call9_c_2 : StableHlo.TRef sig ⟨S_, .i32⟩)] (.of main_while1b_call9_v3 : StableHlo.TRef sig ⟨S1x8x512, .f32⟩) (fun x i => Host.dynamicSlice S1x8x512 x (fun k => (i k (Shape.Idx.first h_S_)).toInt) sliceFits_S2048x8x512_S1x8x512),
    StableHlo.TRef.reshape (.of main_while1b_call9_v3 : StableHlo.TRef sig ⟨S1x8x512, .f32⟩) (.of main_while1b_v37 : StableHlo.TRef sig ⟨S8x512, .f32⟩) (rfl : (.f32 : EltTy) = .f32) shapeCasts_S1x8x512_S8x512 ]
theorem while1Ops0_6_sub : (while1Ops0_6 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.unaryIndexed_bufs_sub .., StableHlo.reshape_bufs_sub ..⟩
abbrev while1Ops0_7 : List (HloOp τ sig (Elt F)) :=
  [ StableHlo.unary main_while1b_v24 main_while1b_v38 (broadcastInDim S8 ![] bcast_S_S8 : (⟨S_, .i32⟩ : BufTy).Contents (Elt F) → (⟨S8, .i32⟩ : BufTy).Contents (Elt F)),
    StableHlo.binary main_v20_6 main_while1b_v38 main_while1b_v39 (cmpi .eq : (⟨S8, .i32⟩ : BufTy).Contents (Elt F) → (⟨S8, .i32⟩ : BufTy).Contents (Elt F) → (⟨S8, .i1⟩ : BufTy).Contents (Elt F)),
    StableHlo.nullary main_while1b_c_19 (constantI S_ 32 0#32),
    StableHlo.unary main_while1b_c_19 main_while1b_v40 (broadcastInDim S8 ![] bcast_S_S8 : (⟨S_, .i32⟩ : BufTy).Contents (Elt F) → (⟨S8, .i32⟩ : BufTy).Contents (Elt F)),
    StableHlo.binary main_v20_4 main_while1b_v40 main_while1b_v41 (cmpi .slt : (⟨S8, .i32⟩ : BufTy).Contents (Elt F) → (⟨S8, .i32⟩ : BufTy).Contents (Elt F) → (⟨S8, .i1⟩ : BufTy).Contents (Elt F)),
    StableHlo.nullary main_while1b_c_20 (constantI S_ 32 8#32),
    StableHlo.unary main_while1b_c_20 main_while1b_v42 (broadcastInDim S8 ![] bcast_S_S8 : (⟨S_, .i32⟩ : BufTy).Contents (Elt F) → (⟨S8, .i32⟩ : BufTy).Contents (Elt F)),
    StableHlo.binary main_v20_4 main_while1b_v42 main_while1b_v43 (addi : (⟨S8, .i32⟩ : BufTy).Contents (Elt F) → (⟨S8, .i32⟩ : BufTy).Contents (Elt F) → (⟨S8, .i32⟩ : BufTy).Contents (Elt F)),
    StableHlo.ternary main_while1b_v41 main_while1b_v43 main_v20_4 main_while1b_v44 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.nullary main_while1b_c_21 (constantI S_ 32 0#32),
    StableHlo.unary main_while1b_c_21 main_while1b_v45 (broadcastInDim S8 ![] bcast_S_S8 : (⟨S_, .i32⟩ : BufTy).Contents (Elt F) → (⟨S8, .i32⟩ : BufTy).Contents (Elt F)),
    StableHlo.binary main_v20_6 main_while1b_v45 main_while1b_v46 (cmpi .slt : (⟨S8, .i32⟩ : BufTy).Contents (Elt F) → (⟨S8, .i32⟩ : BufTy).Contents (Elt F) → (⟨S8, .i1⟩ : BufTy).Contents (Elt F)),
    StableHlo.nullary main_while1b_c_22 (constantI S_ 32 512#32),
    StableHlo.unary main_while1b_c_22 main_while1b_v47 (broadcastInDim S8 ![] bcast_S_S8 : (⟨S_, .i32⟩ : BufTy).Contents (Elt F) → (⟨S8, .i32⟩ : BufTy).Contents (Elt F)),
    StableHlo.binary main_v20_6 main_while1b_v47 main_while1b_v48 (addi : (⟨S8, .i32⟩ : BufTy).Contents (Elt F) → (⟨S8, .i32⟩ : BufTy).Contents (Elt F) → (⟨S8, .i32⟩ : BufTy).Contents (Elt F)),
    StableHlo.ternary main_while1b_v46 main_while1b_v48 main_v20_6 main_while1b_v49 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_while1b_v44 main_while1b_v50 (broadcastInDim S8x1 ![0] bcast_S8_S8x1_0 : (⟨S8, .i32⟩ : BufTy).Contents (Elt F) → (⟨S8x1, .i32⟩ : BufTy).Contents (Elt F)),
    StableHlo.unary main_while1b_v49 main_while1b_v51 (broadcastInDim S8x1 ![0] bcast_S8_S8x1_0 : (⟨S8, .i32⟩ : BufTy).Contents (Elt F) → (⟨S8x1, .i32⟩ : BufTy).Contents (Elt F)),
    StableHlo.binary main_while1b_v50 main_while1b_v51 main_while1b_v52 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)),
    StableHlo.binary main_while1b_v37 main_while1b_v52 main_while1b_v53 ((fun x i => Host.gather gather_S8x512_S8x2_S8_n_01_n_n_01_1_11 x i) : (⟨S8x512, .f32⟩ : BufTy).Contents (Elt F) → (⟨S8x2, .i32⟩ : BufTy).Contents (Elt F) → (⟨S8, .f32⟩ : BufTy).Contents (Elt F)),
    StableHlo.nullary main_while1b_c_23 (constantI S_ 32 1#32),
    StableHlo.unary main_while1b_c_23 main_while1b_v54 (broadcastInDim S8 ![] bcast_S_S8 : (⟨S_, .i32⟩ : BufTy).Contents (Elt F) → (⟨S8, .i32⟩ : BufTy).Contents (Elt F)),
    StableHlo.binary main_v20_6 main_while1b_v54 main_while1b_v55 (subi : (⟨S8, .i32⟩ : BufTy).Contents (Elt F) → (⟨S8, .i32⟩ : BufTy).Contents (Elt F) → (⟨S8, .i32⟩ : BufTy).Contents (Elt F)),
    StableHlo.nullary main_while1b_c_24 (constantI S_ 32 512#32) ]
theorem while1Ops0_7_sub : (while1Ops0_7 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub ..⟩
abbrev while1Ops0_8 : List (HloOp τ sig (Elt F)) :=
  [ StableHlo.TRef.unary (.of main_while1b_c_24 : StableHlo.TRef sig ⟨S_, .i32⟩) (.of main_while1b_call10_v0 : StableHlo.TRef sig ⟨S_, .i32⟩) id,
    StableHlo.TRef.nullary (.of main_while1b_call10_c : StableHlo.TRef sig ⟨S_, .i32⟩) (constantI S_ 32 0#32),
    StableHlo.TRef.binary (.of main_while1b_call10_v0 : StableHlo.TRef sig ⟨S_, .i32⟩) (.of main_while1b_call10_c : StableHlo.TRef sig ⟨S_, .i32⟩) (.of main_while1b_call10_v1 : StableHlo.TRef sig ⟨S_, .i1⟩) (cmpi .eq),
    StableHlo.TRef.nullary (.of main_while1b_call10_c_0 : StableHlo.TRef sig ⟨S_, .i32⟩) (constantI S_ 32 1#32),
    StableHlo.TRef.ternary (.of main_while1b_call10_v1 : StableHlo.TRef sig ⟨S_, .i1⟩) (.of main_while1b_call10_c_0 : StableHlo.TRef sig ⟨S_, .i32⟩) (.of main_while1b_call10_v0 : StableHlo.TRef sig ⟨S_, .i32⟩) (.of main_while1b_call10_v2 : StableHlo.TRef sig ⟨S_, .i32⟩) select,
    StableHlo.TRef.unary main_while1b_call10_call0.v0 (.of main_while1b_call10_v3 : StableHlo.TRef sig ⟨S8, .i32⟩) (broadcastInDim S8 ![] bcast_S_S8),
    StableHlo.TRef.binary (.of main_while1b_v55 : StableHlo.TRef sig ⟨S8, .i32⟩) (.of main_while1b_call10_v3 : StableHlo.TRef sig ⟨S8, .i32⟩) (.of main_while1b_call10_v4 : StableHlo.TRef sig ⟨S8, .i32⟩) Host.remsi,
    StableHlo.TRef.nullary (.of main_while1b_call10_c_1 : StableHlo.TRef sig ⟨S_, .i32⟩) (constantI S_ 32 0#32),
    StableHlo.TRef.unary (.of main_while1b_call10_c_1 : StableHlo.TRef sig ⟨S_, .i32⟩) (.of main_while1b_call10_v5 : StableHlo.TRef sig ⟨S8, .i32⟩) (broadcastInDim S8 ![] bcast_S_S8),
    StableHlo.TRef.binary (.of main_while1b_call10_v4 : StableHlo.TRef sig ⟨S8, .i32⟩) (.of main_while1b_call10_v5 : StableHlo.TRef sig ⟨S8, .i32⟩) (.of main_while1b_call10_v6 : StableHlo.TRef sig ⟨S8, .i1⟩) (cmpi .ne),
    StableHlo.TRef.nullary (.of main_while1b_call10_c_2 : StableHlo.TRef sig ⟨S_, .i32⟩) (constantI S_ 32 0#32),
    StableHlo.TRef.unary (.of main_while1b_call10_c_2 : StableHlo.TRef sig ⟨S_, .i32⟩) (.of main_while1b_call10_v7 : StableHlo.TRef sig ⟨S8, .i32⟩) (broadcastInDim S8 ![] bcast_S_S8),
    StableHlo.TRef.binary (.of main_while1b_call10_v4 : StableHlo.TRef sig ⟨S8, .i32⟩) (.of main_while1b_call10_v7 : StableHlo.TRef sig ⟨S8, .i32⟩) (.of main_while1b_call10_v8 : StableHlo.TRef sig ⟨S8, .i1⟩) (cmpi .slt),
    StableHlo.TRef.nullary (.of main_while1b_call10_c_3 : StableHlo.TRef sig ⟨S_, .i32⟩) (constantI S_ 32 0#32),
    StableHlo.TRef.binary main_while1b_call10_call0.v0 (.of main_while1b_call10_c_3 : StableHlo.TRef sig ⟨S_, .i32⟩) (.of main_while1b_call10_v9 : StableHlo.TRef sig ⟨S_, .i1⟩) (cmpi .slt),
    StableHlo.TRef.unary (.of main_while1b_call10_v9 : StableHlo.TRef sig ⟨S_, .i1⟩) (.of main_while1b_call10_v10 : StableHlo.TRef sig ⟨S8, .i1⟩) (broadcastInDim S8 ![] bcast_S_S8),
    StableHlo.TRef.binary (.of main_while1b_call10_v8 : StableHlo.TRef sig ⟨S8, .i1⟩) (.of main_while1b_call10_v10 : StableHlo.TRef sig ⟨S8, .i1⟩) (.of main_while1b_call10_v11 : StableHlo.TRef sig ⟨S8, .i1⟩) (cmpi .ne),
    StableHlo.TRef.binary (.of main_while1b_call10_v11 : StableHlo.TRef sig ⟨S8, .i1⟩) (.of main_while1b_call10_v6 : StableHlo.TRef sig ⟨S8, .i1⟩) (.of main_while1b_call10_v12 : StableHlo.TRef sig ⟨S8, .i1⟩) andi,
    StableHlo.TRef.unary main_while1b_call10_call0.v0 (.of main_while1b_call10_v13 : StableHlo.TRef sig ⟨S8, .i32⟩) (broadcastInDim S8 ![] bcast_S_S8),
    StableHlo.TRef.binary (.of main_while1b_call10_v4 : StableHlo.TRef sig ⟨S8, .i32⟩) (.of main_while1b_call10_v13 : StableHlo.TRef sig ⟨S8, .i32⟩) (.of main_while1b_call10_v14 : StableHlo.TRef sig ⟨S8, .i32⟩) addi,
    StableHlo.TRef.ternary (.of main_while1b_call10_v12 : StableHlo.TRef sig ⟨S8, .i1⟩) (.of main_while1b_call10_v14 : StableHlo.TRef sig ⟨S8, .i32⟩) (.of main_while1b_call10_v4 : StableHlo.TRef sig ⟨S8, .i32⟩) (.of main_while1b_v56 : StableHlo.TRef sig ⟨S8, .i32⟩) select ]
theorem while1Ops0_8_sub : (while1Ops0_8 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
abbrev while1Ops0_9 : List (HloOp τ sig (Elt F)) :=
  [ StableHlo.nullary main_while1b_c_25 (constantI S_ 32 0#32),
    StableHlo.unary main_while1b_c_25 main_while1b_v57 (broadcastInDim S8 ![] bcast_S_S8 : (⟨S_, .i32⟩ : BufTy).Contents (Elt F) → (⟨S8, .i32⟩ : BufTy).Contents (Elt F)),
    StableHlo.binary main_v20_4 main_while1b_v57 main_while1b_v58 (cmpi .slt : (⟨S8, .i32⟩ : BufTy).Contents (Elt F) → (⟨S8, .i32⟩ : BufTy).Contents (Elt F) → (⟨S8, .i1⟩ : BufTy).Contents (Elt F)),
    StableHlo.nullary main_while1b_c_26 (constantI S_ 32 8#32),
    StableHlo.unary main_while1b_c_26 main_while1b_v59 (broadcastInDim S8 ![] bcast_S_S8 : (⟨S_, .i32⟩ : BufTy).Contents (Elt F) → (⟨S8, .i32⟩ : BufTy).Contents (Elt F)),
    StableHlo.binary main_v20_4 main_while1b_v59 main_while1b_v60 (addi : (⟨S8, .i32⟩ : BufTy).Contents (Elt F) → (⟨S8, .i32⟩ : BufTy).Contents (Elt F) → (⟨S8, .i32⟩ : BufTy).Contents (Elt F)),
    StableHlo.ternary main_while1b_v58 main_while1b_v60 main_v20_4 main_while1b_v61 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.nullary main_while1b_c_27 (constantI S_ 32 0#32),
    StableHlo.unary main_while1b_c_27 main_while1b_v62 (broadcastInDim S8 ![] bcast_S_S8 : (⟨S_, .i32⟩ : BufTy).Contents (Elt F) → (⟨S8, .i32⟩ : BufTy).Contents (Elt F)),
    StableHlo.binary main_while1b_v56 main_while1b_v62 main_while1b_v63 (cmpi .slt : (⟨S8, .i32⟩ : BufTy).Contents (Elt F) → (⟨S8, .i32⟩ : BufTy).Contents (Elt F) → (⟨S8, .i1⟩ : BufTy).Contents (Elt F)),
    StableHlo.nullary main_while1b_c_28 (constantI S_ 32 512#32),
    StableHlo.unary main_while1b_c_28 main_while1b_v64 (broadcastInDim S8 ![] bcast_S_S8 : (⟨S_, .i32⟩ : BufTy).Contents (Elt F) → (⟨S8, .i32⟩ : BufTy).Contents (Elt F)),
    StableHlo.binary main_while1b_v56 main_while1b_v64 main_while1b_v65 (addi : (⟨S8, .i32⟩ : BufTy).Contents (Elt F) → (⟨S8, .i32⟩ : BufTy).Contents (Elt F) → (⟨S8, .i32⟩ : BufTy).Contents (Elt F)),
    StableHlo.ternary main_while1b_v63 main_while1b_v65 main_while1b_v56 main_while1b_v66 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_while1b_v61 main_while1b_v67 (broadcastInDim S8x1 ![0] bcast_S8_S8x1_0 : (⟨S8, .i32⟩ : BufTy).Contents (Elt F) → (⟨S8x1, .i32⟩ : BufTy).Contents (Elt F)),
    StableHlo.unary main_while1b_v66 main_while1b_v68 (broadcastInDim S8x1 ![0] bcast_S8_S8x1_0 : (⟨S8, .i32⟩ : BufTy).Contents (Elt F) → (⟨S8x1, .i32⟩ : BufTy).Contents (Elt F)),
    StableHlo.binary main_while1b_v67 main_while1b_v68 main_while1b_v69 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)),
    StableHlo.binary main_while1b_v37 main_while1b_v69 main_while1b_v70 ((fun x i => Host.gather gather_S8x512_S8x2_S8_n_01_n_n_01_1_11 x i) : (⟨S8x512, .f32⟩ : BufTy).Contents (Elt F) → (⟨S8x2, .i32⟩ : BufTy).Contents (Elt F) → (⟨S8, .f32⟩ : BufTy).Contents (Elt F)),
    StableHlo.binary main_while1b_v53 main_while1b_v70 main_while1b_v71 (cmpf .olt : (⟨S8, .f32⟩ : BufTy).Contents (Elt F) → (⟨S8, .f32⟩ : BufTy).Contents (Elt F) → (⟨S8, .i1⟩ : BufTy).Contents (Elt F)),
    StableHlo.binary main_while1b_v39 main_while1b_v71 main_while1b_v72 (ori : (⟨S8, .i1⟩ : BufTy).Contents (Elt F) → (⟨S8, .i1⟩ : BufTy).Contents (Elt F) → (⟨S8, .i1⟩ : BufTy).Contents (Elt F)),
    StableHlo.binary main_while1b_v26 main_while1b_v72 main_while1b_v73 (andi : (⟨S8, .i1⟩ : BufTy).Contents (Elt F) → (⟨S8, .i1⟩ : BufTy).Contents (Elt F) → (⟨S8, .i1⟩ : BufTy).Contents (Elt F)),
    StableHlo.nullary main_while1b_c_29 (constantI S_ 32 1#32),
    StableHlo.unary main_while1b_c_29 main_while1b_v74 (broadcastInDim S8 ![] bcast_S_S8 : (⟨S_, .i32⟩ : BufTy).Contents (Elt F) → (⟨S8, .i32⟩ : BufTy).Contents (Elt F)),
    StableHlo.binary main_v20_6 main_while1b_v74 main_while1b_v75 (subi : (⟨S8, .i32⟩ : BufTy).Contents (Elt F) → (⟨S8, .i32⟩ : BufTy).Contents (Elt F) → (⟨S8, .i32⟩ : BufTy).Contents (Elt F)),
    StableHlo.nullary main_while1b_c_30 (constantI S_ 32 0#32),
    StableHlo.unary main_while1b_c_30 main_while1b_v76 (broadcastInDim S8 ![] bcast_S_S8 : (⟨S_, .i32⟩ : BufTy).Contents (Elt F) → (⟨S8, .i32⟩ : BufTy).Contents (Elt F)),
    StableHlo.binary main_while1b_v76 main_while1b_v75 main_while1b_v77 (maxsi : (⟨S8, .i32⟩ : BufTy).Contents (Elt F) → (⟨S8, .i32⟩ : BufTy).Contents (Elt F) → (⟨S8, .i32⟩ : BufTy).Contents (Elt F)) ]
theorem while1Ops0_9_sub : (while1Ops0_9 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩
abbrev while1Ops0_10 : List (HloOp τ sig (Elt F)) :=
  [ StableHlo.TRef.ternary (.of main_while1b_v73 : StableHlo.TRef sig ⟨S8, .i1⟩) (.of main_while1b_v77 : StableHlo.TRef sig ⟨S8, .i32⟩) (.of main_v20_6 : StableHlo.TRef sig ⟨S8, .i32⟩) (.of main_while1b_v78 : StableHlo.TRef sig ⟨S8, .i32⟩) select ]
theorem while1Ops0_10_sub : (while1Ops0_10 : List (HloOp τ sig (Elt F))).Forall fun op => op.bufs ⊆ StableHlo.tcRefs τ sig :=
  StableHlo.ternary_bufs_sub ..
abbrev while1Ops0_11 : List (HloOp τ sig (Elt F)) :=
  [ StableHlo.TRef.unary (.of main_while1b_v34 : StableHlo.TRef sig ⟨S8x512, .f32⟩) (.of main_while1b_call12_v0 : StableHlo.TRef sig ⟨S1x8x512, .f32⟩) (broadcastInDim S1x8x512 ![1, 2] bcast_S8x512_S1x8x512_1_2),
    StableHlo.TRef.nullary (.of main_while1b_call12_c : StableHlo.TRef sig ⟨S_, .i32⟩) (constantI S_ 32 0#32),
    StableHlo.TRef.nullary (.of main_while1b_call12_c_0 : StableHlo.TRef sig ⟨S_, .i32⟩) (constantI S_ 32 0#32),
    StableHlo.TRef.binaryIndexed (.of main_v20_7 : StableHlo.TRef sig ⟨S2048x8x512, .f32⟩) (.of main_while1b_call12_v0 : StableHlo.TRef sig ⟨S1x8x512, .f32⟩) ![(.of main_while1b_v23 : StableHlo.TRef sig ⟨S_, .i32⟩), (.of main_while1b_call12_c : StableHlo.TRef sig ⟨S_, .i32⟩), (.of main_while1b_call12_c_0 : StableHlo.TRef sig ⟨S_, .i32⟩)] (.of main_while1b_v79 : StableHlo.TRef sig ⟨S2048x8x512, .f32⟩) (fun x u i => Host.dynamicUpdateSlice x u (fun k => (i k (Shape.Idx.first h_S_)).toInt) updateFits_S2048x8x512_S1x8x512) ]
theorem while1Ops0_11_sub : (while1Ops0_11 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
abbrev while1Ops0_12 : List (HloOp τ sig (Elt F)) :=
  [ StableHlo.nullary main_while1b_c_31 (constantI S_ 32 1#32),
    StableHlo.binary main_v20_5 main_while1b_c_31 main_while1b_v80 (addi : (⟨S_, .i32⟩ : BufTy).Contents (Elt F) → (⟨S_, .i32⟩ : BufTy).Contents (Elt F) → (⟨S_, .i32⟩ : BufTy).Contents (Elt F)),
    StableHlo.unary main_while1b_v80 main_v20_5 id,
    StableHlo.unary main_while1b_v78 main_v20_6 id,
    StableHlo.unary main_while1b_v79 main_v20_7 id ]
theorem while1Ops0_12_sub : (while1Ops0_12 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6,
    StableHlo.seq while1Ops0_7,
    StableHlo.seq while1Ops0_8,
    StableHlo.seq while1Ops0_9,
    StableHlo.seq while1Ops0_10,
    StableHlo.seq while1Ops0_11,
    StableHlo.seq while1Ops0_12 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons, Pipeline.chain_cons, Pipeline.chain_cons, StableHlo.chain_seq_cons, Pipeline.chain_cons, StableHlo.chain_seq_cons, Pipeline.chain_cons, Pipeline.chain_cons, StableHlo.chain_seq_cons]
  chain_rfl

end Cert.ReferenceIdeal.Hand

end
-- ==== Proof.ReferenceIdeal.Solve.lean ====
/- A line of host operations in which every buffer is written once and read only after it was written: the contents at
   its end satisfy all the operations' equations at once. -/
module

public import Idealize.ShloMosaic.Lib.StableHlo.RunLoop
public import Idealize.ShloMosaic.Lib.StableHlo.RunRead

@[expose] public section

noncomputable section

namespace Cert.Solve

open Idealize.ShloMosaic Idealize.ShloMosaic.StableHlo Idealize.ShloMosaic.TcCoe

variable {τ : Topo} {sig : RefSig} {Val : EltTy → Type}

/-- A TensorCore buffer's contents in a valuation of the device's buffers. -/
def rd (V : Valuation τ sig Val) (r : Ref sig .tc) : r.ty.Contents Val := V (Proc.devRef .tc r)

theorem after_append (L K : List (HloOp τ sig Val)) (V : Valuation τ sig Val) : after (L ++ K) V = after K (after L V) := by
  induction L generalizing V with
  | nil => rfl
  | cons op L ih => exact ih _

/-- The line's writes, one buffer an operation. -/
abbrev Writes (L : List (HloOp τ sig Val)) (W : List (Ref sig .tc)) : Prop :=
  L.map HloOp.writes = W.map fun r => {Proc.devRef (τ := τ) .tc r}

variable {L : List (HloOp τ sig Val)} {W : List (Ref sig .tc)}

/-- A buffer that no operation writes keeps its contents. -/
theorem keep (hW : Writes L W) (V : Valuation τ sig Val) {r : Ref sig .tc} (h : r ∉ W) : rd (after L V) r = rd V r :=
  after_of_writes_sub L V (forall_writes_sub_of_map hW) h

/-- A buffer that no operation from the `i`-th on writes has at the end what it had before the `i`-th. -/
theorem keep_from (hW : Writes L W) (V : Valuation τ sig Val) (i : ℕ) {r : Ref sig .tc} (h : r ∉ W.drop i) :
    rd (after (L.take i) V) r = rd (after L V) r := by
  conv_rhs => rw [← List.take_append_drop i L, after_append]
  refine (keep (W := W.drop i) ?_ _ h).symm
  show List.map _ _ = List.map _ _
  rw [List.map_drop, List.map_drop, hW]

/-- What the `i`-th operation leaves in the buffer that it writes is there at the end. -/
theorem at_op (hW : Writes L W) (V : Valuation τ sig Val) (i : ℕ) {op : HloOp τ sig Val} (hop : L[i]? = some op)
    {y : Ref sig .tc} (hy : y ∉ W.drop (i + 1)) :
    rd (after L V) y = rd (op.result (after (L.take i) V)) y := by
  obtain ⟨hi, hget⟩ := List.getElem?_eq_some_iff.mp hop
  rw [← keep_from hW V (i + 1) hy, List.take_succ_eq_append_getElem hi, after_append, hget]
  rfl

variable {a b c x y : Ref sig .tc}

theorem nullary (hW : Writes L W) (V : Valuation τ sig Val) (i : ℕ) {v : y.ty.Contents Val} {hy}
    (hop : L[i]? = some (StableHlo.nullary y v hy)) (h : y ∉ W.drop (i + 1)) : rd (after L V) y = v :=
  (at_op hW V i hop h).trans (nullary_result y v hy _)

theorem unary (hW : Writes L W) (V : Valuation τ sig Val) (i : ℕ) {f : x.ty.Contents Val → y.ty.Contents Val} {hx hy}
    (hop : L[i]? = some (StableHlo.unary x y f hx hy)) (h : y ∉ W.drop (i + 1)) (h1 : x ∉ W.drop i) :
    rd (after L V) y = f (rd (after L V) x) := by
  rw [at_op hW V i hop h, ← keep_from hW V i h1]; exact unary_result x y f hx hy _

theorem binary (hW : Writes L W) (V : Valuation τ sig Val) (i : ℕ) {f : a.ty.Contents Val → b.ty.Contents Val → y.ty.Contents Val}
    {ha hb hy} (hop : L[i]? = some (StableHlo.binary a b y f ha hb hy)) (h : y ∉ W.drop (i + 1)) (h1 : a ∉ W.drop i) (h2 : b ∉ W.drop i) :
    rd (after L V) y = f (rd (after L V) a) (rd (after L V) b) := by
  rw [at_op hW V i hop h, ← keep_from hW V i h1, ← keep_from hW V i h2]; exact binary_result a b y f ha hb hy _

theorem ternary (hW : Writes L W) (V : Valuation τ sig Val) (i : ℕ)
    {f : c.ty.Contents Val → a.ty.Contents Val → b.ty.Contents Val → y.ty.Contents Val} {hc ha hb hy}
    (hop : L[i]? = some (StableHlo.ternary c a b y f hc ha hb hy)) (h : y ∉ W.drop (i + 1)) (h0 : c ∉ W.drop i)
    (h1 : a ∉ W.drop i) (h2 : b ∉ W.drop i) :
    rd (after L V) y = f (rd (after L V) c) (rd (after L V) a) (rd (after L V) b) := by
  rw [at_op hW V i hop h, ← keep_from hW V i h0, ← keep_from hW V i h1, ← keep_from hW V i h2]
  exact ternary_result c a b y f hc ha hb hy _

theorem reshape (hW : Writes L W) (V : Valuation τ sig Val) (i : ℕ) {he hn hx hy}
    (hop : L[i]? = some (StableHlo.reshape x y he hn hx hy)) (h : y ∉ W.drop (i + 1)) (h1 : x ∉ W.drop i) :
    rd (after L V) y = fun i => he ▸ shapeCast y.ty.shape (rd (after L V) x) hn i := by
  rw [at_op hW V i hop h, ← keep_from hW V i h1]; exact StableHlo.reshape_result x y he hn hx hy _

theorem unaryIndexed (hW : Writes L W) (V : Valuation τ sig Val) (i : ℕ) {n : ℕ} {ix : Fin n → Ref sig .tc} {T : BufTy}
    {f : a.ty.Contents Val → (Fin n → T.Contents Val) → y.ty.Contents Val} {hT ha hix hy}
    (hop : L[i]? = some (StableHlo.unaryIndexed a ix T y f hT ha hix hy)) (h : y ∉ W.drop (i + 1)) (h1 : a ∉ W.drop i)
    (h2 : ∀ k, ix k ∉ W.drop i) :
    rd (after L V) y = f (rd (after L V) a)
      (fun k => cast (congrArg (fun U : BufTy => U.Contents Val) (hT k)) (rd (after L V) (ix k))) := by
  rw [at_op hW V i hop h, ← keep_from hW V i h1]
  refine (unaryIndexed_result a ix T y f hT ha hix hy _).trans (congrArg _ (funext fun k => congrArg _ ?_))
  exact keep_from hW V i (h2 k)

theorem binaryIndexed (hW : Writes L W) (V : Valuation τ sig Val) (i : ℕ) {n : ℕ} {ix : Fin n → Ref sig .tc} {T : BufTy}
    {f : a.ty.Contents Val → b.ty.Contents Val → (Fin n → T.Contents Val) → y.ty.Contents Val} {hT ha hb hix hy}
    (hop : L[i]? = some (StableHlo.binaryIndexed a b ix T y f hT ha hb hix hy)) (h : y ∉ W.drop (i + 1)) (h1 : a ∉ W.drop i)
    (h1' : b ∉ W.drop i) (h2 : ∀ k, ix k ∉ W.drop i) :
    rd (after L V) y = f (rd (after L V) a) (rd (after L V) b)
      (fun k => cast (congrArg (fun U : BufTy => U.Contents Val) (hT k)) (rd (after L V) (ix k))) := by
  rw [at_op hW V i hop h, ← keep_from hW V i h1, ← keep_from hW V i h1']
  refine (binaryIndexed_result a b ix T y f hT ha hb hix hy _).trans (congrArg _ (funext fun k => congrArg _ ?_))
  exact keep_from hW V i (h2 k)

theorem vec1 {α : Type} (g : Fin 1 → α) : g = ![g 0] := by
  funext k; obtain ⟨k, hk⟩ := k; obtain rfl : k = 0 := by omega
  rfl
theorem vec3 {α : Type} (g : Fin 3 → α) : g = ![g 0, g 1, g 2] := by
  funext k
  match k with
  | 0 => rfl
  | 1 => rfl
  | 2 => rfl

/-- A read at one or three index operands, the operands in a row. -/
theorem unaryIndexed1 (hW : Writes L W) (V : Valuation τ sig Val) (i : ℕ) {ix : Fin 1 → Ref sig .tc} {T : BufTy}
    {f : a.ty.Contents Val → (Fin 1 → T.Contents Val) → y.ty.Contents Val} {hT ha hix hy}
    (hop : L[i]? = some (StableHlo.unaryIndexed a ix T y f hT ha hix hy)) (h : y ∉ W.drop (i + 1)) (h1 : a ∉ W.drop i)
    (h2 : ∀ k, ix k ∉ W.drop i) :
    rd (after L V) y = f (rd (after L V) a)
      ![cast (congrArg (fun U : BufTy => U.Contents Val) (hT 0)) (rd (after L V) (ix 0))] :=
  (unaryIndexed hW V i hop h h1 h2).trans (congrArg (f _) (vec1 _))
theorem unaryIndexed3 (hW : Writes L W) (V : Valuation τ sig Val) (i : ℕ) {ix : Fin 3 → Ref sig .tc} {T : BufTy}
    {f : a.ty.Contents Val → (Fin 3 → T.Contents Val) → y.ty.Contents Val} {hT ha hix hy}
    (hop : L[i]? = some (StableHlo.unaryIndexed a ix T y f hT ha hix hy)) (h : y ∉ W.drop (i + 1)) (h1 : a ∉ W.drop i)
    (h2 : ∀ k, ix k ∉ W.drop i) :
    rd (after L V) y = f (rd (after L V) a)
      ![cast (congrArg (fun U : BufTy => U.Contents Val) (hT 0)) (rd (after L V) (ix 0)),
        cast (congrArg (fun U : BufTy => U.Contents Val) (hT 1)) (rd (after L V) (ix 1)),
        cast (congrArg (fun U : BufTy => U.Contents Val) (hT 2)) (rd (after L V) (ix 2))] :=
  (unaryIndexed hW V i hop h h1 h2).trans (congrArg (f _) (vec3 _))
theorem binaryIndexed3 (hW : Writes L W) (V : Valuation τ sig Val) (i : ℕ) {ix : Fin 3 → Ref sig .tc} {T : BufTy}
    {f : a.ty.Contents Val → b.ty.Contents Val → (Fin 3 → T.Contents Val) → y.ty.Contents Val} {hT ha hb hix hy}
    (hop : L[i]? = some (StableHlo.binaryIndexed a b ix T y f hT ha hb hix hy)) (h : y ∉ W.drop (i + 1)) (h1 : a ∉ W.drop i)
    (h1' : b ∉ W.drop i) (h2 : ∀ k, ix k ∉ W.drop i) :
    rd (after L V) y = f (rd (after L V) a) (rd (after L V) b)
      ![cast (congrArg (fun U : BufTy => U.Contents Val) (hT 0)) (rd (after L V) (ix 0)),
        cast (congrArg (fun U : BufTy => U.Contents Val) (hT 1)) (rd (after L V) (ix 1)),
        cast (congrArg (fun U : BufTy => U.Contents Val) (hT 2)) (rd (after L V) (ix 2))] :=
  (binaryIndexed hW V i hop h h1 h1' h2).trans (congrArg (f _ _) (vec3 _))

end Cert.Solve

end
-- ==== Proof.ReferenceIdeal.Trips.lean ====
/- Each loop trip of the reference as one line of operations that writes every buffer once, the copies back to the carried
   buffers apart; the stretches around the loops likewise. -/
module

public import proofs.«01_k».proof.Proof.ReferenceIdeal.Ops
public import proofs.«01_k».proof.Proof.ReferenceIdeal.Solve

@[expose] public section

set_option maxRecDepth 65536

noncomputable section

namespace Cert.ReferenceIdeal.Hand

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen Cert.Solve

variable {F : FTy → Type} [FloatOps F]

/-- A trip of the forward loop up to its returned values: its condition, then its body. -/
def trip0 : List (HloOp τ sig (Elt F)) :=
  while0Ops0 ++ while0Ops0_1 ++ while0Ops0_2 ++ while0Ops0_3 ++ while0Ops0_4 ++ while0Ops0_5 ++ while0Ops0_6 ++ while0Ops0_7
    ++ while0Ops0_8 ++ while0Ops0_9.take 2

/-- The returned values copied to the carried buffers. -/
def back0 : List (HloOp τ sig (Elt F)) := while0Ops0_9.drop 2

/-- A trip of the backward loop up to its returned values. -/
def trip1 : List (HloOp τ sig (Elt F)) :=
  while1Ops0 ++ while1Ops0_1 ++ while1Ops0_2 ++ while1Ops0_3 ++ while1Ops0_4 ++ while1Ops0_5 ++ while1Ops0_6 ++ while1Ops0_7
    ++ while1Ops0_8 ++ while1Ops0_9 ++ while1Ops0_10 ++ while1Ops0_11 ++ while1Ops0_12.take 2

/-- The returned values copied to the carried buffers. -/
def back1 : List (HloOp τ sig (Elt F)) := while1Ops0_12.drop 2

/-- The buffers that `hostOps0` writes, in order. -/
def hostOps0_W : List (Ref sig .tc) :=
  [main_v0, main_cst, main_v1, main_v2, main_v3, main_v4, main_cst_0, main_v5, main_v6, main_v7, main_v8, main_v9, main_v10, main_v11,
   main_cst_1, main_v12, main_v13, main_cst_2, main_v14, main_c, main_v15_0, main_v15_1, main_v15_2, main_v15_3, main_v15_4, main_v15_5,
   main_v15_6, main_v15_7]

theorem hostOps0_writes : Writes (hostOps0 : List (HloOp τ sig (Elt F))) hostOps0_W := rfl

/-- The buffers that `hostOps0_1` writes, in order. -/
def hostOps0_1_W : List (Ref sig .tc) :=
  [main_c_3, main_v16, main_v17, main_v18, main_cst_4, main_v19, main_c_5, main_v20_0, main_v20_1, main_v20_2, main_v20_3, main_v20_4,
   main_v20_5, main_v20_6, main_v20_7]

theorem hostOps0_1_writes : Writes (hostOps0_1 : List (HloOp τ sig (Elt F))) hostOps0_1_W := rfl

/-- The buffers that `hostOps0_2` writes, in order. -/
def hostOps0_2_W : List (Ref sig .tc) :=
  [main_v21]

theorem hostOps0_2_writes : Writes (hostOps0_2 : List (HloOp τ sig (Elt F))) hostOps0_2_W := rfl

/-- The buffers that `trip0` writes, in order. -/
def trip0_W : List (Ref sig .tc) :=
  [main_while0b_call0_v0, main_while0b_v22, main_while0b_call1_c, main_while0b_call1_v0, main_while0b_call1_c_0, main_while0b_call1_v1,
   main_while0b_call1_v2, main_while0b_call1_c_1, main_while0b_call1_c_2, main_while0b_call1_v3, main_while0b_v23, main_while0b_v24,
   main_while0b_v25, main_while0b_cst_13, main_while0b_call2_v0, main_while0b_call2_v1, main_while0b_call2_v2, main_while0b_v26,
   main_while0b_c_14, main_while0b_v27, main_while0b_cst_15, main_while0b_cst_16, main_while0b_v28, main_while0b_v29, main_while0b_v30,
   main_while0b_v31, main_while0b_v32, main_while0b_v33, main_while0b_v34, main_while0b_v35, main_while0b_v36, main_while0b_c_17,
   main_while0b_v37, main_while0b_v38, main_while0b_v39, main_while0b_c_18, main_while0b_v40, main_while0b_v41, main_while0b_v42,
   main_while0b_v43, main_while0b_v44, main_while0b_v45, main_while0b_v46, main_while0b_v47, main_while0b_v48, main_while0b_v49,
   main_while0b_v50, main_while0b_v51, main_while0b_v52, main_while0b_call5_v0, main_while0b_call5_c, main_while0b_call5_c_0,
   main_while0b_v53, main_while0b_c_19, main_while0b_v54]

theorem trip0_writes : Writes (trip0 : List (HloOp τ sig (Elt F))) trip0_W := rfl

/-- The buffers that `trip1` writes, in order. -/
def trip1_W : List (Ref sig .tc) :=
  [main_while1b_c_13, main_while1b_v22, main_while1b_c_14, main_while1b_v23, main_while1b_call6_v0, main_while1b_v24, main_while1b_v25,
   main_while1b_v26, main_while1b_v27, main_while1b_v28, main_while1b_v29, main_while1b_v30, main_while1b_v31, main_while1b_v32,
   main_while1b_v33, main_while1b_cst_15, main_while1b_cst_16, main_while1b_call7_v0, main_while1b_call7_v1, main_while1b_v34,
   main_while1b_c_17, main_while1b_v35, main_while1b_c_18, main_while1b_call8_v0, main_while1b_call8_c, main_while1b_call8_v1,
   main_while1b_call8_c_0, main_while1b_call8_v2, main_while1b_call8_v3, main_while1b_call8_c_1, main_while1b_call8_v4,
   main_while1b_call8_c_2, main_while1b_call8_v5, main_while1b_call8_c_3, main_while1b_call8_v6, main_while1b_call8_v7,
   main_while1b_call8_v8, main_while1b_call8_v9, main_while1b_v36, main_while1b_call9_c, main_while1b_call9_v0, main_while1b_call9_c_0,
   main_while1b_call9_v1, main_while1b_call9_v2, main_while1b_call9_c_1, main_while1b_call9_c_2, main_while1b_call9_v3, main_while1b_v37,
   main_while1b_v38, main_while1b_v39, main_while1b_c_19, main_while1b_v40, main_while1b_v41, main_while1b_c_20, main_while1b_v42,
   main_while1b_v43, main_while1b_v44, main_while1b_c_21, main_while1b_v45, main_while1b_v46, main_while1b_c_22, main_while1b_v47,
   main_while1b_v48, main_while1b_v49, main_while1b_v50, main_while1b_v51, main_while1b_v52, main_while1b_v53, main_while1b_c_23,
   main_while1b_v54, main_while1b_v55, main_while1b_c_24, main_while1b_call10_v0, main_while1b_call10_c, main_while1b_call10_v1,
   main_while1b_call10_c_0, main_while1b_call10_v2, main_while1b_call10_v3, main_while1b_call10_v4, main_while1b_call10_c_1,
   main_while1b_call10_v5, main_while1b_call10_v6, main_while1b_call10_c_2, main_while1b_call10_v7, main_while1b_call10_v8,
   main_while1b_call10_c_3, main_while1b_call10_v9, main_while1b_call10_v10, main_while1b_call10_v11, main_while1b_call10_v12,
   main_while1b_call10_v13, main_while1b_call10_v14, main_while1b_v56, main_while1b_c_25, main_while1b_v57, main_while1b_v58,
   main_while1b_c_26, main_while1b_v59, main_while1b_v60, main_while1b_v61, main_while1b_c_27, main_while1b_v62, main_while1b_v63,
   main_while1b_c_28, main_while1b_v64, main_while1b_v65, main_while1b_v66, main_while1b_v67, main_while1b_v68, main_while1b_v69,
   main_while1b_v70, main_while1b_v71, main_while1b_v72, main_while1b_v73, main_while1b_c_29, main_while1b_v74, main_while1b_v75,
   main_while1b_c_30, main_while1b_v76, main_while1b_v77, main_while1b_v78, main_while1b_call12_v0, main_while1b_call12_c,
   main_while1b_call12_c_0, main_while1b_v79, main_while1b_c_31, main_while1b_v80]

theorem trip1_writes : Writes (trip1 : List (HloOp τ sig (Elt F))) trip1_W := rfl

/-- The buffers that `back0` writes, in order. -/
def back0_W : List (Ref sig .tc) := [main_v15_5, main_v15_6, main_v15_7]

theorem back0_writes : Writes (back0 : List (HloOp τ sig (Elt F))) back0_W := rfl

/-- The buffers that `back1` writes, in order. -/
def back1_W : List (Ref sig .tc) := [main_v20_5, main_v20_6, main_v20_7]

theorem back1_writes : Writes (back1 : List (HloOp τ sig (Elt F))) back1_W := rfl

/-- The forward loop's condition: the bound, and the counter compared with it. -/
def cond0 : List (HloOp τ sig (Elt F)) :=
  [ StableHlo.nullary main_while0c_c_13 (constantI S_ 32 2048#32),
    StableHlo.binary main_v15_5 main_while0c_c_13 main_while0c_v22 (cmpi .slt) ]

/-- The backward loop's condition. -/
def cond1 : List (HloOp τ sig (Elt F)) :=
  [ StableHlo.nullary main_while1c_c_13 (constantI S_ 32 2048#32),
    StableHlo.binary main_v20_5 main_while1c_c_13 main_while1c_v22 (cmpi .slt) ]

theorem cond0_writes : Writes (cond0 : List (HloOp τ sig (Elt F))) [main_while0c_c_13, main_while0c_v22] := rfl
theorem cond1_writes : Writes (cond1 : List (HloOp τ sig (Elt F))) [main_while1c_c_13, main_while1c_v22] := rfl

/-- The loops' bodies as lists of stretches. -/
abbrev body0 : List (List (HloOp τ sig (Elt F))) :=
  [while0Ops0, while0Ops0_1, while0Ops0_2, while0Ops0_3, while0Ops0_4, while0Ops0_5, while0Ops0_6, while0Ops0_7, while0Ops0_8, while0Ops0_9]
abbrev body1 : List (List (HloOp τ sig (Elt F))) :=
  [while1Ops0, while1Ops0_1, while1Ops0_2, while1Ops0_3, while1Ops0_4, while1Ops0_5, while1Ops0_6, while1Ops0_7, while1Ops0_8, while1Ops0_9,
   while1Ops0_10, while1Ops0_11, while1Ops0_12]

theorem body0_after (V : Valuation τ sig (Elt F)) : afterL body0 V = after back0 (after trip0 V) := rfl
theorem body1_after (V : Valuation τ sig (Elt F)) : afterL body1 V = after back1 (after trip1 V) := rfl

variable (m : (ℓ : Loc nD τ sig) → Buf (Elt F) ℓ) (ρ : Dev nD → PrngReg)

/-- The contents at the forward loop's entry, before its `k`-th condition, at the backward loop's entry, before its `k`-th
    condition, and at the end. -/
def entry0 (c : Dev nD) : Valuation τ sig (Elt F) := after hostOps0 (launchContents m c)
def at0 (k : ℕ) (c : Dev nD) : Valuation τ sig (Elt F) := atTrip cond0 body0 (entry0 m) k c
def entry1 (c : Dev nD) : Valuation τ sig (Elt F) := after hostOps0_1 (after cond0 (at0 m 2048 c))
def at1 (k : ℕ) (c : Dev nD) : Valuation τ sig (Elt F) := atTrip cond1 body1 (entry1 m) k c
def last (c : Dev nD) : Valuation τ sig (Elt F) := after hostOps0_2 (after cond1 (at1 m 2048 c))

/-- The contents at the end of the `k`-th trip's line, before the copies back. -/
def mid0 (k : ℕ) (c : Dev nD) : Valuation τ sig (Elt F) := after trip0 (after cond0 (at0 m k c))
def mid1 (k : ℕ) (c : Dev nD) : Valuation τ sig (Elt F) := after trip1 (after cond1 (at1 m k c))

theorem at0_succ (k : ℕ) (c : Dev nD) : at0 m (k + 1) c = after back0 (mid0 m k c) :=
  (atTrip_succ cond0 body0 (entry0 m) k c).trans (body0_after _)
theorem at1_succ (k : ℕ) (c : Dev nD) : at1 m (k + 1) c = after back1 (mid1 m k c) :=
  (atTrip_succ cond1 body1 (entry1 m) k c).trans (body1_after _)

/-- A buffer that neither the condition nor the trip's line writes has at the line's end what it had before the condition. -/
theorem mid0_keep (k : ℕ) (c : Dev nD) {r : Ref sig .tc} (h : r ∉ trip0_W) (h' : r ∉ [main_while0c_c_13, main_while0c_v22]) :
    rd (mid0 m k c) r = rd (at0 m k c) r := (keep trip0_writes _ h).trans (keep cond0_writes _ h')
theorem mid1_keep (k : ℕ) (c : Dev nD) {r : Ref sig .tc} (h : r ∉ trip1_W) (h' : r ∉ [main_while1c_c_13, main_while1c_v22]) :
    rd (mid1 m k c) r = rd (at1 m k c) r := (keep trip1_writes _ h).trans (keep cond1_writes _ h')

/-- The carried buffers after a trip. -/
theorem at0_ctr (k : ℕ) (c : Dev nD) : rd (at0 m (k + 1) c) main_v15_5 = rd (mid0 m k c) main_while0b_v54 := by
  rw [at0_succ, ← keep back0_writes (mid0 m k c) (r := main_while0b_v54) (by decide +kernel)]
  exact unary back0_writes _ 0 rfl (by decide +kernel) (by decide +kernel)
theorem at0_col (k : ℕ) (c : Dev nD) : rd (at0 m (k + 1) c) main_v15_6 = rd (mid0 m k c) main_while0b_v52 := by
  rw [at0_succ, ← keep back0_writes (mid0 m k c) (r := main_while0b_v52) (by decide +kernel)]
  exact unary back0_writes _ 1 rfl (by decide +kernel) (by decide +kernel)
theorem at0_xv (k : ℕ) (c : Dev nD) : rd (at0 m (k + 1) c) main_v15_7 = rd (mid0 m k c) main_while0b_v53 := by
  rw [at0_succ, ← keep back0_writes (mid0 m k c) (r := main_while0b_v53) (by decide +kernel)]
  exact unary back0_writes _ 2 rfl (by decide +kernel) (by decide +kernel)
theorem at1_ctr (k : ℕ) (c : Dev nD) : rd (at1 m (k + 1) c) main_v20_5 = rd (mid1 m k c) main_while1b_v80 := by
  rw [at1_succ, ← keep back1_writes (mid1 m k c) (r := main_while1b_v80) (by decide +kernel)]
  exact unary back1_writes _ 0 rfl (by decide +kernel) (by decide +kernel)
theorem at1_tok (k : ℕ) (c : Dev nD) : rd (at1 m (k + 1) c) main_v20_6 = rd (mid1 m k c) main_while1b_v78 := by
  rw [at1_succ, ← keep back1_writes (mid1 m k c) (r := main_while1b_v78) (by decide +kernel)]
  exact unary back1_writes _ 1 rfl (by decide +kernel) (by decide +kernel)
theorem at1_cols (k : ℕ) (c : Dev nD) : rd (at1 m (k + 1) c) main_v20_7 = rd (mid1 m k c) main_while1b_v79 := by
  rw [at1_succ, ← keep back1_writes (mid1 m k c) (r := main_while1b_v79) (by decide +kernel)]
  exact unary back1_writes _ 2 rfl (by decide +kernel) (by decide +kernel)

/-- A buffer that no trip writes has before every condition what it had at the loop's entry. -/
theorem at0_keep (c : Dev nD) {r : Ref sig .tc} (h : r ∉ trip0_W) (h' : r ∉ [main_while0c_c_13, main_while0c_v22]) (h'' : r ∉ back0_W) :
    ∀ k, rd (at0 m k c) r = rd (entry0 m c) r
  | 0 => rfl
  | k + 1 => by rw [at0_succ, keep back0_writes _ h'', mid0_keep m k c h h', at0_keep c h h' h'' k]
theorem at1_keep (c : Dev nD) {r : Ref sig .tc} (h : r ∉ trip1_W) (h' : r ∉ [main_while1c_c_13, main_while1c_v22]) (h'' : r ∉ back1_W) :
    ∀ k, rd (at1 m k c) r = rd (entry1 m c) r
  | 0 => rfl
  | k + 1 => by rw [at1_succ, keep back1_writes _ h'', mid1_keep m k c h h', at1_keep c h h' h'' k]

/-- Before the `k`-th condition the counters are `k`. -/
theorem at0_counter (c : Dev nD) : ∀ k, rd (at0 m k c) main_v15_5 = fun _ => Scf.iv 0#32 1#32 k
  | 0 => by
    rw [Scf.iv_zero]
    refine (unary hostOps0_writes (launchContents m c) 25 rfl (by decide +kernel) (by decide +kernel)).trans ?_
    exact nullary hostOps0_writes (launchContents m c) 19 rfl (by decide +kernel)
  | k + 1 => by
    rw [at0_ctr, Scf.iv_succ]
    refine (binary trip0_writes _ 54 rfl (by decide +kernel) (by decide +kernel) (by decide +kernel)).trans ?_
    rw [nullary trip0_writes _ 53 rfl (by decide +kernel), show rd (after trip0 (after cond0 (at0 m k c))) main_v15_5 = _ from
      (mid0_keep m k c (by decide +kernel) (by decide +kernel)).trans (at0_counter c k)]
    rfl
theorem at1_counter (c : Dev nD) : ∀ k, rd (at1 m k c) main_v20_5 = fun _ => Scf.iv 0#32 1#32 k
  | 0 => by
    rw [Scf.iv_zero]
    refine (unary hostOps0_1_writes _ 12 rfl (by decide +kernel) (by decide +kernel)).trans ?_
    exact nullary hostOps0_1_writes _ 6 rfl (by decide +kernel)
  | k + 1 => by
    rw [at1_ctr, Scf.iv_succ]
    refine (binary trip1_writes _ 126 rfl (by decide +kernel) (by decide +kernel) (by decide +kernel)).trans ?_
    rw [nullary trip1_writes _ 125 rfl (by decide +kernel), show rd (after trip1 (after cond1 (at1 m k c))) main_v20_5 = _ from
      (mid1_keep m k c (by decide +kernel) (by decide +kernel)).trans (at1_counter c k)]
    rfl

end Cert.ReferenceIdeal.Hand

end
-- ==== Proof.ReferenceIdeal.Run.lean ====
/- The reference's run: two counted loops over host operations. From any memory with zero counters every weakly fair
   execution terminates, and every tensor buffer ends at the fold of the stretches and of the trips. -/
module

public import proofs.«01_k».proof.Proof.ReferenceIdeal.Trips
public import Idealize.ShloMosaic.Lib.Scf.ExitTest
public import Idealize.ShloMosaic.Lib.Quiescent

@[expose] public section

set_option maxRecDepth 65536

noncomputable section

namespace Cert.ReferenceIdeal.Hand

open Idealize.ShloMosaic Idealize.ShloMosaic.TcCoe Idealize.ShloMosaic.StableHlo Idealize.ShloMosaic.Rounds
open Idealize.ShloMosaic.Pipeline (CSeg Ticket PCfg ucRefs unscopedBufs_held sub_ucRefs)
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen Cert.Solve

variable {F : FTy → Type} [FloatOps F]

local notation "𝕄" => MT nD τ sig Unit (Elt F) ℕ (Option PUnit) ℕ

/-- What the launch rule asks about regions, at a program that has none. -/
abbrev adm : (p : Fin 0) → (pcfgs (F := F) p).Adm := fun p => p.elim0
abbrev tickets : Fin 0 → Ticket (Ix := Unit) (Name := ℕ) (U := Option PUnit) (Lvl := ℕ) (nD := nD) (τ := τ) (pcfgs (F := F)) adm := fun j => j.elim0
abbrev noIx : GSem nD τ sig → Finset Unit := fun _ => ∅
abbrev noLvl : GSem nD τ sig → Unit → ℕ := fun _ _ => 0

/-- What is carried unchanged beside the buffers. -/
abbrev Rest (c : Dev nD) : sProp 𝕄 := iprop(∃ W, owes (c : Thread nD τ) (0 : CellTallies nD τ sig Unit) W)

/-- A loop's condition with the rest framed through it. -/
theorem framed {cond : Prog (TpuEff nD τ sig (Elt F) (HostLoop.Sig (Pipeline.Sig Λ₀ (Fin 0) fun p => (pcfgs (F := F) p).Adm) 2) .tc) (Elt F .i1)}
    {condOps : List (HloOp τ sig (Elt F))} {bodyI : List (List (HloOp τ sig (Elt F)))} {W₀ : Dev nD → Valuation τ sig (Elt F)} {n : ℕ}
    (hcond : CondSpec (pcfgs (F := F)) defs₀ loops cond condOps bodyI W₀ n) :
    LoopCond (pcfgs (F := F)) defs₀ Variants.none loops Rest cond condOps bodyI W₀ n := fun k hk c bd => by
  have hc := hcond k hk c bd
  have hpost : ∀ v : Elt F .i1,
      iprop(iprop(⌜v = 1#1 ↔ k < n⌝ ∗ boundary (c : Thread nD τ) ∗ held (c : Thread nD τ) (ucRefs τ sig) (after condOps (atTrip condOps bodyI W₀ k c))) ∗ Rest c)
        ⊢ iprop(⌜v = 1#1 ↔ k < n⌝ ∗ boundary (c : Thread nD τ) ∗ held (c : Thread nD τ) (ucRefs τ sig) (after condOps (atTrip condOps bodyI W₀ k c)) ∗ Rest c) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left hc).trans (wp_frame_r _ _ _)).trans (wp_mono _ _ _ hpost))
  iintro ⟨Hbd, Hh, HR⟩
  isplitl [Hbd Hh]; · isplitl [Hbd] <;> iassumption
  iexact HR

theorem pre_plain : Plain ([hostOps0] : List (List (HloOp τ sig (Elt F)))) := .cons hostOps0_sub .nil
theorem mid_plain : Plain ([hostOps0_1] : List (List (HloOp τ sig (Elt F)))) := .cons hostOps0_1_sub .nil
theorem post_plain : Plain ([hostOps0_2] : List (List (HloOp τ sig (Elt F)))) := .cons hostOps0_2_sub .nil
theorem body0_plain : Plain (body0 (F := F)) :=
  .cons while0Ops0_sub <| .cons while0Ops0_1_sub <| .cons while0Ops0_2_sub <| .cons while0Ops0_3_sub <| .cons while0Ops0_4_sub <|
  .cons while0Ops0_5_sub <| .cons while0Ops0_6_sub <| .cons while0Ops0_7_sub <| .cons while0Ops0_8_sub <| .cons while0Ops0_9_sub .nil
theorem body1_plain : Plain (body1 (F := F)) :=
  .cons while1Ops0_sub <| .cons while1Ops0_1_sub <| .cons while1Ops0_2_sub <| .cons while1Ops0_3_sub <| .cons while1Ops0_4_sub <|
  .cons while1Ops0_5_sub <| .cons while1Ops0_6_sub <| .cons while1Ops0_7_sub <| .cons while1Ops0_8_sub <| .cons while1Ops0_9_sub <|
  .cons while1Ops0_10_sub <| .cons while1Ops0_11_sub <| .cons while1Ops0_12_sub .nil

variable (m : (ℓ : Loc nD τ sig) → Buf (Elt F) ℓ) (ρ : Dev nD → PrngReg)

set_option backward.isDefEq.respectTransparency.types false in
/-- The forward loop's condition, run for the `k`-th time, returns 1 exactly when `k < 2048`. -/
theorem cond0_spec : CondSpec (pcfgs (F := F)) defs₀ loops (main_while0_cond (F := F)) cond0 body0 (entry0 m) 2048 := by
  intro k hk c bd
  have hctr : atTrip cond0 body0 (entry0 m) k c (Proc.devRef .tc main_v15_5) = fun _ => Scf.iv 0#32 1#32 k := at0_counter m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0 (entry0 m) k c) main_v15_5 HostLoop.idx0)
        (HloOp.result _ (atTrip cond0 body0 (entry0 m) k c) main_while0c_c_13 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  unfold cond0
  rw [after_cons, after_cons, after_nil]; iexact Hh

set_option backward.isDefEq.respectTransparency.types false in
/-- The backward loop's condition, run for the `k`-th time, returns 1 exactly when `k < 2048`. -/
theorem cond1_spec : CondSpec (pcfgs (F := F)) defs₀ loops (main_while1_cond (F := F)) cond1 body1 (entry1 m) 2048 := by
  intro k hk c bd
  have hctr : atTrip cond1 body1 (entry1 m) k c (Proc.devRef .tc main_v20_5) = fun _ => Scf.iv 0#32 1#32 k := at1_counter m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 body1 (entry1 m) k c) main_v20_5 HostLoop.idx0)
        (HloOp.result _ (atTrip cond1 body1 (entry1 m) k c) main_while1c_c_13 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  unfold cond1
  rw [after_cons, after_cons, after_nil]; iexact Hh

/-- @main's segments: the operations before the loops, the two loops with the operations between them, those after. -/
def segs : List (CSeg (pcfgs (F := F)) adm defs₀ Variants.none noIx noLvl loops tickets) :=
  segsOf _ _ _ _ _ _ _ _ Rest [hostOps0] pre_plain (launchContents m)
    ++ loopSeg _ _ _ _ _ _ _ _ 0 main_while0_cond main_while0_body rfl cond0 body0 body0_plain
        (by rw [while0_body_chain]; rfl) 2048 (entry0 m) Rest (framed (cond0_spec m))
      :: (segsOf _ _ _ _ _ _ _ _ Rest [hostOps0_1] mid_plain (fun c => after cond0 (at0 m 2048 c))
        ++ loopSeg _ _ _ _ _ _ _ _ 1 main_while1_cond main_while1_body rfl cond1 body1 body1_plain
            (by rw [while1_body_chain]; rfl) 2048 (entry1 m) Rest (framed (cond1_spec m))
          :: segsOf _ _ _ _ _ _ _ _ Rest [hostOps0_2] post_plain (fun c => after cond1 (at1 m 2048 c)))

theorem segs_prog : (segs (F := F) m).map CSeg.prog
    = [StableHlo.seq hostOps0, HostLoop.enter 0, StableHlo.seq hostOps0_1, HostLoop.enter 1, StableHlo.seq hostOps0_2] := by
  unfold segs
  rw [List.map_append, List.map_cons, List.map_append, List.map_cons, segsOf_prog, segsOf_prog, segsOf_prog]
  rfl

theorem segs_chains : CSeg.Chains (fun c => iprop(held (c : Thread nD τ) (ucRefs τ sig) (launchContents m c) ∗ Rest c)) (segs (F := F) m)
    (fun c => iprop(iprop(held (c : Thread nD τ) (ucRefs τ sig) (last m c)) ∗ ∃ W, owes (c : Thread nD τ) (0 : CellTallies nD τ sig Unit) W)) := by
  unfold segs
  exact CSeg.Chains.append (segsOf_chains _ _ _ _ _ _ _ _ Rest [hostOps0] pre_plain _) ⟨fun _ => .rfl,
    CSeg.Chains.append (segsOf_chains _ _ _ _ _ _ _ _ Rest [hostOps0_1] mid_plain _) ⟨fun _ => .rfl,
      segsOf_chains _ _ _ _ _ _ _ _ Rest [hostOps0_2] post_plain _⟩⟩

/-- Every tensor buffer ends at the fold. -/
theorem run_all [∀ e, Nonempty (Elt F e)] :
    θ_run (defs (F := F)) (onTc (τ := τ) main) ⟨m, fun _ => 0, ρ⟩
      (fun r => ∀ (c : Dev nD) (b : Ref sig .tc), (Proc.devRef .tc b : DevRef τ sig).isScoped = false →
        r.2.mem ((c.tc : Thread nD τ).loc b) = last m c (Proc.devRef .tc b)) :=
  Pipeline.θ_run_regions_loop_kit (Ix := Unit) (Name := ℕ) (U := Option PUnit) (Lvl := ℕ) (J := Fin 0) (P := Fin 0) (Val := Elt F)
    pcfgs adm (fun k => k.1.elim0) defs₀ Variants.none noIx noLvl loops tickets m ρ main (segs m)
    (fun c Q => by
      rw [main_chain]
      show wp _ _ _ (Pipeline.chain ((segs m).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rest c))
    (Tₙ := fun c => iprop(held (c : Thread nD τ) (ucRefs τ sig) (last m c)))
    (hch := segs_chains m)
    (hinit := by
      refine Pipeline.initEach noIx noLvl fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = last m c b)
    (hfin := fun c s' => by
      unfold held
      iintro ⟨Hh, HSI⟩
      ihave Hr := (pointsTo_read_all (ucRefs τ sig) (fun b => ((c : Dev nD), b)) (fun b => last m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-- An argument, written by no operation, ends as it was launched. -/
theorem last_keep (c : Dev nD) {r : Ref sig .tc} (h : r ∉ hostOps0_W) (h0 : r ∉ trip0_W) (h0' : r ∉ [main_while0c_c_13, main_while0c_v22])
    (h0'' : r ∉ back0_W) (h1 : r ∉ hostOps0_1_W) (h2 : r ∉ trip1_W) (h2' : r ∉ [main_while1c_c_13, main_while1c_v22]) (h2'' : r ∉ back1_W)
    (h3 : r ∉ hostOps0_2_W) : rd (last m c) r = m ((c.tc : Thread nD τ).loc r) :=
  (keep hostOps0_2_writes _ h3).trans <| (keep cond1_writes _ h2').trans <| (at1_keep m c h2 h2' h2'' 2048).trans <|
  (keep hostOps0_1_writes _ h1).trans <| (keep cond0_writes _ h0').trans <| (at0_keep m c h0 h0' h0'' 2048).trans <|
  keep hostOps0_writes _ h

/-- The fold's contents at a buffer, as `rd`. -/
theorem last_rd (V : Valuation τ sig (Elt F)) (r : Ref sig .tc) : V (Proc.devRef .tc r) = rd V r := rfl

theorem arg0_last (c : Dev nD) : rd (last m c) main_arg0 = m ((c.tc : Thread nD τ).loc main_arg0) :=
  last_keep m c (r := main_arg0) (by decide +kernel) (by decide +kernel) (by decide +kernel) (by decide +kernel) (by decide +kernel)
    (by decide +kernel) (by decide +kernel) (by decide +kernel) (by decide +kernel)
theorem arg1_last (c : Dev nD) : rd (last m c) main_arg1 = m ((c.tc : Thread nD τ).loc main_arg1) :=
  last_keep m c (r := main_arg1) (by decide +kernel) (by decide +kernel) (by decide +kernel) (by decide +kernel) (by decide +kernel)
    (by decide +kernel) (by decide +kernel) (by decide +kernel) (by decide +kernel)

/-- The run: the arguments unchanged, the result at the fold, the counters at zero. -/
theorem run [∀ e, Nonempty (Elt F e)] :
    θ_run (defs (F := F)) (onTc (τ := τ) main) ⟨m, fun _ => 0, ρ⟩
      (fun r => (∀ c : Dev nD, r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_v21) = rd (last m c) main_v21) ∧ r.2.sem = fun _ => 0) := by
  refine (θ_run _ _ _).mono (fun r h => ⟨fun c => ⟨((h c main_arg0 rfl).trans (last_rd _ _)).trans (arg0_last m c), ((h c main_arg1 rfl).trans (last_rd _ _)).trans (arg1_last m c),
    (h c main_v21 rfl).trans (last_rd _ _)⟩, Idealize.ShloMosaic.sem_eq_zero_of_no_sems (by decide) r.2⟩) (run_all m ρ)

end Cert.ReferenceIdeal.Hand

end
-- ==== Proof.Value.Model.lean ====
/- The alignment search over real numbers, one batch row: the scores of the cells, the decision bits and the token of each
   column; that the scores the reference keeps inside its band are these; that the token stays inside the band. -/
module

public import Mathlib.Data.Real.Basic
public import Mathlib.Tactic.Linarith
public import Mathlib.Tactic.NormNum

@[expose] public section

set_option maxRecDepth 16384

noncomputable section

namespace Cert.Model

/-- The score that stands for "not allowed". -/
def neg : ℝ := -10000000

/-- The scores before column `i`, at token `j`: the best sum of the path's log-probabilities up to there. `x j i` is the
    log-probability of token `j` at column `i`. -/
def K (x : ℕ → ℕ → ℝ) : ℕ → ℕ → ℝ
  | 0, _ => 0
  | i + 1, 0 => x 0 i + K x i 0
  | i + 1, j + 1 => x (j + 1) i + max (if j + 1 = i then neg else K x i (j + 1)) (K x i j)

/-- Whether the path at token `j` of column `i` came from the token before. -/
def Bit (x : ℕ → ℕ → ℝ) (i j : ℕ) : Prop := j = i ∨ K x i j < K x i (j - 1)

open Classical in
/-- The token `n` columns before the last. -/
def T (x : ℕ → ℕ → ℝ) : ℕ → ℕ
  | 0 => 511
  | n + 1 => if 0 < T x n ∧ Bit x (2047 - n) (T x n) then T x n - 1 else T x n

/-- The lower edge of the reference's band at column `i`. -/
def lo (i : ℕ) : ℕ := i - 1536

/-- The reference's scores before column `i`: kept to the plain log-probability outside the band. -/
def R (x : ℕ → ℕ → ℝ) : ℕ → ℕ → ℝ
  | 0, _ => 0
  | i + 1, j => if lo i ≤ j ∧ j < min 512 (i + 1) then
      x j i + max (if j = i then neg else R x i j) (if j = 0 then (if i = 0 then 0 else neg) else R x i (j - 1)) else x j i

open Classical in
/-- The reference's token `n` columns before the last. -/
def TR (x : ℕ → ℕ → ℝ) : ℕ → ℕ
  | 0 => 511
  | n + 1 => if TR x n = 2047 - n ∨ R x (2047 - n) (TR x n) < R x (2047 - n) ((TR x n + 511) % 512) then TR x n - 1 else TR x n

variable {x : ℕ → ℕ → ℝ}

/-- The first token's score is no worse than the sum of the least log-probabilities. -/
theorem K_zero_ge (hx : ∀ j i, -4096 ≤ x j i) : ∀ i : ℕ, -4096 * (i : ℝ) ≤ K x i 0
  | 0 => by simp [K]
  | i + 1 => by
    have h := K_zero_ge hx i
    have h' := hx 0 i
    rw [K]; push_cast; linarith

theorem K_zero_ge_neg (hx : ∀ j i, -4096 ≤ x j i) {i : ℕ} (hi : i ≤ 2048) : neg + 4096 * 8 ≤ K x i 0 := by
  have h := K_zero_ge hx i
  have : (i : ℝ) ≤ 2048 := by exact_mod_cast hi
  unfold neg; linarith

/-- Inside the band the reference's scores are the scores. -/
theorem R_eq (hx : ∀ j i, -4096 ≤ x j i) (i : ℕ) (hi : i < 2048) : ∀ j, lo i ≤ j → j ≤ i → j < 512 → R x (i + 1) j = K x (i + 1) j := by
  induction i with
  | zero =>
    intro j _ h2 _
    obtain rfl : j = 0 := by omega
    have : max neg 0 = (0 : ℝ) := max_eq_right (by norm_num [neg])
    simp [R, K, lo, this]
  | succ i ih =>
    intro j h1 h2 h3
    have ih := ih (by omega)
    have hband : lo (i + 1) ≤ j ∧ j < min 512 (i + 1 + 1) := ⟨h1, by omega⟩
    have hlo : lo (i + 1) = i + 1 - 1536 := rfl
    have hlo' : lo i = i - 1536 := rfl
    rw [R, if_pos hband]
    cases j with
    | zero =>
      rw [K, if_neg (by omega), if_pos rfl, if_neg (by omega), ih 0 (by omega) (by omega) (by omega)]
      have := K_zero_ge_neg hx (i := i + 1) (by omega)
      rw [max_eq_left (by unfold neg at *; linarith)]
    | succ j =>
      rw [K, if_neg (Nat.succ_ne_zero j), Nat.add_sub_cancel, ih j (by omega) (by omega) (by omega)]
      by_cases hj : j + 1 = i + 1
      · rw [if_pos hj, if_pos hj]
      · rw [if_neg hj, if_neg hj, ih (j + 1) (by omega) (by omega) (by omega)]

open Classical in
/-- One backward step of the token, by the decision at it. -/
theorem step_band (P : Prop) (t i : ℕ) (h1 : lo (i + 1) ≤ t) (h2 : t ≤ i + 1) (hP : 0 < t → t = i + 1 → P) :
    lo i ≤ (if 0 < t ∧ P then t - 1 else t) ∧ (if 0 < t ∧ P then t - 1 else t) ≤ i := by
  have hlo : lo (i + 1) = i + 1 - 1536 := rfl
  have hlo' : lo i = i - 1536 := rfl
  by_cases h : 0 < t ∧ P
  · rw [if_pos h]; omega
  · rw [if_neg h]
    by_cases ht : t = i + 1
    · exact absurd ⟨by omega, hP (by omega) ht⟩ h
    · omega

/-- The reference's decision at a token inside the band is the decision bit. -/
theorem cond_iff (hx : ∀ j i, -4096 ≤ x j i) {t i : ℕ} (hi : i < 2047) (h1 : lo (i + 1) ≤ t + 1) (h2 : t + 1 ≤ i + 1) (h3 : t + 1 < 512) :
    (t + 1 = i + 1 ∨ R x (i + 1) (t + 1) < R x (i + 1) t) ↔ Bit x (i + 1) (t + 1) := by
  have hlo : lo (i + 1) = i + 1 - 1536 := rfl
  have hlo' : lo i = i - 1536 := rfl
  unfold Bit
  rw [R_eq hx i (by omega) t (by omega) (by omega) (by omega), Nat.add_sub_cancel]
  by_cases ht : t + 1 = i + 1
  · exact ⟨fun _ => Or.inl ht, fun _ => Or.inl ht⟩
  · rw [R_eq hx i (by omega) (t + 1) (by omega) (by omega) (by omega)]

/-- The reference's token is the token, and it is inside the band. -/
theorem TR_eq (hx : ∀ j i, -4096 ≤ x j i) (n : ℕ) (hn : n < 2048) : TR x n = T x n ∧ lo (2047 - n) ≤ T x n ∧ T x n ≤ 2047 - n ∧ T x n < 512 := by
  classical
  induction n with
  | zero => exact ⟨rfl, by show 2047 - 0 - 1536 ≤ 511; omega, by show 511 ≤ 2047 - 0; omega, by show 511 < 512; omega⟩
  | succ n ih =>
    obtain ⟨h0, h1, h2, h3⟩ := ih (by omega)
    obtain ⟨i, hi⟩ : ∃ i, 2047 - n = i + 1 := ⟨2046 - n, by omega⟩
    have hi' : 2047 - (n + 1) = i := by omega
    rw [hi] at h1 h2
    have hstep := step_band (Bit x (i + 1) (T x n)) (T x n) i h1 h2 fun _ h => Or.inl h
    rw [TR, T, h0, hi', hi]
    refine ⟨?_, hstep.1, hstep.2, ?_⟩
    · cases ht : T x n with
      | zero => simp
      | succ t =>
        rw [ht] at h1 h2 h3
        have hm : (t + 1 + 511) % 512 = t := by omega
        rw [hm]
        exact if_congr ((cond_iff hx (by omega) h1 h2 h3).trans ⟨fun h => ⟨Nat.succ_pos t, h⟩, fun h => h.2⟩) rfl rfl
    · split <;> omega

end Cert.Model

end
-- ==== Proof.Value.Fwd.lean ====
/- The forward pass over the extended reals: the carried column holds the scores of the alignment search, the stored
   flags its decision bits. -/
module

public import proofs.«01_k».proof.Proof.KernelIdeal.Spec
public import proofs.«01_k».proof.Proof.Value.Model
public import Idealize.ShloMosaic.Lib.KernelVsHost

@[expose] public section

-- the rectangles of this kernel have large extents
set_option maxRecDepth 16384

noncomputable section

namespace Cert.KernelIdeal.Hand

open Cert.KernelIdeal.Gen Cert.Model
open Idealize.ShloMosaic Idealize.ShloMosaic.ValueIdx

/-! ## One lane -/

/-- What a lane of the column shifted by `d` holds after `u` columns of a block, before column `i`: the score of its
    token, or, where the shift wrapped, something too small to matter. -/
def Good (x : ℕ → ℕ → ℝ) (i u d l : ℕ) (v : EReal) : Prop :=
  (d ≤ l → v = ((K x i (l - d) : ℝ) : EReal)) ∧ (l < d → v ≤ ((neg + 4096 * (u : ℝ) : ℝ) : EReal))

theorem coe_max (a b : ℝ) : ((max a b : ℝ) : EReal) = max (a : EReal) (b : EReal) := EReal.coe_strictMono.monotone.map_max

theorem lane_step {x : ℕ → ℕ → ℝ} (hx : ∀ j i, |x j i| ≤ 4096) {i u d l : ℕ} (hi : i ≤ 2047) (hu : u ≤ 8) {s n : EReal} {r : ℝ}
    (hs : Good x i u d l s) (hn : Good x i u (d + 1) l n) (hr : r ≤ 4096) (hr' : d ≤ l → r = x (l - d) i) (h0 : ¬(i = 0 ∧ l = d)) :
    Good x (i + 1) (u + 1) d l ((r : EReal) + max (if l = i + d then ((neg : ℝ) : EReal) else s) n) := by
  have hx' : ∀ j i, -4096 ≤ x j i := fun j i => (abs_le.mp (hx j i)).1
  constructor
  · intro hdl
    rw [hr' hdl]
    obtain hd | hd := Nat.eq_or_lt_of_le hdl
    · subst hd
      have h1 := hn.2 (Nat.lt_succ_self _)
      have h2 : neg + 4096 * (u : ℝ) ≤ K x i 0 := by
        have := K_zero_ge_neg hx' (i := i) (by omega)
        have hu' : (u : ℝ) ≤ 8 := by exact_mod_cast hu
        linarith
      rw [if_neg (by omega), hs.1 le_rfl, Nat.sub_self, max_eq_left (h1.trans (EReal.coe_le_coe_iff.mpr h2)), K, EReal.coe_add]
    · obtain ⟨j, rfl⟩ : ∃ j, l = d + 1 + j := ⟨l - (d + 1), by omega⟩
      have e1 : d + 1 + j - d = j + 1 := by omega
      have hs1 := hs.1 hdl
      have hn1 := hn.1 (by omega)
      rw [e1] at hs1
      rw [show d + 1 + j - (d + 1) = j by omega] at hn1
      rw [e1, hs1, hn1, K, EReal.coe_add, coe_max]
      by_cases h : j + 1 = i
      · rw [if_pos h, if_pos (by omega)]
      · rw [if_neg h, if_neg (by omega)]
  · intro hld
    rw [if_neg (by omega)]
    refine (add_le_add (EReal.coe_le_coe_iff.mpr hr) (max_le (hs.2 hld) (hn.2 (by omega)))).trans (le_of_eq ?_)
    rw [← EReal.coe_add]; congr 1; push_cast; ring

/-! ## The vector operations at a lane -/

theorem turn_apply {F : FTy → Type} (v : FVec F S8x512 .f32) {d : ℕ} (hd : d < 512) (b : Fin 8) (l : Fin 512) :
    turn v d (ix2 b l) = v (ix2 b ⟨(l.val + 512 - d) % 512, Nat.mod_lt _ (by decide)⟩) := by
  cases d with
  | zero => unfold turn; refine congrArg (fun q => v (ix2 b q)) (Fin.ext ?_); show l.val = (l.val + 512 - 0) % 512; omega
  | succ d =>
    unfold turn
    refine dynamicRotate_apply _ _ _ _ _ _ fun a => ?_
    match a with
    | ⟨0, _⟩ => rfl
    | ⟨1, _⟩ =>
      show (l.val + 512 - (d + 1)) % 512 = (l.val + 512 - (BitVec.ofNat 32 (d + 1)).toNat % 512) % 512
      rw [BitVec.toNat_ofNat, Nat.mod_eq_of_lt (show d + 1 < 2 ^ 32 by omega), Nat.mod_eq_of_lt hd]

theorem fill_eq : (fill : Ideal .f32) = ((neg : ℝ) : EReal) := by
  show Ideal.ofBits .f32 0xCB189680#32 = _
  unfold neg
  simp [Ideal.ofBits, Ideal.ieee, -EReal.coe_mul]

theorem flags_lane (m : IVec S1x512 1) (b : Fin 8) (l : Fin 512) : flags m (ix2 b l) = m (ix2 0 l) := by
  unfold flags
  rw [shapeCast_self]
  exact broadcastTo_1b_ab_apply m _ b l

theorem lanes_lane (l : Fin 512) : lanes (ix2 0 l) = BitVec.ofNat 32 l.val := iota_single_apply _ _ _ _ _ _

theorem ofNat_inj {m n : ℕ} (hm : m < 2 ^ 31) (hn : n < 2 ^ 31) : BitVec.ofNat 32 m = BitVec.ofNat 32 n ↔ m = n := by
  constructor
  · intro h
    have := congrArg BitVec.toNat h
    rw [BitVec.toNat_ofNat, BitVec.toNat_ofNat, Nat.mod_eq_of_lt (by omega), Nat.mod_eq_of_lt (by omega)] at this
    exact this
  · rintro rfl; rfl

theorem toInt_ofNat {m : ℕ} (hm : m < 2 ^ 31) : (BitVec.ofNat 32 m).toInt = m := by
  rw [BitVec.toInt_eq_toNat_of_lt (by rw [BitVec.toNat_ofNat, Nat.mod_eq_of_lt (by omega)]; omega), BitVec.toNat_ofNat, Nat.mod_eq_of_lt (by omega)]

theorem cmpi_eq_ofNat {m n : ℕ} (hm : m < 2 ^ 31) (hn : n < 2 ^ 31) : IntOp.cmpi .eq (BitVec.ofNat 32 m) (BitVec.ofNat 32 n) = BitVec.ofBool (decide (m = n)) := by
  unfold IntOp.cmpi
  refine congrArg BitVec.ofBool ?_
  rw [Bool.eq_iff_iff, decide_eq_true_iff]
  simp only [beq_iff_eq]
  exact ofNat_inj hm hn

theorem cmpi_slt_ofNat {m n : ℕ} (hm : m < 2 ^ 31) (hn : n < 2 ^ 31) : IntOp.cmpi .slt (BitVec.ofNat 32 m) (BitVec.ofNat 32 n) = BitVec.ofBool (decide (m < n)) := by
  unfold IntOp.cmpi
  refine congrArg BitVec.ofBool ?_
  rw [Bool.eq_iff_iff, decide_eq_true_iff, BitVec.slt_iff_toInt_lt, toInt_ofNat hm, toInt_ofNat hn]
  exact Int.ofNat_lt

theorem select_ofBool {α : Type} (p : Prop) [Decidable p] (a b : α) : Scalar.select (BitVec.ofBool (decide p)) a b = if p then a else b := by
  unfold Scalar.select
  by_cases h : p <;> simp [h]

theorem ori_ofBool (p q : Prop) [Decidable p] [Decidable q] [Decidable (p ∨ q)] :
    IntOp.ori (BitVec.ofBool (decide p)) (BitVec.ofBool (decide q)) = BitVec.ofBool (decide (p ∨ q)) := by
  by_cases hp : p <;> by_cases hq : q <;> simp [IntOp.ori, hp, hq]

/-! ## A block of eight columns -/

/-- The rows of a block hold the log-probabilities of its columns. -/
def RowsAre (x : ℕ → ℕ → ℝ) (b : Fin 8) (i0 : ℕ) (rows : ℕ → Vec Ideal S1x8x512 .f32) : Prop :=
  ∀ u < 8, ∀ l : Fin 512, rows u (ix3 0 b l) = ((x l.val (i0 + u) : ℝ) : EReal)
/-- A column holds the scores before column `i`. -/
def ColIs (x : ℕ → ℕ → ℝ) (b : Fin 8) (i : ℕ) (a : FVec Ideal S8x512 .f32) : Prop :=
  ∀ l : Fin 512, a (ix2 b l) = ((K x i l.val : ℝ) : EReal)

section
variable {x : ℕ → ℕ → ℝ} {b : Fin 8} {i0 : ℕ} {a : FVec Ideal S8x512 .f32} {rows : ℕ → Vec Ideal S1x8x512 .f32}

theorem shifted_good (ha : ColIs x b i0 a) {d : ℕ} (hd : d < 512) (l : Fin 512) : Good x i0 0 d l.val (shifted fill a d (ix2 b l)) := by
  cases d with
  | zero => exact ⟨fun _ => ha l, fun h => absurd h (by omega)⟩
  | succ d =>
    have e : shifted fill a (d + 1) (ix2 b l) = if l.val < d + 1 then ((neg : ℝ) : EReal) else ((K x i0 ((l.val + 512 - (d + 1)) % 512) : ℝ) : EReal) := by
      rw [show shifted fill a (d + 1) = select (flags (cmpi .slt lanes (broadcast S1x512 (BitVec.ofNat 32 (d + 1))))) (broadcast S8x512 fill) (turn a (d + 1)) from rfl, select_apply, flags_lane, turn_apply _ hd, ha]
      show Scalar.select (IntOp.cmpi .slt (lanes (ix2 0 l)) (BitVec.ofNat 32 (d + 1))) fill _ = _
      rw [lanes_lane, cmpi_slt_ofNat (by have := l.isLt; omega) (by omega), select_ofBool, fill_eq]
    rw [e]
    constructor
    · intro h
      rw [if_neg (by omega), show (l.val + 512 - (d + 1)) % 512 = l.val - (d + 1) by have := l.isLt; omega]
    · intro h
      rw [if_pos h]; simp

theorem row_turn (hr : RowsAre x b i0 rows) {u d : ℕ} (hu : u < 8) (hd : d < 512) (l : Fin 512) :
    turn (unrow (rows u)) d (ix2 b l) = ((x ((l.val + 512 - d) % 512) (i0 + u) : ℝ) : EReal) := by
  rw [turn_apply _ hd]
  exact (shapeCast_1ab_ab_apply _ _ _ _).trans (hr u hu _)

theorem diagStep_lane (hr : RowsAre x b i0 rows) {u d : ℕ} (hu : u < 8) (hd : d < 512) (hi : i0 < 2048) {w : BitVec 32}
    (hw : w = BitVec.ofNat 32 (i0 + u)) (s n : FVec Ideal S8x512 .f32) (l : Fin 512) :
    diagStep fill w (unrow (rows u)) d s n (ix2 b l)
      = ((x ((l.val + 512 - d) % 512) (i0 + u) : ℝ) : EReal) + max (if l.val = i0 + u + d then ((neg : ℝ) : EReal) else s (ix2 b l)) (n (ix2 b l)) := by
  unfold diagStep
  show (turn (unrow (rows u)) d (ix2 b l) : EReal) + max (Scalar.select (flags _ (ix2 b l)) fill (s (ix2 b l))) (n (ix2 b l)) = _
  rw [row_turn hr hu hd, flags_lane]
  have e : Scalar.addi w (BitVec.ofNat 32 d) = BitVec.ofNat 32 (i0 + u + d) := by
    rw [hw]; exact (BitVec.ofNat_add _ _).symm
  rw [e]
  show _ + max (Scalar.select (IntOp.cmpi .eq (lanes (ix2 0 l)) (BitVec.ofNat 32 (i0 + u + d))) fill _) _ = _
  rw [lanes_lane, cmpi_eq_ofNat (by have := l.isLt; omega) (by omega), select_ofBool, fill_eq]

theorem wrapped {l d : ℕ} (hl : l < 512) (hdl : d ≤ l) : (l + 512 - d) % 512 = l - d := by omega

variable (hx : ∀ j i, |x j i| ≤ 4096)
include hx

theorem diagLv_good (hr : RowsAre x b i0 rows) (ha : ColIs x b i0 a) (hi : i0 + 8 ≤ 2048) {c base : BitVec 32} {first : BitVec 1}
    (hc : ∀ u, colNo c base u = BitVec.ofNat 32 (i0 + u)) (hf : first = BitVec.ofBool (decide (i0 = 0))) :
    ∀ u d, u + d ≤ 8 → ∀ l : Fin 512, Good x (i0 + u) u d l.val (diagLv c base first fill a rows u d (ix2 b l))
  | 0, d, hd, l => shifted_good ha (by omega) l
  | 1, d, hd, l => by
    have hs := diagLv_good hr ha hi hc hf 0 d (by omega) l
    have hn := diagLv_good hr ha hi hc hf 0 (d + 1) (by omega) l
    unfold diagLv
    rw [select_apply, flags_lane, row_turn hr (by omega) (by omega)]
    rw [diagStep_lane hr (by omega) (by omega) (by omega) (hc 0)]
    show Good x (i0 + 1) 1 d l.val (Scalar.select (IntOp.andi first (IntOp.cmpi .eq (lanes (ix2 0 l)) (BitVec.ofNat 32 d))) _ _)
    rw [lanes_lane, cmpi_eq_ofNat (by have := l.isLt; omega) (by omega), hf]
    by_cases h : i0 = 0 ∧ l.val = d
    · obtain ⟨h0, h1⟩ := h
      have e : IntOp.andi (BitVec.ofBool (decide (i0 = 0))) (BitVec.ofBool (decide (l.val = d))) = 1#1 := by simp [IntOp.andi, h0, h1]
      rw [e]
      show Good x (i0 + 1) 1 d l.val (((x ((l.val + 512 - d) % 512) (i0 + 0) : ℝ) : EReal))
      refine ⟨fun _ => ?_, fun h => absurd h (by omega)⟩
      rw [wrapped l.isLt (by omega), h1, Nat.sub_self, h0, K, K]; simp
    · have e : IntOp.andi (BitVec.ofBool (decide (i0 = 0))) (BitVec.ofBool (decide (l.val = d))) = 0#1 := by
        by_cases h0 : i0 = 0
        · have h1 : ¬l.val = d := fun h1 => h ⟨h0, h1⟩
          simp [IntOp.andi, h0, h1]
        · simp [IntOp.andi, h0]
      rw [e]
      show Good x (i0 + 1) 1 d l.val (((x ((l.val + 512 - d) % 512) (i0 + 0) : ℝ) : EReal) + _)
      exact lane_step (i := i0 + 0) hx (by omega) (by omega) hs hn (abs_le.mp (hx _ _)).2 (fun h => by rw [wrapped l.isLt h]) (by omega)
  | u + 2, d, hd, l => by
    have hs := diagLv_good hr ha hi hc hf (u + 1) d (by omega) l
    have hn := diagLv_good hr ha hi hc hf (u + 1) (d + 1) (by omega) l
    unfold diagLv
    rw [diagStep_lane hr (by omega) (by omega) (by omega) (hc (u + 1))]
    exact lane_step (i := i0 + (u + 1)) hx (by omega) (by omega) hs hn (abs_le.mp (hx _ _)).2 (fun h => by rw [wrapped l.isLt h]) (by omega)

theorem plainLv_good (hr : RowsAre x b i0 rows) (ha : ColIs x b i0 a) (hi : i0 + 8 ≤ 2048) (hi' : 512 ≤ i0) :
    ∀ u d, u + d ≤ 8 → ∀ l : Fin 512, Good x (i0 + u) u d l.val (plainLv fill a rows u d (ix2 b l))
  | 0, d, hd, l => shifted_good ha (by omega) l
  | u + 1, d, hd, l => by
    have hs := plainLv_good hr ha hi hi' u d (by omega) l
    have hn := plainLv_good hr ha hi hi' u (d + 1) (by omega) l
    unfold plainLv
    show Good x (i0 + u + 1) (u + 1) d l.val ((turn (unrow (rows u)) d (ix2 b l) : EReal) + max (plainLv fill a rows u d (ix2 b l)) (plainLv fill a rows u (d + 1) (ix2 b l)))
    rw [row_turn hr (by omega) (by omega)]
    have := lane_step hx (by omega) (by omega) hs hn (abs_le.mp (hx ((l.val + 512 - d) % 512) (i0 + u))).2 (fun h => by rw [wrapped l.isLt h]) (by omega)
    rwa [if_neg (by have := l.isLt; omega)] at this
omit hx

open Classical in
/-- A decision bit as a number. -/
def bitVal (x : ℕ → ℕ → ℝ) (i j : ℕ) : EReal := if Bit x i j then 1 else 0

open Classical in
theorem stored_lane (m : IVec S8x512 1) (b : Fin 8) (l : Fin 512) (p : Prop) (h : m (ix2 b l) = BitVec.ofBool (decide p)) :
    (stored m : FVec Ideal S1x8x512 .f32) (ix3 0 b l) = (if p then 1 else 0 : EReal) := by
  unfold stored
  refine (shapeCast_ab_1ab_apply _ _ _ _ _).trans ?_
  show (((((m (ix2 b l)).setWidth 32).toInt : ℝ)) : EReal) = _
  rw [h]
  by_cases hp : p <;> simp [hp]

open Classical in
theorem bits_lane {i : ℕ} {v w : EReal} {l : ℕ} (hl : 0 < l) {u : ℕ} (hv : Good x i u 0 l v) (hw : Good x i u 1 l w) :
    Ideal.cmp .olt v w = BitVec.ofBool (decide (K x i l < K x i (l - 1))) := by
  rw [hv.1 (by omega), hw.1 hl, Nat.sub_zero]
  unfold Ideal.cmp
  refine congrArg BitVec.ofBool ?_
  rw [Bool.eq_iff_iff, decide_eq_true_iff, decide_eq_true_iff]
  exact EReal.coe_lt_coe_iff

include hx
open Classical in
theorem diagBit_lane (hr : RowsAre x b i0 rows) (ha : ColIs x b i0 a) (hi : i0 + 8 ≤ 2048) {c base : BitVec 32} {first : BitVec 1}
    (hc : ∀ u, colNo c base u = BitVec.ofNat 32 (i0 + u)) (hf : first = BitVec.ofBool (decide (i0 = 0))) {u : ℕ} (hu : u < 8) (l : Fin 512) (hl : 0 < l.val) :
    diagBit c base first fill a rows u (ix3 0 b l) = bitVal x (i0 + u) l.val := by
  unfold diagBit bitVal
  refine stored_lane _ b l _ ?_
  have e1 : broadcastTo S8x512 (cmpi .eq lanes (broadcast S1x512 (colNo c base u))) broadcasts_S1x512_S8x512 (ix2 b l) = BitVec.ofBool (decide (l.val = i0 + u)) := by
    refine (broadcastTo_1b_ab_apply _ _ b l).trans ?_
    show IntOp.cmpi .eq (lanes (ix2 0 l)) (colNo c base u) = _
    rw [lanes_lane, hc u, cmpi_eq_ofNat (by have := l.isLt; omega) (by omega)]
  have e2 := bits_lane hl (diagLv_good hx hr ha hi hc hf u 0 (by omega) l) (diagLv_good hx hr ha hi hc hf u 1 (by omega) l)
  show IntOp.ori (broadcastTo S8x512 _ _ (ix2 b l)) (Ideal.cmp .olt (diagLv c base first fill a rows u 0 (ix2 b l)) (diagLv c base first fill a rows u 1 (ix2 b l))) = _
  rw [e1, e2]
  exact @ori_ofBool _ _ _ _ (Classical.propDecidable _)

open Classical in
theorem plainBit_lane (hr : RowsAre x b i0 rows) (ha : ColIs x b i0 a) (hi : i0 + 8 ≤ 2048) (hi' : 512 ≤ i0) {u : ℕ} (hu : u < 8) (l : Fin 512) (hl : 0 < l.val) :
    plainBit fill a rows u (ix3 0 b l) = bitVal x (i0 + u) l.val := by
  unfold plainBit bitVal
  refine stored_lane _ b l _ ?_
  have e2 := bits_lane hl (plainLv_good hx hr ha hi hi' u 0 (by omega) l) (plainLv_good hx hr ha hi hi' u 1 (by omega) l)
  refine e2.trans (congrArg BitVec.ofBool ?_)
  rw [Bool.eq_iff_iff, decide_eq_true_iff, decide_eq_true_iff]
  unfold Bit
  exact ⟨Or.inr, fun h => h.resolve_left (by have := l.isLt; omega)⟩
end

/-! ## A point's block of 256 columns -/

section
variable {x : ℕ → ℕ → ℝ} {b : Fin 8} {n : ℕ} {xt : Vec Ideal S256x8x512 .f32} {a : FVec Ideal S8x512 .f32}

/-- A block of columns, from column `i0` on, of one batch row. -/
def BlockIs (x : ℕ → ℕ → ℝ) (b : Fin 8) (i0 : ℕ) (xt : Vec Ideal S256x8x512 .f32) : Prop :=
  ∀ (r : Fin 256) (l : Fin 512), xt (ix3 r b l) = ((x l.val (i0 + r.val) : ℝ) : EReal)

theorem rows_are (h : BlockIs x b (256 * n) xt) {k : ℕ} (hk : k < 32) : RowsAre x b (256 * n + 8 * k) (rowsOf xt k) := by
  intro u hu l
  show xt (ix3 (Fin.ofNat 256 (8 * k + u % 8)) b l) = _
  rw [h]
  have : (Fin.ofNat 256 (8 * k + u % 8)).val = 8 * k + u := by show (8 * k + u % 8) % 256 = _; omega
  rw [this, Nat.add_assoc]

theorem colNo_eq (n k u : ℕ) : colNo (BitVec.ofNat 32 n) (tripBase k) u = BitVec.ofNat 32 (256 * n + 8 * k + u) := by
  have e : Scf.iv 0#32 1#32 k = BitVec.ofNat 32 k := by unfold Scf.iv; simp
  unfold colNo tripBase
  rw [e, BitVec.ofNat_add, BitVec.ofNat_add, Nat.mul_comm 256 n, Nat.mul_comm 8 k, BitVec.ofNat_mul, BitVec.ofNat_mul]
  rfl

theorem firstTrip_eq {n k : ℕ} (hn : n < 8) (hk : k < 32) : firstTrip (BitVec.ofNat 32 n) k = BitVec.ofBool (decide (256 * n + 8 * k = 0)) :=
  (by decide +kernel : ∀ (n : Fin 8) (k : Fin 32), firstTrip (BitVec.ofNat 32 n.val) k.val = BitVec.ofBool (decide (256 * n.val + 8 * k.val = 0))) ⟨n, hn⟩ ⟨k, hk⟩

variable (hx : ∀ j i, |x j i| ≤ 4096)
include hx

theorem diagCol_is (h : BlockIs x b (256 * n) xt) (ha : ColIs x b (256 * n) a) (hn : n < 8) :
    ∀ k ≤ 32, ColIs x b (256 * n + 8 * k) (diagCol (BitVec.ofNat 32 n) xt a k)
  | 0, _ => ha
  | k + 1, hk => fun l => by
    have := (diagLv_good hx (rows_are h (k := k) (by omega)) (diagCol_is h ha hn k (by omega)) (by omega) (colNo_eq n k) (firstTrip_eq hn (by omega)) 8 0 (by omega) l).1 (by omega)
    exact this

theorem plainCol_is (h : BlockIs x b (256 * n) xt) (ha : ColIs x b (256 * n) a) (hn : n < 8) (hn' : 2 ≤ n) :
    ∀ k ≤ 32, ColIs x b (256 * n + 8 * k) (plainCol xt a k)
  | 0, _ => ha
  | k + 1, hk => fun l => by
    have := (plainLv_good hx (rows_are h (k := k) (by omega)) (plainCol_is h ha hn hn' k (by omega)) (by omega) (by omega) 8 0 (by omega) l).1 (by omega)
    exact this

theorem diagBits_is (h : BlockIs x b (256 * n) xt) (ha : ColIs x b (256 * n) a) (hn : n < 8) (r : Fin 256) (l : Fin 512) (hl : 0 < l.val) :
    diagBits (BitVec.ofNat 32 n) xt a (ix3 r b l) = bitVal x (256 * n + r.val) l.val := by
  have hr := r.isLt
  have := diagBit_lane hx (rows_are h (k := r.val / 8) (by omega)) (diagCol_is hx h ha hn (r.val / 8) (by omega)) (by omega)
    (colNo_eq n (r.val / 8)) (firstTrip_eq hn (by omega)) (u := r.val % 8) (by omega) l hl
  rw [show 256 * n + 8 * (r.val / 8) + r.val % 8 = 256 * n + r.val by omega] at this
  exact this

theorem plainBits_is (h : BlockIs x b (256 * n) xt) (ha : ColIs x b (256 * n) a) (hn : n < 8) (hn' : 2 ≤ n) (r : Fin 256) (l : Fin 512) (hl : 0 < l.val) :
    plainBits xt a (ix3 r b l) = bitVal x (256 * n + r.val) l.val := by
  have hr := r.isLt
  have := plainBit_lane hx (rows_are h (k := r.val / 8) (by omega)) (plainCol_is hx h ha hn hn' (r.val / 8) (by omega)) (by omega) (by omega)
    (u := r.val % 8) (by omega) l hl
  rw [show 256 * n + 8 * (r.val / 8) + r.val % 8 = 256 * n + r.val by omega] at this
  exact this

/-- What a point of the forward pass leaves, from a block of the log-probabilities and the scores carried in. -/
theorem fwd_is {i : grid0.Coords} (hi : (i 0).val = n) (hn : n < 8) {x0 : Vec Ideal S8x512x256 .f32} {xs : Vec Ideal S8x512 .f32}
    (h0 : ∀ (l : Fin 512) (r : Fin 256), x0 (ix3 b l r) = ((x l.val (256 * n + r.val) : ℝ) : EReal)) (ha : 0 < n → ColIs x b (256 * n) xs) :
    ColIs x b (256 * (n + 1)) (fwdCol i x0 xs) ∧ ∀ (r : Fin 256) (l : Fin 512), 0 < l.val → fwdBits i x0 xs (ix3 r b l) = bitVal x (256 * n + r.val) l.val := by
  have h : BlockIs x b (256 * n) (columns x0) := fun r l => h0 l r
  have hs : ColIs x b (256 * n) (fwdStart i xs) := by
    unfold fwdStart
    by_cases h : n = 0
    · rw [if_pos (hi.trans h)]
      intro l
      subst h
      show Ideal.ofBits .f32 0x00000000#32 = _
      rw [Ideal.ofBits_zero_f32, K]; simp
    · rw [if_neg (by omega)]; exact ha (by omega)
  unfold fwdCol fwdBits
  rw [hi]
  by_cases h2 : n < 2
  · rw [if_pos h2, if_pos h2]
    exact ⟨diagCol_is hx h hs hn 32 le_rfl, diagBits_is hx h hs hn⟩
  · rw [if_neg h2, if_neg h2]
    exact ⟨plainCol_is hx h hs hn (by omega) 32 le_rfl, plainBits_is hx h hs hn (by omega)⟩
end

end Cert.KernelIdeal.Hand
end
-- ==== Proof.Value.Bwd.lean ====
/- The backward pass over the extended reals: the carried block has a one at the token of the column, and so has every
   column of the path. -/
module

public import proofs.«01_k».proof.Proof.Value.Fwd

@[expose] public section

-- the rectangles of this kernel have large extents
set_option maxRecDepth 16384

noncomputable section

namespace Cert.KernelIdeal.Hand

open Cert.KernelIdeal.Gen Cert.Model
open Idealize.ShloMosaic hiding T
open Idealize.ShloMosaic.ValueIdx

/-! ## The tree sum -/

theorem pairUp_sum (y : S8x512.Idx) : ∀ l : List (FVec Ideal S8x512 .f32), ((pairUp l).map fun v => (v y : EReal)).sum = (l.map fun v => (v y : EReal)).sum
  | [] => rfl
  | [_] => rfl
  | v :: w :: l => by
    have h := pairUp_sum y l
    rw [pairUp, List.map_cons, List.sum_cons, h, List.map_cons, List.map_cons, List.sum_cons, List.sum_cons, ← add_assoc]
    rfl

theorem pairUp_length {F : FTy → Type} [FloatOps F] : ∀ l : List (FVec F S8x512 .f32), (pairUp l).length ≤ (l.length + 1) / 2
  | [] => by simp [pairUp]
  | [_] => by simp [pairUp]
  | v :: w :: l => by
    have h := pairUp_length l
    rw [pairUp, List.length_cons, List.length_cons, List.length_cons]
    omega

theorem zero_eq : (Scalar.ofBits .f32 0x00000000#32 : Ideal .f32) = (0 : EReal) := Ideal.ofBits_zero_f32

theorem head_sum (y : S8x512.Idx) : ∀ l : List (FVec Ideal S8x512 .f32), l.length ≤ 1 →
    (l.headD (broadcast S8x512 (Scalar.ofBits .f32 0x00000000#32)) y : EReal) = (l.map fun v => (v y : EReal)).sum
  | [], _ => zero_eq
  | [v], _ => (add_zero (v y : EReal)).symm
  | _ :: _ :: _, h => absurd h (by simp)

theorem treeSum_apply (l : List (FVec Ideal S8x512 .f32)) (hl : l.length ≤ 16) (y : S8x512.Idx) : (treeSum l y : EReal) = (l.map fun v => (v y : EReal)).sum := by
  unfold treeSum
  have h1 := pairUp_length l
  have h2 := pairUp_length (pairUp l)
  have h3 := pairUp_length (pairUp (pairUp l))
  have h4 := pairUp_length (pairUp (pairUp (pairUp l)))
  rw [head_sum y _ (by omega), pairUp_sum, pairUp_sum, pairUp_sum, pairUp_sum]

theorem sum_pick (f : ℕ → EReal) (e : ℕ) : ∀ n, ((List.range n).map fun dd => (if e = dd then (1 : EReal) else 0) * f dd).sum = if e < n then f e else 0
  | 0 => rfl
  | n + 1 => by
    rw [List.range_succ, List.map_append, List.sum_append, sum_pick f e n, List.map_singleton, List.sum_singleton]
    obtain h | h | h := Nat.lt_trichotomy e n
    · rw [if_pos h, if_neg (by omega), if_pos (by omega), zero_mul, add_zero]
    · rw [if_neg (by omega), if_pos h, if_pos (by omega), one_mul, zero_add, h]
    · rw [if_neg (by omega), if_neg (by omega), if_neg (by omega), zero_mul, add_zero]

/-! ## The vector operations at a lane -/

theorem turnBack_apply {F : FTy → Type} (v : FVec F S8x512 .f32) {d : ℕ} (hd : d < 512) (b : Fin 8) (l : Fin 512) :
    turnBack v d (ix2 b l) = v (ix2 b ⟨(l.val + d) % 512, Nat.mod_lt _ (by decide)⟩) := by
  cases d with
  | zero => unfold turnBack; refine congrArg (fun q => v (ix2 b q)) (Fin.ext ?_); show l.val = (l.val + 0) % 512; omega
  | succ d =>
    unfold turnBack
    refine dynamicRotate_apply _ _ _ _ _ _ fun a => ?_
    match a with
    | ⟨0, _⟩ => rfl
    | ⟨1, _⟩ =>
      show (l.val + (d + 1)) % 512 = (l.val + 512 - (BitVec.ofNat 32 (512 - (d + 1))).toNat % 512) % 512
      rw [BitVec.toNat_ofNat, Nat.mod_eq_of_lt (show 512 - (d + 1) < 2 ^ 32 by omega), Nat.mod_eq_of_lt (show 512 - (d + 1) < 512 by omega)]
      congr 1; omega

theorem step_eq {dd : ℕ} (h : dd ≤ 8) : (Scalar.ofBits .f32 (stepWord dd) : Ideal .f32) = (((dd : ℝ)) : EReal) := by
  show Ideal.ofBits .f32 (stepWord dd) = _
  interval_cases dd <;> simp [stepWord, Ideal.ofBits, Ideal.ieee, -EReal.coe_mul] <;> norm_num

theorem number_of (m : BitVec 1) (p : Prop) [Decidable p] (h : m = BitVec.ofBool (decide p)) : ((((m.setWidth 32).toInt : ℝ)) : EReal) = (if p then 1 else 0 : EReal) := by
  subst h
  by_cases hp : p <;> simp [hp]

theorem stepMask_lane {d : FVec Ideal S8x512 .f32} {y : S8x512.Idx} {e : ℕ} (hd : d y = (((e : ℝ)) : EReal)) {dd : ℕ} (h : dd ≤ 8) :
    stepMask d dd y = (if e = dd then 1 else 0 : EReal) := by
  refine number_of (Ideal.cmp .oeq (d y) (Scalar.ofBits .f32 (stepWord dd) : Ideal .f32)) _ ?_
  rw [hd, step_eq h]
  unfold Ideal.cmp
  refine congrArg BitVec.ofBool ?_
  rw [Bool.eq_iff_iff, decide_eq_true_iff, decide_eq_true_iff, EReal.coe_eq_coe_iff, Nat.cast_inj]

theorem notFirst_lane (l : Fin 512) : (notFirst : FVec Ideal S1x512 .f32) (ix2 0 l) = (if 0 < l.val then 1 else 0 : EReal) := by
  refine number_of (IntOp.cmpi .sgt (lanes (ix2 0 l)) 0#32) _ ?_
  rw [lanes_lane]
  exact cmpi_slt_ofNat (m := 0) (by omega) (by have := l.isLt; omega)

/-! ## A block of eight columns -/

section
variable {x : ℕ → ℕ → ℝ} {b : Fin 8} {n0 : ℕ} {h : FVec Ideal S8x512 .f32} {rows : ℕ → Vec Ideal S1x8x512 .f32}

/-- The rows of a block hold the decision bits of its columns, the latest first. -/
def FlagsAre (x : ℕ → ℕ → ℝ) (b : Fin 8) (n0 : ℕ) (rows : ℕ → Vec Ideal S1x8x512 .f32) : Prop :=
  ∀ u < 8, ∀ l : Fin 512, 0 < l.val → rows u (ix3 0 b l) = bitVal x (2047 - (n0 + u)) l.val
/-- A one in lane `p`, zeros in the others. -/
def OneAt (b : Fin 8) (p : ℕ) (h : FVec Ideal S8x512 .f32) : Prop :=
  ∀ l : Fin 512, h (ix2 b l) = (if l.val = p then 1 else 0 : EReal)

theorem T_lt (x : ℕ → ℕ → ℝ) : ∀ n, T x n < 512
  | 0 => by unfold T; omega
  | n + 1 => by have := T_lt x n; unfold T; split <;> omega
theorem T_succ_le (x : ℕ → ℕ → ℝ) (n : ℕ) : T x (n + 1) ≤ T x n ∧ T x n ≤ T x (n + 1) + 1 := by
  rw [T]; split <;> omega
theorem T_add_le (x : ℕ → ℕ → ℝ) (n : ℕ) : ∀ j, T x (n + j) ≤ T x n ∧ T x n ≤ T x (n + j) + j
  | 0 => ⟨le_rfl, le_rfl⟩
  | j + 1 => by
    have h1 := T_add_le x n j
    have h2 := T_succ_le x (n + j)
    rw [← Nat.add_assoc]; omega

open Classical in
theorem gates_lane (hr : FlagsAre x b n0 rows) {u : ℕ} (hu : u < 8) (l : Fin 512) :
    gates (rows u) (ix2 b l) = (if 0 < l.val ∧ Bit x (2047 - (n0 + u)) l.val then 1 else 0 : EReal) := by
  unfold gates
  show (unrow (rows u) (ix2 b l) : EReal) * broadcastTo S8x512 notFirst broadcasts_S1x512_S8x512 (ix2 b l) = _
  have e1 : broadcastTo S8x512 (notFirst : FVec Ideal S1x512 .f32) broadcasts_S1x512_S8x512 (ix2 b l) = (if 0 < l.val then 1 else 0 : EReal) :=
    (broadcastTo_1b_ab_apply _ _ b l).trans (notFirst_lane l)
  have e2 : unrow (rows u) (ix2 b l) = rows u (ix3 0 b l) := shapeCast_1ab_ab_apply _ _ _ _
  rw [e1, e2]
  by_cases hl : 0 < l.val
  · rw [hr u hu l hl, if_pos hl, mul_one]
    unfold bitVal
    simp [hl]
  · rw [if_neg hl, mul_zero, if_neg (fun h => hl h.1)]

open Classical in
theorem shift_lane (hr : FlagsAre x b n0 rows) : ∀ j ≤ 8, shift rows j (ix2 b ⟨T x n0, T_lt x n0⟩) = (((T x n0 - T x (n0 + j) : ℕ) : ℝ) : EReal)
  | 0, _ => by
    rw [Nat.add_zero, Nat.sub_self]
    exact zero_eq.trans (by simp)
  | j + 1, hj => by
    have hi := shift_lane hr j (by omega)
    have hT := T_add_le x n0 j
    have hlt := T_lt x n0
    rw [shift]
    show (shift rows j (ix2 b ⟨T x n0, T_lt x n0⟩) : EReal) + treeSum _ _ = _
    rw [hi, treeSum_apply _ (by rw [List.length_map, List.length_range]; omega), List.map_map]
    have e : ((List.range (j + 1)).map ((fun v => (v (ix2 b ⟨T x n0, T_lt x n0⟩) : EReal)) ∘ fun dd => mulf (stepMask (shift rows j) dd) (turn (gates (rows j)) dd)))
        = (List.range (j + 1)).map fun dd => (if T x n0 - T x (n0 + j) = dd then (1 : EReal) else 0) * (turn (gates (rows j)) dd (ix2 b ⟨T x n0, T_lt x n0⟩) : EReal) := by
      refine List.map_congr_left fun dd hdd => ?_
      have hdd' := List.mem_range.mp hdd
      show (stepMask (shift rows j) dd (ix2 b ⟨T x n0, T_lt x n0⟩) : EReal) * _ = _
      rw [stepMask_lane hi (by omega)]
    rw [e, sum_pick, if_pos (by omega), turn_apply _ (by omega), gates_lane hr (by omega)]
    have e3 : (T x n0 + 512 - (T x n0 - T x (n0 + j))) % 512 = T x (n0 + j) := by omega
    simp only [e3]
    have e4 : T x (n0 + (j + 1)) = if 0 < T x (n0 + j) ∧ Bit x (2047 - (n0 + j)) (T x (n0 + j)) then T x (n0 + j) - 1 else T x (n0 + j) := by
      rw [← Nat.add_assoc, T]
    by_cases hb : 0 < T x (n0 + j) ∧ Bit x (2047 - (n0 + j)) (T x (n0 + j))
    · rw [if_pos hb] at e4 ⊢
      rw [e4, show T x n0 - (T x (n0 + j) - 1) = T x n0 - T x (n0 + j) + 1 by omega, Nat.cast_add, EReal.coe_add]
      simp
    · rw [if_neg hb] at e4 ⊢
      rw [e4, add_zero]

theorem spread_lane (hr : FlagsAre x b n0 rows) (hh : OneAt b (T x n0) h) {j n : ℕ} (hj : j ≤ 8) (hn : j < n) (hn' : n ≤ 9) :
    OneAt b (T x (n0 + j)) (spread h (shift rows j) n) := by
  intro l
  have hi := shift_lane hr j hj
  have hT := T_add_le x n0 j
  have hlt := T_lt x n0
  have hl := l.isLt
  unfold spread
  rw [treeSum_apply _ (by rw [List.length_map, List.length_range]; omega), List.map_map]
  have e : ((List.range n).map ((fun v => (v (ix2 b l) : EReal)) ∘ fun dd => turnBack (mulf h (stepMask (shift rows j) dd)) dd))
      = (List.range n).map fun dd => (if T x n0 - T x (n0 + j) = dd then (1 : EReal) else 0) * (if (l.val + dd) % 512 = T x n0 then 1 else 0) := by
    refine List.map_congr_left fun dd hdd => ?_
    have hdd' := List.mem_range.mp hdd
    show (turnBack (mulf h (stepMask (shift rows j) dd)) dd (ix2 b l) : EReal) = _
    rw [turnBack_apply _ (by omega)]
    show (h (ix2 b _) : EReal) * stepMask (shift rows j) dd (ix2 b _) = _
    rw [hh]
    by_cases hp : (l.val + dd) % 512 = T x n0
    · have e5 : (⟨(l.val + dd) % 512, Nat.mod_lt _ (by decide)⟩ : Fin 512) = ⟨T x n0, T_lt x n0⟩ := Fin.ext hp
      rw [e5, stepMask_lane hi (by omega)]
      simp only [if_pos hp, if_true]
      exact mul_comm _ _
    · simp only [if_neg hp, zero_mul, mul_zero]
  rw [e, sum_pick, if_pos (by omega)]
  by_cases hp : l.val = T x (n0 + j)
  · rw [if_pos hp, if_pos (by omega)]
  · rw [if_neg hp, if_neg (by omega)]
end

/-! ## A point's block of 256 columns -/

section
variable {x : ℕ → ℕ → ℝ} {b : Fin 8} {g : ℕ} {bits : Vec Ideal S256x8x512 .f32} {h : FVec Ideal S8x512 .f32}

/-- A block of decision bits, from column `i0` on, of one batch row; lane zero may hold anything. -/
def BitsAre (x : ℕ → ℕ → ℝ) (b : Fin 8) (i0 : ℕ) (bits : Vec Ideal S256x8x512 .f32) : Prop :=
  ∀ (r : Fin 256) (l : Fin 512), 0 < l.val → bits (ix3 r b l) = bitVal x (i0 + r.val) l.val

theorem flags_are (hb : BitsAre x b (256 * (7 - g)) bits) (hg : g < 8) {k : ℕ} (hk : k < 32) : FlagsAre x b (256 * g + 8 * k) (rowsBack bits k) := by
  intro u hu l hl
  show bits (ix3 (Fin.ofNat 256 (255 - (8 * k + u % 8))) b l) = _
  rw [hb _ _ hl]
  have : (Fin.ofNat 256 (255 - (8 * k + u % 8))).val = 255 - (8 * k + u) := by show (255 - (8 * k + u % 8)) % 256 = _; omega
  rw [this]
  congr 1; omega

theorem headCol_is (hb : BitsAre x b (256 * (7 - g)) bits) (hh : OneAt b (T x (256 * g)) h) (hg : g < 8) :
    ∀ k ≤ 32, OneAt b (T x (256 * g + 8 * k)) (headCol bits h k)
  | 0, _ => hh
  | k + 1, hk => spread_lane (flags_are hb hg (by omega)) (headCol_is hb hh hg k (by omega)) (j := 8) le_rfl (by omega) le_rfl

theorem pathCols_is (hb : BitsAre x b (256 * (7 - g)) bits) (hh : OneAt b (T x (256 * g)) h) (hg : g < 8) (r : Fin 256) (l : Fin 512) :
    pathCols bits h (ix3 r b l) = (if l.val = T x (256 * g + 255 - r.val) then 1 else 0 : EReal) := by
  have hr := r.isLt
  have e := spread_lane (flags_are hb hg (k := (255 - r.val) / 8) (by omega)) (headCol_is hb hh hg ((255 - r.val) / 8) (by omega))
    (j := (255 - r.val) % 8) (n := (255 - r.val) % 8 + 1) (by omega) (by omega) (by omega) l
  rw [show 256 * g + 8 * ((255 - r.val) / 8) + (255 - r.val) % 8 = 256 * g + 255 - r.val by omega] at e
  exact (shapeCast_ab_1ab_apply _ _ _ _ _).trans e

/-- What a point of the backward pass leaves, from a block of decision bits and the one-hot block carried in. -/
theorem bwd_is {i : grid1.Coords} (hi : (i 0).val = g) (hg : g < 8) {x0 : Vec Ideal S256x8x512 .f32} {xs : Vec Ideal S8x512 .f32}
    (hb : BitsAre x b (256 * (7 - g)) x0) (hh : 0 < g → OneAt b (T x (256 * g)) xs) :
    OneAt b (T x (256 * (g + 1))) (bwdCol i x0 xs)
      ∧ ∀ (l : Fin 512) (r : Fin 256), bwdPath i x0 xs (ix3 b l r) = (if l.val = T x (256 * g + 255 - r.val) then 1 else 0 : EReal) := by
  have hs : OneAt b (T x (256 * g)) (bwdStart i xs) := by
    unfold bwdStart
    by_cases h : g = 0
    · rw [if_pos (hi.trans h)]
      intro l
      subst h
      unfold k1_pay113
      simp only [shapeCast_self]
      refine (broadcastTo_1b_ab_apply _ _ b l).trans ?_
      refine number_of (IntOp.cmpi .eq (lanes (ix2 0 l)) 511#32) _ ?_
      rw [lanes_lane]
      exact cmpi_eq_ofNat (n := 511) (by have := l.isLt; omega) (by omega)
    · rw [if_neg (by omega)]; exact hh (by omega)
  exact ⟨headCol_is hb hs hg 32 le_rfl, fun l r => pathCols_is hb hs hg r l⟩
end

end Cert.KernelIdeal.Hand
end
-- ==== Proof.Value.Whole.lean ====
/- The two pipelines over the extended reals: the first leaves the decision bits, the second the path. -/
module

public import proofs.«01_k».proof.Proof.KernelIdeal.Frame
public import proofs.«01_k».proof.Proof.Value.Bwd
public import Idealize.ShloMosaic.Lib.Pipeline.ValueKit

@[expose] public section

-- the rectangles of this kernel have large extents
set_option maxRecDepth 16384

noncomputable section

namespace Cert.KernelIdeal.Hand

open Cert.KernelIdeal.Gen Cert.Model
open Idealize.ShloMosaic hiding T ix2 ix3 eq_ix2 eq_ix3
open Idealize.ShloMosaic.TcCoe Idealize.ShloMosaic.ValueIdx
open Idealize.ShloMosaic.Pipeline (Dat Cfg Window)

/-! ## Where the blocks lie -/

theorem N0 : cfg0.N = 8 := by decide +kernel
theorem N1 : cfg1.N = 8 := by decide +kernel

theorem index0_0 : ∀ (t : Fin cfg0.N) (a : Fin 3), win0_0.index t a = (![0, 0, t.val] : Fin 3 → ℕ) a :=
  (by decide +kernel : ∀ (t : Fin grid0.N) (a : Fin 3), win0_0.index t a = (![0, 0, t.val] : Fin 3 → ℕ) a)
theorem index0_1 : ∀ (t : Fin cfg0.N) (a : Fin 3), win0_1.index t a = (![t.val, 0, 0] : Fin 3 → ℕ) a :=
  (by decide +kernel : ∀ (t : Fin grid0.N) (a : Fin 3), win0_1.index t a = (![t.val, 0, 0] : Fin 3 → ℕ) a)
theorem index1_0 : ∀ (t : Fin cfg1.N) (a : Fin 3), win1_0.index t a = (![7 - t.val, 0, 0] : Fin 3 → ℕ) a :=
  (by decide +kernel : ∀ (t : Fin grid1.N) (a : Fin 3), win1_0.index t a = (![7 - t.val, 0, 0] : Fin 3 → ℕ) a)
theorem index1_1 : ∀ (t : Fin cfg1.N) (a : Fin 3), win1_1.index t a = (![0, 0, 7 - t.val] : Fin 3 → ℕ) a :=
  (by decide +kernel : ∀ (t : Fin grid1.N) (a : Fin 3), win1_1.index t a = (![0, 0, 7 - t.val] : Fin 3 → ℕ) a)

theorem place0_0 (t : Fin cfg0.N) (b : Fin 8) (l : Fin 512) (r : Fin 256) (i : Fin 2048) (hi : i.val = 256 * t.val + r.val) :
    ((cfg0.win 0).blk t).view.emb (ix3 b l r) = ix3 b l i := by
  funext a
  refine Fin.ext ?_
  have e := win0_0.rect_emb_val t (ix3 b l r) a
  rw [index0_0 t a] at e
  refine e.trans ?_
  match a with
  | ⟨0, _⟩ => exact (congrArg (· + b.val) (Nat.zero_mul _)).trans (Nat.zero_add _)
  | ⟨1, _⟩ => exact (congrArg (· + l.val) (Nat.zero_mul _)).trans (Nat.zero_add _)
  | ⟨2, _⟩ => show t.val * 256 + r.val = i.val; omega
theorem place0_1 (t : Fin cfg0.N) (b : Fin 8) (l : Fin 512) (r : Fin 256) (i : Fin 2048) (hi : i.val = 256 * t.val + r.val) :
    ((cfg0.win 1).blk t).view.emb (ix3 r b l) = ix3 i b l := by
  funext a
  refine Fin.ext ?_
  have e := win0_1.rect_emb_val t (ix3 r b l) a
  rw [index0_1 t a] at e
  refine e.trans ?_
  match a with
  | ⟨0, _⟩ => show t.val * 256 + r.val = i.val; omega
  | ⟨1, _⟩ => exact (congrArg (· + b.val) (Nat.zero_mul _)).trans (Nat.zero_add _)
  | ⟨2, _⟩ => exact (congrArg (· + l.val) (Nat.zero_mul _)).trans (Nat.zero_add _)
theorem place1_0 (t : Fin cfg1.N) (b : Fin 8) (l : Fin 512) (r : Fin 256) (i : Fin 2048) (hi : i.val = 256 * (7 - t.val) + r.val) :
    ((cfg1.win 0).blk t).view.emb (ix3 r b l) = ix3 i b l := by
  funext a
  refine Fin.ext ?_
  have e := win1_0.rect_emb_val t (ix3 r b l) a
  rw [index1_0 t a] at e
  refine e.trans ?_
  match a with
  | ⟨0, _⟩ => show (7 - t.val) * 256 + r.val = i.val; omega
  | ⟨1, _⟩ => exact (congrArg (· + b.val) (Nat.zero_mul _)).trans (Nat.zero_add _)
  | ⟨2, _⟩ => exact (congrArg (· + l.val) (Nat.zero_mul _)).trans (Nat.zero_add _)
theorem place1_1 (t : Fin cfg1.N) (b : Fin 8) (l : Fin 512) (r : Fin 256) (i : Fin 2048) (hi : i.val = 256 * (7 - t.val) + r.val) :
    ((cfg1.win 1).blk t).view.emb (ix3 b l r) = ix3 b l i := by
  funext a
  refine Fin.ext ?_
  have e := win1_1.rect_emb_val t (ix3 b l r) a
  rw [index1_1 t a] at e
  refine e.trans ?_
  match a with
  | ⟨0, _⟩ => exact (congrArg (· + b.val) (Nat.zero_mul _)).trans (Nat.zero_add _)
  | ⟨1, _⟩ => exact (congrArg (· + l.val) (Nat.zero_mul _)).trans (Nat.zero_add _)
  | ⟨2, _⟩ => show (7 - t.val) * 256 + r.val = i.val; omega

theorem covers0 : win0_1.Covers := by decide +kernel
theorem covers1 : win1_1.Covers := by decide +kernel

/-! ## The forward pipeline -/

section
variable (V : (c : Dev nD) → (b : Ref sig .tc) → Buf (Elt Ideal) ((c : Thread nD τ).loc b)) (c : Dev nD)
variable {X : Fin 8 → ℕ → ℕ → ℝ}

section
variable (hx : ∀ b j i, |X b j i| ≤ 4096) (hA : ∀ (b : Fin 8) (l : Fin 512) (i : Fin 2048), V c main_arg0 (ix3 b l i) = ((X b l.val i.val : ℝ) : EReal))
include hx hA

theorem block0 (t : Fin cfg0.N) (b : Fin 8) (l : Fin 512) (r : Fin 256) :
    iblk0 (F := Ideal) V c 0 t (ix3 b l r) = ((X b l.val (256 * t.val + r.val) : ℝ) : EReal) := by
  have ht : t.val < 8 := lt_of_lt_of_eq t.isLt N0
  have hr := r.isLt
  have e : iblk0 (F := Ideal) V c 0 t (ix3 b l r) = V c main_arg0 (((cfg0.win 0).blk t).view.emb (ix3 b l r)) := rfl
  rw [e, place0_0 t b l r ⟨256 * t.val + r.val, by omega⟩ rfl]
  exact hA _ _ _

theorem carry0_is (b : Fin 8) : ∀ n ≤ 8, 0 < n → ColIs (X b) b (256 * n) (carry0 (F := Ideal) V c n)
  | 0, _, h => absurd h (by omega)
  | n + 1, hn, _ => by
    have h := (fwd_is (hx b) (i := grid0.coords ⟨n, lt_of_lt_of_eq hn N0.symm⟩) (n := n) (coords0_val _) (by omega)
      (fun l r => block0 V c hx hA ⟨n, lt_of_lt_of_eq hn N0.symm⟩ b l r) (fun h0 => carry0_is b n (by omega) h0)).1
    rwa [← carry0_succ V c ⟨n, lt_of_lt_of_eq hn N0.symm⟩] at h

/-- The first pipeline leaves the decision bits (in lane zero: anything). -/
theorem bits_array (b : Fin 8) (i : Fin 2048) (l : Fin 512) (hl : 0 < l.val) :
    (dat0 (F := Ideal) V c).arrAt 1 cfg0.N (ix3 i b l) = bitVal (X b) i.val l.val := by
  have h := (dat0 (F := Ideal) V c).arrAt_forall_of_covers 1
    (P := fun (y : S2048x8x512.Idx) (v : EReal) => ∀ (b : Fin 8) (i : Fin 2048) (l : Fin 512), y = ix3 i b l → 0 < l.val → v = bitVal (X b) i.val l.val)
    covers0 (by
      intro t _ y b i l hy hl
      have ht : t.val < 8 := lt_of_lt_of_eq t.isLt N0
      obtain ⟨r, b', l', rfl⟩ : ∃ (r : Fin 256) (b' : Fin 8) (l' : Fin 512), y = ix3 r b' l' := ⟨_, _, _, eq_ix3 y⟩
      have hr := r.isLt
      rw [place0_1 t b' l' r ⟨256 * t.val + r.val, by omega⟩ rfl] at hy
      have e1 : (256 * t.val + r.val) = i.val := congrArg Fin.val (congrFun hy 0)
      have e2 : b' = b := congrFun hy 1
      have e3 : l' = l := congrFun hy 2
      subst e2; subst e3
      have h := (fwd_is (hx b') (i := grid0.coords t) (n := t.val) (coords0_val _) ht
        (fun l r => block0 V c hx hA t b' l r) (fun h0 => carry0_is V c hx hA b' t.val (by omega) h0)).2 r l' hl
      rw [← e1]
      exact h)
    (ix3 i b l)
  exact h b i l rfl hl
end

/-! ## The backward pipeline -/

section
variable (hB : ∀ (b : Fin 8) (i : Fin 2048) (l : Fin 512), 0 < l.val → V c main_v0 (ix3 i b l) = bitVal (X b) i.val l.val)
include hB

theorem block1 (t : Fin cfg1.N) (b : Fin 8) : BitsAre (X b) b (256 * (7 - t.val)) (iblk1 (F := Ideal) V c 0 t) := by
  intro r l hl
  have ht : t.val < 8 := lt_of_lt_of_eq t.isLt N1
  have hr := r.isLt
  have e : iblk1 (F := Ideal) V c 0 t (ix3 r b l) = V c main_v0 (((cfg1.win 0).blk t).view.emb (ix3 r b l)) := rfl
  rw [e, place1_0 t b l r ⟨256 * (7 - t.val) + r.val, by omega⟩ rfl]
  exact hB _ _ _ hl

theorem carry1_is (b : Fin 8) : ∀ n ≤ 8, 0 < n → OneAt b (T (X b) (256 * n)) (carry1 (F := Ideal) V c n)
  | 0, _, h => absurd h (by omega)
  | n + 1, hn, _ => by
    have h := (bwd_is (x := X b) (b := b) (i := grid1.coords ⟨n, lt_of_lt_of_eq hn N1.symm⟩) (g := n) (coords1_val _) (by omega)
      (block1 V c hB ⟨n, lt_of_lt_of_eq hn N1.symm⟩ b) (fun h0 => carry1_is b n (by omega) h0)).1
    rwa [← carry1_succ V c ⟨n, lt_of_lt_of_eq hn N1.symm⟩] at h

/-- The second pipeline leaves the path: a one at the token of each column. -/
theorem path_array (b : Fin 8) (l : Fin 512) (i : Fin 2048) :
    (dat1 (F := Ideal) V c).arrAt 1 cfg1.N (ix3 b l i) = (if l.val = T (X b) (2047 - i.val) then 1 else 0 : EReal) := by
  have h := (dat1 (F := Ideal) V c).arrAt_forall_of_covers 1
    (P := fun (y : S8x512x2048.Idx) (v : EReal) => ∀ (b : Fin 8) (l : Fin 512) (i : Fin 2048), y = ix3 b l i → v = (if l.val = T (X b) (2047 - i.val) then 1 else 0 : EReal))
    covers1 (by
      intro t _ y b l i hy
      have ht : t.val < 8 := lt_of_lt_of_eq t.isLt N1
      obtain ⟨b', l', r, rfl⟩ : ∃ (b' : Fin 8) (l' : Fin 512) (r : Fin 256), y = ix3 b' l' r := ⟨_, _, _, eq_ix3 y⟩
      have hr := r.isLt
      rw [place1_1 t b' l' r ⟨256 * (7 - t.val) + r.val, by omega⟩ rfl] at hy
      have e1 : b' = b := congrFun hy 0
      have e2 : l' = l := congrFun hy 1
      have e3 : 256 * (7 - t.val) + r.val = i.val := congrArg Fin.val (congrFun hy 2)
      subst e1; subst e2
      have h := (bwd_is (x := X b') (b := b') (i := grid1.coords t) (g := t.val) (coords1_val _) ht
        (block1 V c hB t b') (fun h0 => carry1_is V c hB b' t.val (by omega) h0)).2 l' r
      rw [show 2047 - i.val = 256 * t.val + 255 - r.val by omega]
      exact h)
    (ix3 b l i)
  exact h b l i rfl
end
end

/-! ## The whole program -/

/-- The result the program leaves, from log-probabilities that are real and at most 4096. -/
theorem result_is (m : (ℓ : Loc nD τ sig) → Buf (Elt Ideal) ℓ) (ρ : Dev nD → PrngReg) (c : Dev nD) {X : Fin 8 → ℕ → ℕ → ℝ} (hx : ∀ b j i, |X b j i| ≤ 4096)
    (hA : ∀ (b : Fin 8) (l : Fin 512) (i : Fin 2048), m ((c : Thread nD τ).loc main_arg0) (ix3 b l i) = ((X b l.val i.val : ℝ) : EReal))
    (b : Fin 8) (l : Fin 512) (i : Fin 2048) :
    (dat1 (F := Ideal) (V1 m ρ) c).arrAt 1 cfg1.N (ix3 b l i) = (if l.val = T (X b) (2047 - i.val) then 1 else 0 : EReal) := by
  refine path_array (V1 m ρ) c (fun b i l hl => ?_) b l i
  exact (congrFun (W1_arr m ρ c 1) (ix3 i b l)).trans (bits_array (V0 m ρ) c hx hA b i l hl)

end Cert.KernelIdeal.Hand
end
-- ==== Proof.ReferenceIdeal.Eqs.lean ====
/- What the operations before the loops and those of a forward trip leave in their buffers: one equation an operation. -/
module

public import proofs.«01_k».proof.Proof.ReferenceIdeal.Trips
public import Mathlib.Tactic.FinCases

@[expose] public section

set_option maxRecDepth 65536

noncomputable section

namespace Cert.ReferenceIdeal.Hand

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen Cert.Solve

variable {F : FTy → Type} [FloatOps F]

variable (V : Valuation τ sig (Elt F))

theorem h0_v0 : rd (after hostOps0 V) main_v0 =
    (mulf : (⟨S8x512x2048, .f32⟩ : BufTy).Contents (Elt F) → (⟨S8x512x2048, .f32⟩ : BufTy).Contents (Elt F) → (⟨S8x512x2048, .f32⟩ : BufTy).Contents (Elt F)) (rd (after hostOps0 V) main_arg0) (rd (after hostOps0 V) main_arg1) := by
  have e := binary hostOps0_writes V 0 rfl (by decide +kernel) (by decide +kernel) (by decide +kernel)
  generalize after hostOps0 V = X at e ⊢
  exact e

theorem h0_cst : rd (after hostOps0 V) main_cst =
    (constant S_ .f32 0x00000000#32) := by
  have e := nullary hostOps0_writes V 1 rfl (by decide +kernel)
  generalize after hostOps0 V = X at e ⊢
  exact e

theorem h0_v1 : rd (after hostOps0 V) main_v1 =
    ((fun x v => Host.reduceAdd x v reducesTo_S8x512x2048_S8x2048_d1 h_S_) : (⟨S8x512x2048, .f32⟩ : BufTy).Contents (Elt F) → (⟨S_, .f32⟩ : BufTy).Contents (Elt F) → (⟨S8x2048, .f32⟩ : BufTy).Contents (Elt F)) (rd (after hostOps0 V) main_arg1) (rd (after hostOps0 V) main_cst) := by
  have e := binary hostOps0_writes V 2 rfl (by decide +kernel) (by decide +kernel) (by decide +kernel)
  generalize after hostOps0 V = X at e ⊢
  exact e

theorem h0_v2 : rd (after hostOps0 V) main_v2 =
    ((extractStridedSlice S8x1 ![0, 0] · slices_S8x2048_S8x1_0_0) : (⟨S8x2048, .f32⟩ : BufTy).Contents (Elt F) → (⟨S8x1, .f32⟩ : BufTy).Contents (Elt F)) (rd (after hostOps0 V) main_v1) := by
  have e := unary hostOps0_writes V 3 rfl (by decide +kernel) (by decide +kernel)
  generalize after hostOps0 V = X at e ⊢
  exact e

theorem h0_v3 : rd (after hostOps0 V) main_v3 =
    (shapeCast S8 (rd (after hostOps0 V) main_v2) shapeCasts_S8x1_S8 : (⟨S8, .f32⟩ : BufTy).Contents (Elt F)) := by
  have e := reshape hostOps0_writes V 4 rfl (by decide +kernel) (by decide +kernel)
  generalize after hostOps0 V = X at e ⊢
  exact e

theorem h0_v4 : rd (after hostOps0 V) main_v4 =
    (fptosi 32 : (⟨S8, .f32⟩ : BufTy).Contents (Elt F) → (⟨S8, .i32⟩ : BufTy).Contents (Elt F)) (rd (after hostOps0 V) main_v3) := by
  have e := unary hostOps0_writes V 5 rfl (by decide +kernel) (by decide +kernel)
  generalize after hostOps0 V = X at e ⊢
  exact e

theorem h0_cst_0 : rd (after hostOps0 V) main_cst_0 =
    (constant S_ .f32 0x00000000#32) := by
  have e := nullary hostOps0_writes V 6 rfl (by decide +kernel)
  generalize after hostOps0 V = X at e ⊢
  exact e

theorem h0_v5 : rd (after hostOps0 V) main_v5 =
    ((fun x v => Host.reduceAdd x v reducesTo_S8x512x2048_S8x512_d2 h_S_) : (⟨S8x512x2048, .f32⟩ : BufTy).Contents (Elt F) → (⟨S_, .f32⟩ : BufTy).Contents (Elt F) → (⟨S8x512, .f32⟩ : BufTy).Contents (Elt F)) (rd (after hostOps0 V) main_arg1) (rd (after hostOps0 V) main_cst_0) := by
  have e := binary hostOps0_writes V 7 rfl (by decide +kernel) (by decide +kernel) (by decide +kernel)
  generalize after hostOps0 V = X at e ⊢
  exact e

theorem h0_v6 : rd (after hostOps0 V) main_v6 =
    ((extractStridedSlice S8x1 ![0, 0] · slices_S8x512_S8x1_0_0) : (⟨S8x512, .f32⟩ : BufTy).Contents (Elt F) → (⟨S8x1, .f32⟩ : BufTy).Contents (Elt F)) (rd (after hostOps0 V) main_v5) := by
  have e := unary hostOps0_writes V 8 rfl (by decide +kernel) (by decide +kernel)
  generalize after hostOps0 V = X at e ⊢
  exact e

theorem h0_v7 : rd (after hostOps0 V) main_v7 =
    (shapeCast S8 (rd (after hostOps0 V) main_v6) shapeCasts_S8x1_S8 : (⟨S8, .f32⟩ : BufTy).Contents (Elt F)) := by
  have e := reshape hostOps0_writes V 9 rfl (by decide +kernel) (by decide +kernel)
  generalize after hostOps0 V = X at e ⊢
  exact e

theorem h0_v8 : rd (after hostOps0 V) main_v8 =
    (fptosi 32 : (⟨S8, .f32⟩ : BufTy).Contents (Elt F) → (⟨S8, .i32⟩ : BufTy).Contents (Elt F)) (rd (after hostOps0 V) main_v7) := by
  have e := unary hostOps0_writes V 10 rfl (by decide +kernel) (by decide +kernel)
  generalize after hostOps0 V = X at e ⊢
  exact e

theorem h0_v9 : rd (after hostOps0 V) main_v9 =
    (iotaInDim S8 32 0) := by
  have e := nullary hostOps0_writes V 11 rfl (by decide +kernel)
  generalize after hostOps0 V = X at e ⊢
  exact e

theorem h0_v10 : rd (after hostOps0 V) main_v10 =
    (iotaInDim S512 32 0) := by
  have e := nullary hostOps0_writes V 12 rfl (by decide +kernel)
  generalize after hostOps0 V = X at e ⊢
  exact e

theorem h0_v11 : rd (after hostOps0 V) main_v11 =
    (broadcastInDim S1x512 ![1] bcast_S512_S1x512_1 : (⟨S512, .i32⟩ : BufTy).Contents (Elt F) → (⟨S1x512, .i32⟩ : BufTy).Contents (Elt F)) (rd (after hostOps0 V) main_v10) := by
  have e := unary hostOps0_writes V 13 rfl (by decide +kernel) (by decide +kernel)
  generalize after hostOps0 V = X at e ⊢
  exact e

theorem h0_cst_1 : rd (after hostOps0 V) main_cst_1 =
    (constant S_ .f32 0x00000000#32) := by
  have e := nullary hostOps0_writes V 14 rfl (by decide +kernel)
  generalize after hostOps0 V = X at e ⊢
  exact e

theorem h0_v12 : rd (after hostOps0 V) main_v12 =
    (broadcastInDim S8x512 ![] bcast_S_S8x512 : (⟨S_, .f32⟩ : BufTy).Contents (Elt F) → (⟨S8x512, .f32⟩ : BufTy).Contents (Elt F)) (rd (after hostOps0 V) main_cst_1) := by
  have e := unary hostOps0_writes V 15 rfl (by decide +kernel) (by decide +kernel)
  generalize after hostOps0 V = X at e ⊢
  exact e

theorem h0_v13 : rd (after hostOps0 V) main_v13 =
    (iotaInDim S2048 32 0) := by
  have e := nullary hostOps0_writes V 16 rfl (by decide +kernel)
  generalize after hostOps0 V = X at e ⊢
  exact e

theorem h0_cst_2 : rd (after hostOps0 V) main_cst_2 =
    (constant S_ .f32 0x00000000#32) := by
  have e := nullary hostOps0_writes V 17 rfl (by decide +kernel)
  generalize after hostOps0 V = X at e ⊢
  exact e

theorem h0_v14 : rd (after hostOps0 V) main_v14 =
    (broadcastInDim S2048x8x512 ![] bcast_S_S2048x8x512 : (⟨S_, .f32⟩ : BufTy).Contents (Elt F) → (⟨S2048x8x512, .f32⟩ : BufTy).Contents (Elt F)) (rd (after hostOps0 V) main_cst_2) := by
  have e := unary hostOps0_writes V 18 rfl (by decide +kernel) (by decide +kernel)
  generalize after hostOps0 V = X at e ⊢
  exact e

theorem h0_c : rd (after hostOps0 V) main_c =
    (constantI S_ 32 0#32) := by
  have e := nullary hostOps0_writes V 19 rfl (by decide +kernel)
  generalize after hostOps0 V = X at e ⊢
  exact e

theorem h0_v15_0 : rd (after hostOps0 V) main_v15_0 =
    id (rd (after hostOps0 V) main_v13) := by
  have e := unary hostOps0_writes V 20 rfl (by decide +kernel) (by decide +kernel)
  generalize after hostOps0 V = X at e ⊢
  exact e

theorem h0_v15_1 : rd (after hostOps0 V) main_v15_1 =
    id (rd (after hostOps0 V) main_v0) := by
  have e := unary hostOps0_writes V 21 rfl (by decide +kernel) (by decide +kernel)
  generalize after hostOps0 V = X at e ⊢
  exact e

theorem h0_v15_2 : rd (after hostOps0 V) main_v15_2 =
    id (rd (after hostOps0 V) main_v11) := by
  have e := unary hostOps0_writes V 22 rfl (by decide +kernel) (by decide +kernel)
  generalize after hostOps0 V = X at e ⊢
  exact e

theorem h0_v15_3 : rd (after hostOps0 V) main_v15_3 =
    id (rd (after hostOps0 V) main_v4) := by
  have e := unary hostOps0_writes V 23 rfl (by decide +kernel) (by decide +kernel)
  generalize after hostOps0 V = X at e ⊢
  exact e

theorem h0_v15_4 : rd (after hostOps0 V) main_v15_4 =
    id (rd (after hostOps0 V) main_v8) := by
  have e := unary hostOps0_writes V 24 rfl (by decide +kernel) (by decide +kernel)
  generalize after hostOps0 V = X at e ⊢
  exact e

theorem h0_v15_5 : rd (after hostOps0 V) main_v15_5 =
    id (rd (after hostOps0 V) main_c) := by
  have e := unary hostOps0_writes V 25 rfl (by decide +kernel) (by decide +kernel)
  generalize after hostOps0 V = X at e ⊢
  exact e

theorem h0_v15_6 : rd (after hostOps0 V) main_v15_6 =
    id (rd (after hostOps0 V) main_v12) := by
  have e := unary hostOps0_writes V 26 rfl (by decide +kernel) (by decide +kernel)
  generalize after hostOps0 V = X at e ⊢
  exact e

theorem h0_v15_7 : rd (after hostOps0 V) main_v15_7 =
    id (rd (after hostOps0 V) main_v14) := by
  have e := unary hostOps0_writes V 27 rfl (by decide +kernel) (by decide +kernel)
  generalize after hostOps0 V = X at e ⊢
  exact e

theorem h1_c_3 : rd (after hostOps0_1 V) main_c_3 =
    (constantI S_ 32 1#32) := by
  have e := nullary hostOps0_1_writes V 0 rfl (by decide +kernel)
  generalize after hostOps0_1 V = X at e ⊢
  exact e

theorem h1_v16 : rd (after hostOps0_1 V) main_v16 =
    (broadcastInDim S8 ![] bcast_S_S8 : (⟨S_, .i32⟩ : BufTy).Contents (Elt F) → (⟨S8, .i32⟩ : BufTy).Contents (Elt F)) (rd (after hostOps0_1 V) main_c_3) := by
  have e := unary hostOps0_1_writes V 1 rfl (by decide +kernel) (by decide +kernel)
  generalize after hostOps0_1 V = X at e ⊢
  exact e

theorem h1_v17 : rd (after hostOps0_1 V) main_v17 =
    (subi : (⟨S8, .i32⟩ : BufTy).Contents (Elt F) → (⟨S8, .i32⟩ : BufTy).Contents (Elt F) → (⟨S8, .i32⟩ : BufTy).Contents (Elt F)) (rd (after hostOps0_1 V) main_v4) (rd (after hostOps0_1 V) main_v16) := by
  have e := binary hostOps0_1_writes V 2 rfl (by decide +kernel) (by decide +kernel) (by decide +kernel)
  generalize after hostOps0_1 V = X at e ⊢
  exact e

theorem h1_v18 : rd (after hostOps0_1 V) main_v18 =
    (iotaInDim S2048 32 0) := by
  have e := nullary hostOps0_1_writes V 3 rfl (by decide +kernel)
  generalize after hostOps0_1 V = X at e ⊢
  exact e

theorem h1_cst_4 : rd (after hostOps0_1 V) main_cst_4 =
    (constant S_ .f32 0x00000000#32) := by
  have e := nullary hostOps0_1_writes V 4 rfl (by decide +kernel)
  generalize after hostOps0_1 V = X at e ⊢
  exact e

theorem h1_v19 : rd (after hostOps0_1 V) main_v19 =
    (broadcastInDim S2048x8x512 ![] bcast_S_S2048x8x512 : (⟨S_, .f32⟩ : BufTy).Contents (Elt F) → (⟨S2048x8x512, .f32⟩ : BufTy).Contents (Elt F)) (rd (after hostOps0_1 V) main_cst_4) := by
  have e := unary hostOps0_1_writes V 5 rfl (by decide +kernel) (by decide +kernel)
  generalize after hostOps0_1 V = X at e ⊢
  exact e

theorem h1_c_5 : rd (after hostOps0_1 V) main_c_5 =
    (constantI S_ 32 0#32) := by
  have e := nullary hostOps0_1_writes V 6 rfl (by decide +kernel)
  generalize after hostOps0_1 V = X at e ⊢
  exact e

theorem h1_v20_0 : rd (after hostOps0_1 V) main_v20_0 =
    id (rd (after hostOps0_1 V) main_v18) := by
  have e := unary hostOps0_1_writes V 7 rfl (by decide +kernel) (by decide +kernel)
  generalize after hostOps0_1 V = X at e ⊢
  exact e

theorem h1_v20_1 : rd (after hostOps0_1 V) main_v20_1 =
    id (rd (after hostOps0_1 V) main_v8) := by
  have e := unary hostOps0_1_writes V 8 rfl (by decide +kernel) (by decide +kernel)
  generalize after hostOps0_1 V = X at e ⊢
  exact e

theorem h1_v20_2 : rd (after hostOps0_1 V) main_v20_2 =
    id (rd (after hostOps0_1 V) main_v11) := by
  have e := unary hostOps0_1_writes V 9 rfl (by decide +kernel) (by decide +kernel)
  generalize after hostOps0_1 V = X at e ⊢
  exact e

theorem h1_v20_3 : rd (after hostOps0_1 V) main_v20_3 =
    id (rd (after hostOps0_1 V) main_v15_7) := by
  have e := unary hostOps0_1_writes V 10 rfl (by decide +kernel) (by decide +kernel)
  generalize after hostOps0_1 V = X at e ⊢
  exact e

theorem h1_v20_4 : rd (after hostOps0_1 V) main_v20_4 =
    id (rd (after hostOps0_1 V) main_v9) := by
  have e := unary hostOps0_1_writes V 11 rfl (by decide +kernel) (by decide +kernel)
  generalize after hostOps0_1 V = X at e ⊢
  exact e

theorem h1_v20_5 : rd (after hostOps0_1 V) main_v20_5 =
    id (rd (after hostOps0_1 V) main_c_5) := by
  have e := unary hostOps0_1_writes V 12 rfl (by decide +kernel) (by decide +kernel)
  generalize after hostOps0_1 V = X at e ⊢
  exact e

theorem h1_v20_6 : rd (after hostOps0_1 V) main_v20_6 =
    id (rd (after hostOps0_1 V) main_v17) := by
  have e := unary hostOps0_1_writes V 13 rfl (by decide +kernel) (by decide +kernel)
  generalize after hostOps0_1 V = X at e ⊢
  exact e

theorem h1_v20_7 : rd (after hostOps0_1 V) main_v20_7 =
    id (rd (after hostOps0_1 V) main_v19) := by
  have e := unary hostOps0_1_writes V 14 rfl (by decide +kernel) (by decide +kernel)
  generalize after hostOps0_1 V = X at e ⊢
  exact e

theorem t0_call0_v0 : rd (after trip0 V) main_while0b_call0_v0 =
    ((fun x i => Host.dynamicSlice S1 x (fun k => (i k (Shape.Idx.first h_S_)).toInt) sliceFits_S2048_S1) : (⟨S2048, .i32⟩ : BufTy).Contents (Elt F) → (Fin 1 → (⟨S_, .i32⟩ : BufTy).Contents (Elt F)) → (⟨S1, .i32⟩ : BufTy).Contents (Elt F)) (rd (after trip0 V) main_v15_0) ![(rd (after trip0 V) main_v15_5)] := by
  have e := unaryIndexed1 trip0_writes V 0 rfl (by decide +kernel) (by decide +kernel) (by decide +kernel)
  generalize after trip0 V = X at e ⊢
  exact e

theorem t0_v22 : rd (after trip0 V) main_while0b_v22 =
    (shapeCast S_ (rd (after trip0 V) main_while0b_call0_v0) shapeCasts_S1_S_ : (⟨S_, .i32⟩ : BufTy).Contents (Elt F)) := by
  have e := reshape trip0_writes V 1 rfl (by decide +kernel) (by decide +kernel)
  generalize after trip0 V = X at e ⊢
  exact e

theorem t0_call1_c : rd (after trip0 V) main_while0b_call1_c =
    (constantI S_ 32 0#32) := by
  have e := nullary trip0_writes V 2 rfl (by decide +kernel)
  generalize after trip0 V = X at e ⊢
  exact e

theorem t0_call1_v0 : rd (after trip0 V) main_while0b_call1_v0 =
    ((cmpi .slt) : (⟨S_, .i32⟩ : BufTy).Contents (Elt F) → (⟨S_, .i32⟩ : BufTy).Contents (Elt F) → (⟨S_, .i1⟩ : BufTy).Contents (Elt F)) (rd (after trip0 V) main_while0b_v22) (rd (after trip0 V) main_while0b_call1_c) := by
  have e := binary trip0_writes V 3 rfl (by decide +kernel) (by decide +kernel) (by decide +kernel)
  generalize after trip0 V = X at e ⊢
  exact e

theorem t0_call1_c_0 : rd (after trip0 V) main_while0b_call1_c_0 =
    (constantI S_ 32 2048#32) := by
  have e := nullary trip0_writes V 4 rfl (by decide +kernel)
  generalize after trip0 V = X at e ⊢
  exact e

theorem t0_call1_v1 : rd (after trip0 V) main_while0b_call1_v1 =
    (addi : (⟨S_, .i32⟩ : BufTy).Contents (Elt F) → (⟨S_, .i32⟩ : BufTy).Contents (Elt F) → (⟨S_, .i32⟩ : BufTy).Contents (Elt F)) (rd (after trip0 V) main_while0b_v22) (rd (after trip0 V) main_while0b_call1_c_0) := by
  have e := binary trip0_writes V 5 rfl (by decide +kernel) (by decide +kernel) (by decide +kernel)
  generalize after trip0 V = X at e ⊢
  exact e

theorem t0_call1_v2 : rd (after trip0 V) main_while0b_call1_v2 =
    (select : (⟨S_, .i1⟩ : BufTy).Contents (Elt F) → (⟨S_, .i32⟩ : BufTy).Contents (Elt F) → (⟨S_, .i32⟩ : BufTy).Contents (Elt F) → (⟨S_, .i32⟩ : BufTy).Contents (Elt F)) (rd (after trip0 V) main_while0b_call1_v0) (rd (after trip0 V) main_while0b_call1_v1) (rd (after trip0 V) main_while0b_v22) := by
  have e := ternary trip0_writes V 6 rfl (by decide +kernel) (by decide +kernel) (by decide +kernel) (by decide +kernel)
  generalize after trip0 V = X at e ⊢
  exact e

theorem t0_call1_c_1 : rd (after trip0 V) main_while0b_call1_c_1 =
    (constantI S_ 32 0#32) := by
  have e := nullary trip0_writes V 7 rfl (by decide +kernel)
  generalize after trip0 V = X at e ⊢
  exact e

theorem t0_call1_c_2 : rd (after trip0 V) main_while0b_call1_c_2 =
    (constantI S_ 32 0#32) := by
  have e := nullary trip0_writes V 8 rfl (by decide +kernel)
  generalize after trip0 V = X at e ⊢
  exact e

theorem t0_call1_v3 : rd (after trip0 V) main_while0b_call1_v3 =
    ((fun x i => Host.dynamicSlice S8x512x1 x (fun k => (i k (Shape.Idx.first h_S_)).toInt) sliceFits_S8x512x2048_S8x512x1) : (⟨S8x512x2048, .f32⟩ : BufTy).Contents (Elt F) → (Fin 3 → (⟨S_, .i32⟩ : BufTy).Contents (Elt F)) → (⟨S8x512x1, .f32⟩ : BufTy).Contents (Elt F)) (rd (after trip0 V) main_v15_1) ![(rd (after trip0 V) main_while0b_call1_c_1), (rd (after trip0 V) main_while0b_call1_c_2), (rd (after trip0 V) main_while0b_call1_v2)] := by
  have e := unaryIndexed3 trip0_writes V 9 rfl (by decide +kernel) (by decide +kernel) (by decide +kernel)
  generalize after trip0 V = X at e ⊢
  exact e

theorem t0_v23 : rd (after trip0 V) main_while0b_v23 =
    (shapeCast S8x512 (rd (after trip0 V) main_while0b_call1_v3) shapeCasts_S8x512x1_S8x512 : (⟨S8x512, .f32⟩ : BufTy).Contents (Elt F)) := by
  have e := reshape trip0_writes V 10 rfl (by decide +kernel) (by decide +kernel)
  generalize after trip0 V = X at e ⊢
  exact e

theorem t0_v24 : rd (after trip0 V) main_while0b_v24 =
    (broadcastInDim S1x512 ![] bcast_S_S1x512 : (⟨S_, .i32⟩ : BufTy).Contents (Elt F) → (⟨S1x512, .i32⟩ : BufTy).Contents (Elt F)) (rd (after trip0 V) main_while0b_v22) := by
  have e := unary trip0_writes V 11 rfl (by decide +kernel) (by decide +kernel)
  generalize after trip0 V = X at e ⊢
  exact e

theorem t0_v25 : rd (after trip0 V) main_while0b_v25 =
    (cmpi .eq : (⟨S1x512, .i32⟩ : BufTy).Contents (Elt F) → (⟨S1x512, .i32⟩ : BufTy).Contents (Elt F) → (⟨S1x512, .i1⟩ : BufTy).Contents (Elt F)) (rd (after trip0 V) main_v15_2) (rd (after trip0 V) main_while0b_v24) := by
  have e := binary trip0_writes V 12 rfl (by decide +kernel) (by decide +kernel) (by decide +kernel)
  generalize after trip0 V = X at e ⊢
  exact e

theorem t0_cst_13 : rd (after trip0 V) main_while0b_cst_13 =
    (constant S_ .f32 0xCB189680#32) := by
  have e := nullary trip0_writes V 13 rfl (by decide +kernel)
  generalize after trip0 V = X at e ⊢
  exact e

theorem t0_call2_v0 : rd (after trip0 V) main_while0b_call2_v0 =
    (id : (⟨S_, .f32⟩ : BufTy).Contents (Elt F) → (⟨S_, .f32⟩ : BufTy).Contents (Elt F)) (rd (after trip0 V) main_while0b_cst_13) := by
  have e := unary trip0_writes V 14 rfl (by decide +kernel) (by decide +kernel)
  generalize after trip0 V = X at e ⊢
  exact e

theorem t0_call2_v1 : rd (after trip0 V) main_while0b_call2_v1 =
    ((broadcastInDim S8x512 ![0, 1] bcast_S1x512_S8x512_0_1) : (⟨S1x512, .i1⟩ : BufTy).Contents (Elt F) → (⟨S8x512, .i1⟩ : BufTy).Contents (Elt F)) (rd (after trip0 V) main_while0b_v25) := by
  have e := unary trip0_writes V 15 rfl (by decide +kernel) (by decide +kernel)
  generalize after trip0 V = X at e ⊢
  exact e

theorem t0_call2_v2 : rd (after trip0 V) main_while0b_call2_v2 =
    ((broadcastInDim S8x512 ![] bcast_S_S8x512) : (⟨S_, .f32⟩ : BufTy).Contents (Elt F) → (⟨S8x512, .f32⟩ : BufTy).Contents (Elt F)) (rd (after trip0 V) main_while0b_call2_v0) := by
  have e := unary trip0_writes V 16 rfl (by decide +kernel) (by decide +kernel)
  generalize after trip0 V = X at e ⊢
  exact e

theorem t0_v26 : rd (after trip0 V) main_while0b_v26 =
    (select : (⟨S8x512, .i1⟩ : BufTy).Contents (Elt F) → (⟨S8x512, .f32⟩ : BufTy).Contents (Elt F) → (⟨S8x512, .f32⟩ : BufTy).Contents (Elt F) → (⟨S8x512, .f32⟩ : BufTy).Contents (Elt F)) (rd (after trip0 V) main_while0b_call2_v1) (rd (after trip0 V) main_while0b_call2_v2) (rd (after trip0 V) main_v15_6) := by
  have e := ternary trip0_writes V 17 rfl (by decide +kernel) (by decide +kernel) (by decide +kernel) (by decide +kernel)
  generalize after trip0 V = X at e ⊢
  exact e

theorem t0_c_14 : rd (after trip0 V) main_while0b_c_14 =
    (constantI S_ 32 0#32) := by
  have e := nullary trip0_writes V 18 rfl (by decide +kernel)
  generalize after trip0 V = X at e ⊢
  exact e

theorem t0_v27 : rd (after trip0 V) main_while0b_v27 =
    (cmpi .eq : (⟨S_, .i32⟩ : BufTy).Contents (Elt F) → (⟨S_, .i32⟩ : BufTy).Contents (Elt F) → (⟨S_, .i1⟩ : BufTy).Contents (Elt F)) (rd (after trip0 V) main_while0b_v22) (rd (after trip0 V) main_while0b_c_14) := by
  have e := binary trip0_writes V 19 rfl (by decide +kernel) (by decide +kernel) (by decide +kernel)
  generalize after trip0 V = X at e ⊢
  exact e

theorem t0_cst_15 : rd (after trip0 V) main_while0b_cst_15 =
    (constant S_ .f32 0x00000000#32) := by
  have e := nullary trip0_writes V 20 rfl (by decide +kernel)
  generalize after trip0 V = X at e ⊢
  exact e

theorem t0_cst_16 : rd (after trip0 V) main_while0b_cst_16 =
    (constant S_ .f32 0xCB189680#32) := by
  have e := nullary trip0_writes V 21 rfl (by decide +kernel)
  generalize after trip0 V = X at e ⊢
  exact e

theorem t0_v28 : rd (after trip0 V) main_while0b_v28 =
    (select : (⟨S_, .i1⟩ : BufTy).Contents (Elt F) → (⟨S_, .f32⟩ : BufTy).Contents (Elt F) → (⟨S_, .f32⟩ : BufTy).Contents (Elt F) → (⟨S_, .f32⟩ : BufTy).Contents (Elt F)) (rd (after trip0 V) main_while0b_v27) (rd (after trip0 V) main_while0b_cst_15) (rd (after trip0 V) main_while0b_cst_16) := by
  have e := ternary trip0_writes V 22 rfl (by decide +kernel) (by decide +kernel) (by decide +kernel) (by decide +kernel)
  generalize after trip0 V = X at e ⊢
  exact e

theorem t0_v29 : rd (after trip0 V) main_while0b_v29 =
    (broadcastInDim S8x1 ![] bcast_S_S8x1 : (⟨S_, .f32⟩ : BufTy).Contents (Elt F) → (⟨S8x1, .f32⟩ : BufTy).Contents (Elt F)) (rd (after trip0 V) main_while0b_v28) := by
  have e := unary trip0_writes V 23 rfl (by decide +kernel) (by decide +kernel)
  generalize after trip0 V = X at e ⊢
  exact e

theorem t0_v30 : rd (after trip0 V) main_while0b_v30 =
    ((extractStridedSlice S8x511 ![0, 0] · slices_S8x512_S8x511_0_0) : (⟨S8x512, .f32⟩ : BufTy).Contents (Elt F) → (⟨S8x511, .f32⟩ : BufTy).Contents (Elt F)) (rd (after trip0 V) main_v15_6) := by
  have e := unary trip0_writes V 24 rfl (by decide +kernel) (by decide +kernel)
  generalize after trip0 V = X at e ⊢
  exact e

theorem t0_v31 : rd (after trip0 V) main_while0b_v31 =
    (id : (⟨S8x1, .f32⟩ : BufTy).Contents (Elt F) → (⟨S8x1, .f32⟩ : BufTy).Contents (Elt F)) (rd (after trip0 V) main_while0b_v29) := by
  have e := unary trip0_writes V 25 rfl (by decide +kernel) (by decide +kernel)
  generalize after trip0 V = X at e ⊢
  exact e

theorem t0_v32 : rd (after trip0 V) main_while0b_v32 =
    ((fun a b => concatenate S8x512 1 [⟨S8x1, a⟩, ⟨S8x511, b⟩] concatenates_S8x1_S8x511_S8x512_d1) : (⟨S8x1, .f32⟩ : BufTy).Contents (Elt F) → (⟨S8x511, .f32⟩ : BufTy).Contents (Elt F) → (⟨S8x512, .f32⟩ : BufTy).Contents (Elt F)) (rd (after trip0 V) main_while0b_v31) (rd (after trip0 V) main_while0b_v30) := by
  have e := binary trip0_writes V 26 rfl (by decide +kernel) (by decide +kernel) (by decide +kernel)
  generalize after trip0 V = X at e ⊢
  exact e

theorem t0_v33 : rd (after trip0 V) main_while0b_v33 =
    (maximumf : (⟨S8x512, .f32⟩ : BufTy).Contents (Elt F) → (⟨S8x512, .f32⟩ : BufTy).Contents (Elt F) → (⟨S8x512, .f32⟩ : BufTy).Contents (Elt F)) (rd (after trip0 V) main_while0b_v26) (rd (after trip0 V) main_while0b_v32) := by
  have e := binary trip0_writes V 27 rfl (by decide +kernel) (by decide +kernel) (by decide +kernel)
  generalize after trip0 V = X at e ⊢
  exact e

theorem t0_v34 : rd (after trip0 V) main_while0b_v34 =
    (broadcastInDim S8 ![] bcast_S_S8 : (⟨S_, .i32⟩ : BufTy).Contents (Elt F) → (⟨S8, .i32⟩ : BufTy).Contents (Elt F)) (rd (after trip0 V) main_while0b_v22) := by
  have e := unary trip0_writes V 28 rfl (by decide +kernel) (by decide +kernel)
  generalize after trip0 V = X at e ⊢
  exact e

theorem t0_v35 : rd (after trip0 V) main_while0b_v35 =
    (addi : (⟨S8, .i32⟩ : BufTy).Contents (Elt F) → (⟨S8, .i32⟩ : BufTy).Contents (Elt F) → (⟨S8, .i32⟩ : BufTy).Contents (Elt F)) (rd (after trip0 V) main_v15_3) (rd (after trip0 V) main_while0b_v34) := by
  have e := binary trip0_writes V 29 rfl (by decide +kernel) (by decide +kernel) (by decide +kernel)
  generalize after trip0 V = X at e ⊢
  exact e

theorem t0_v36 : rd (after trip0 V) main_while0b_v36 =
    (subi : (⟨S8, .i32⟩ : BufTy).Contents (Elt F) → (⟨S8, .i32⟩ : BufTy).Contents (Elt F) → (⟨S8, .i32⟩ : BufTy).Contents (Elt F)) (rd (after trip0 V) main_while0b_v35) (rd (after trip0 V) main_v15_4) := by
  have e := binary trip0_writes V 30 rfl (by decide +kernel) (by decide +kernel) (by decide +kernel)
  generalize after trip0 V = X at e ⊢
  exact e

theorem t0_c_17 : rd (after trip0 V) main_while0b_c_17 =
    (constantI S_ 32 0#32) := by
  have e := nullary trip0_writes V 31 rfl (by decide +kernel)
  generalize after trip0 V = X at e ⊢
  exact e

theorem t0_v37 : rd (after trip0 V) main_while0b_v37 =
    (broadcastInDim S8 ![] bcast_S_S8 : (⟨S_, .i32⟩ : BufTy).Contents (Elt F) → (⟨S8, .i32⟩ : BufTy).Contents (Elt F)) (rd (after trip0 V) main_while0b_c_17) := by
  have e := unary trip0_writes V 32 rfl (by decide +kernel) (by decide +kernel)
  generalize after trip0 V = X at e ⊢
  exact e

theorem t0_v38 : rd (after trip0 V) main_while0b_v38 =
    (maxsi : (⟨S8, .i32⟩ : BufTy).Contents (Elt F) → (⟨S8, .i32⟩ : BufTy).Contents (Elt F) → (⟨S8, .i32⟩ : BufTy).Contents (Elt F)) (rd (after trip0 V) main_while0b_v37) (rd (after trip0 V) main_while0b_v36) := by
  have e := binary trip0_writes V 33 rfl (by decide +kernel) (by decide +kernel) (by decide +kernel)
  generalize after trip0 V = X at e ⊢
  exact e

theorem t0_v39 : rd (after trip0 V) main_while0b_v39 =
    (broadcastInDim S8x1 ![0] bcast_S8_S8x1_0 : (⟨S8, .i32⟩ : BufTy).Contents (Elt F) → (⟨S8x1, .i32⟩ : BufTy).Contents (Elt F)) (rd (after trip0 V) main_while0b_v38) := by
  have e := unary trip0_writes V 34 rfl (by decide +kernel) (by decide +kernel)
  generalize after trip0 V = X at e ⊢
  exact e

theorem t0_c_18 : rd (after trip0 V) main_while0b_c_18 =
    (constantI S_ 32 1#32) := by
  have e := nullary trip0_writes V 35 rfl (by decide +kernel)
  generalize after trip0 V = X at e ⊢
  exact e

theorem t0_v40 : rd (after trip0 V) main_while0b_v40 =
    (addi : (⟨S_, .i32⟩ : BufTy).Contents (Elt F) → (⟨S_, .i32⟩ : BufTy).Contents (Elt F) → (⟨S_, .i32⟩ : BufTy).Contents (Elt F)) (rd (after trip0 V) main_while0b_v22) (rd (after trip0 V) main_while0b_c_18) := by
  have e := binary trip0_writes V 36 rfl (by decide +kernel) (by decide +kernel) (by decide +kernel)
  generalize after trip0 V = X at e ⊢
  exact e

theorem t0_v41 : rd (after trip0 V) main_while0b_v41 =
    (broadcastInDim S8 ![] bcast_S_S8 : (⟨S_, .i32⟩ : BufTy).Contents (Elt F) → (⟨S8, .i32⟩ : BufTy).Contents (Elt F)) (rd (after trip0 V) main_while0b_v40) := by
  have e := unary trip0_writes V 37 rfl (by decide +kernel) (by decide +kernel)
  generalize after trip0 V = X at e ⊢
  exact e

theorem t0_v42 : rd (after trip0 V) main_while0b_v42 =
    (minsi : (⟨S8, .i32⟩ : BufTy).Contents (Elt F) → (⟨S8, .i32⟩ : BufTy).Contents (Elt F) → (⟨S8, .i32⟩ : BufTy).Contents (Elt F)) (rd (after trip0 V) main_v15_3) (rd (after trip0 V) main_while0b_v41) := by
  have e := binary trip0_writes V 38 rfl (by decide +kernel) (by decide +kernel) (by decide +kernel)
  generalize after trip0 V = X at e ⊢
  exact e

theorem t0_v43 : rd (after trip0 V) main_while0b_v43 =
    (broadcastInDim S8x1 ![0] bcast_S8_S8x1_0 : (⟨S8, .i32⟩ : BufTy).Contents (Elt F) → (⟨S8x1, .i32⟩ : BufTy).Contents (Elt F)) (rd (after trip0 V) main_while0b_v42) := by
  have e := unary trip0_writes V 39 rfl (by decide +kernel) (by decide +kernel)
  generalize after trip0 V = X at e ⊢
  exact e

theorem t0_v44 : rd (after trip0 V) main_while0b_v44 =
    (broadcastInDim S8x512 ![0, 1] bcast_S1x512_S8x512_0_1 : (⟨S1x512, .i32⟩ : BufTy).Contents (Elt F) → (⟨S8x512, .i32⟩ : BufTy).Contents (Elt F)) (rd (after trip0 V) main_v15_2) := by
  have e := unary trip0_writes V 40 rfl (by decide +kernel) (by decide +kernel)
  generalize after trip0 V = X at e ⊢
  exact e

theorem t0_v45 : rd (after trip0 V) main_while0b_v45 =
    (broadcastInDim S8x512 ![0, 1] bcast_S8x1_S8x512_0_1 : (⟨S8x1, .i32⟩ : BufTy).Contents (Elt F) → (⟨S8x512, .i32⟩ : BufTy).Contents (Elt F)) (rd (after trip0 V) main_while0b_v39) := by
  have e := unary trip0_writes V 41 rfl (by decide +kernel) (by decide +kernel)
  generalize after trip0 V = X at e ⊢
  exact e

theorem t0_v46 : rd (after trip0 V) main_while0b_v46 =
    (cmpi .sge : (⟨S8x512, .i32⟩ : BufTy).Contents (Elt F) → (⟨S8x512, .i32⟩ : BufTy).Contents (Elt F) → (⟨S8x512, .i1⟩ : BufTy).Contents (Elt F)) (rd (after trip0 V) main_while0b_v44) (rd (after trip0 V) main_while0b_v45) := by
  have e := binary trip0_writes V 42 rfl (by decide +kernel) (by decide +kernel) (by decide +kernel)
  generalize after trip0 V = X at e ⊢
  exact e

theorem t0_v47 : rd (after trip0 V) main_while0b_v47 =
    (broadcastInDim S8x512 ![0, 1] bcast_S1x512_S8x512_0_1 : (⟨S1x512, .i32⟩ : BufTy).Contents (Elt F) → (⟨S8x512, .i32⟩ : BufTy).Contents (Elt F)) (rd (after trip0 V) main_v15_2) := by
  have e := unary trip0_writes V 43 rfl (by decide +kernel) (by decide +kernel)
  generalize after trip0 V = X at e ⊢
  exact e

theorem t0_v48 : rd (after trip0 V) main_while0b_v48 =
    (broadcastInDim S8x512 ![0, 1] bcast_S8x1_S8x512_0_1 : (⟨S8x1, .i32⟩ : BufTy).Contents (Elt F) → (⟨S8x512, .i32⟩ : BufTy).Contents (Elt F)) (rd (after trip0 V) main_while0b_v43) := by
  have e := unary trip0_writes V 44 rfl (by decide +kernel) (by decide +kernel)
  generalize after trip0 V = X at e ⊢
  exact e

theorem t0_v49 : rd (after trip0 V) main_while0b_v49 =
    (cmpi .slt : (⟨S8x512, .i32⟩ : BufTy).Contents (Elt F) → (⟨S8x512, .i32⟩ : BufTy).Contents (Elt F) → (⟨S8x512, .i1⟩ : BufTy).Contents (Elt F)) (rd (after trip0 V) main_while0b_v47) (rd (after trip0 V) main_while0b_v48) := by
  have e := binary trip0_writes V 45 rfl (by decide +kernel) (by decide +kernel) (by decide +kernel)
  generalize after trip0 V = X at e ⊢
  exact e

theorem t0_v50 : rd (after trip0 V) main_while0b_v50 =
    (andi : (⟨S8x512, .i1⟩ : BufTy).Contents (Elt F) → (⟨S8x512, .i1⟩ : BufTy).Contents (Elt F) → (⟨S8x512, .i1⟩ : BufTy).Contents (Elt F)) (rd (after trip0 V) main_while0b_v46) (rd (after trip0 V) main_while0b_v49) := by
  have e := binary trip0_writes V 46 rfl (by decide +kernel) (by decide +kernel) (by decide +kernel)
  generalize after trip0 V = X at e ⊢
  exact e

theorem t0_v51 : rd (after trip0 V) main_while0b_v51 =
    (addf : (⟨S8x512, .f32⟩ : BufTy).Contents (Elt F) → (⟨S8x512, .f32⟩ : BufTy).Contents (Elt F) → (⟨S8x512, .f32⟩ : BufTy).Contents (Elt F)) (rd (after trip0 V) main_while0b_v23) (rd (after trip0 V) main_while0b_v33) := by
  have e := binary trip0_writes V 47 rfl (by decide +kernel) (by decide +kernel) (by decide +kernel)
  generalize after trip0 V = X at e ⊢
  exact e

theorem t0_v52 : rd (after trip0 V) main_while0b_v52 =
    (select : (⟨S8x512, .i1⟩ : BufTy).Contents (Elt F) → (⟨S8x512, .f32⟩ : BufTy).Contents (Elt F) → (⟨S8x512, .f32⟩ : BufTy).Contents (Elt F) → (⟨S8x512, .f32⟩ : BufTy).Contents (Elt F)) (rd (after trip0 V) main_while0b_v50) (rd (after trip0 V) main_while0b_v51) (rd (after trip0 V) main_while0b_v23) := by
  have e := ternary trip0_writes V 48 rfl (by decide +kernel) (by decide +kernel) (by decide +kernel) (by decide +kernel)
  generalize after trip0 V = X at e ⊢
  exact e

theorem t0_call5_v0 : rd (after trip0 V) main_while0b_call5_v0 =
    ((broadcastInDim S1x8x512 ![1, 2] bcast_S8x512_S1x8x512_1_2) : (⟨S8x512, .f32⟩ : BufTy).Contents (Elt F) → (⟨S1x8x512, .f32⟩ : BufTy).Contents (Elt F)) (rd (after trip0 V) main_while0b_v52) := by
  have e := unary trip0_writes V 49 rfl (by decide +kernel) (by decide +kernel)
  generalize after trip0 V = X at e ⊢
  exact e

theorem t0_call5_c : rd (after trip0 V) main_while0b_call5_c =
    (constantI S_ 32 0#32) := by
  have e := nullary trip0_writes V 50 rfl (by decide +kernel)
  generalize after trip0 V = X at e ⊢
  exact e

theorem t0_call5_c_0 : rd (after trip0 V) main_while0b_call5_c_0 =
    (constantI S_ 32 0#32) := by
  have e := nullary trip0_writes V 51 rfl (by decide +kernel)
  generalize after trip0 V = X at e ⊢
  exact e

theorem t0_v53 : rd (after trip0 V) main_while0b_v53 =
    ((fun x u i => Host.dynamicUpdateSlice x u (fun k => (i k (Shape.Idx.first h_S_)).toInt) updateFits_S2048x8x512_S1x8x512) : (⟨S2048x8x512, .f32⟩ : BufTy).Contents (Elt F) → (⟨S1x8x512, .f32⟩ : BufTy).Contents (Elt F) → (Fin 3 → (⟨S_, .i32⟩ : BufTy).Contents (Elt F)) → (⟨S2048x8x512, .f32⟩ : BufTy).Contents (Elt F)) (rd (after trip0 V) main_v15_7) (rd (after trip0 V) main_while0b_call5_v0) ![(rd (after trip0 V) main_v15_5), (rd (after trip0 V) main_while0b_call5_c), (rd (after trip0 V) main_while0b_call5_c_0)] := by
  have e := binaryIndexed3 trip0_writes V 52 rfl (by decide +kernel) (by decide +kernel) (by decide +kernel) (by decide +kernel)
  generalize after trip0 V = X at e ⊢
  exact e

theorem t0_c_19 : rd (after trip0 V) main_while0b_c_19 =
    (constantI S_ 32 1#32) := by
  have e := nullary trip0_writes V 53 rfl (by decide +kernel)
  generalize after trip0 V = X at e ⊢
  exact e

theorem t0_v54 : rd (after trip0 V) main_while0b_v54 =
    (addi : (⟨S_, .i32⟩ : BufTy).Contents (Elt F) → (⟨S_, .i32⟩ : BufTy).Contents (Elt F) → (⟨S_, .i32⟩ : BufTy).Contents (Elt F)) (rd (after trip0 V) main_v15_5) (rd (after trip0 V) main_while0b_c_19) := by
  have e := binary trip0_writes V 54 rfl (by decide +kernel) (by decide +kernel) (by decide +kernel)
  generalize after trip0 V = X at e ⊢
  exact e

end Cert.ReferenceIdeal.Hand

end
-- ==== Proof.Value.RefOps.lean ====
/- The reference's shape operations, each read at one index: where a slice, an update, a broadcast, a concatenation or a
   gather of the reference takes its element from. -/
module

public import proofs.«01_k».proof.Proof.Value.Fwd
public import proofs.«01_k».proof.Proof.ReferenceIdeal.Eqs
public import Idealize.ShloMosaic.Lib.WordCmp

@[expose] public section

set_option maxRecDepth 16384

noncomputable section

namespace Cert.ReferenceIdeal.Hand

open Cert.ReferenceIdeal Cert.ReferenceIdeal.Gen
open Idealize.ShloMosaic
open Idealize.ShloMosaic.ValueIdx

variable {α : Type}

theorem col_at (x : S8.Idx → α) (h : S8.BroadcastsInDim S8x1 ![0]) (b : Fin 8) (j : Fin 1) : broadcastInDim S8x1 ![0] h x (ix2 b j) = x (ix1 b) :=
  broadcastInDim_apply _ h x _ _ fun a => by fin_cases a; rfl

theorem row_at (x : S1x512.Idx → α) (h : S1x512.BroadcastsInDim S8x512 ![0, 1]) (b : Fin 8) (j : Fin 512) :
    broadcastInDim S8x512 ![0, 1] h x (ix2 b j) = x (ix2 0 j) :=
  broadcastInDim_apply _ h x _ _ fun a => by fin_cases a <;> rfl

theorem wide_at (x : S8x1.Idx → α) (h : S8x1.BroadcastsInDim S8x512 ![0, 1]) (b : Fin 8) (j : Fin 512) :
    broadcastInDim S8x512 ![0, 1] h x (ix2 b j) = x (ix2 b 0) :=
  broadcastInDim_apply _ h x _ _ fun a => by fin_cases a <;> rfl

theorem same_at (x : S8x512.Idx → α) (h : S8x512.BroadcastsInDim S8x512 ![0, 1]) (b : Fin 8) (j : Fin 512) :
    broadcastInDim S8x512 ![0, 1] h x (ix2 b j) = x (ix2 b j) :=
  broadcastInDim_apply _ h x _ _ fun a => by fin_cases a <;> rfl

theorem lift_at (x : S8x512.Idx → α) (h : S8x512.BroadcastsInDim S1x8x512 ![1, 2]) (a : Fin 1) (b : Fin 8) (j : Fin 512) :
    broadcastInDim S1x8x512 ![1, 2] h x (ix3 a b j) = x (ix2 b j) :=
  broadcastInDim_apply _ h x _ _ fun a => by fin_cases a <;> rfl

theorem one_at (x : S2048.Idx → α) (st : Fin 1 → Int) (h : S2048.Slices (fun _ => 0) S1) {i : ℕ} (hi : i < 2048) (e : st 0 = (i : Int)) (y : S1.Idx) :
    Host.dynamicSlice S1 x st h y = x (ix1 ⟨i, hi⟩) := by
  have hk : S2048.Slices ![i] S1 := ⟨rfl, fun a => by fin_cases a; show i + 1 ≤ 2048; omega⟩
  rw [WordCmp.dynamicSlice_eq_extract S1 x st h ![i] hk (fun a => by fin_cases a; exact e)]
  refine extractStridedSlice_apply _ _ _ _ _ fun a => ?_
  fin_cases a
  have : (y 0).val < 1 := (y 0).isLt
  show i = i + (y 0).val
  omega

theorem column_at (x : S8x512x2048.Idx → α) (st : Fin 3 → Int) (h : S8x512x2048.Slices (fun _ => 0) S8x512x1) {i : ℕ} (hi : i < 2048)
    (e0 : st 0 = 0) (e1 : st 1 = 0) (e2 : st 2 = (i : Int)) (b : Fin 8) (j : Fin 512) (a : Fin 1) :
    Host.dynamicSlice S8x512x1 x st h (ix3 b j a) = x (ix3 b j ⟨i, hi⟩) := by
  have hk : S8x512x2048.Slices ![0, 0, i] S8x512x1 :=
    ⟨rfl, fun a => by fin_cases a; exacts [Nat.le_of_eq rfl, Nat.le_of_eq rfl, (by show i + 1 ≤ 2048; omega)]⟩
  rw [WordCmp.dynamicSlice_eq_extract S8x512x1 x st h ![0, 0, i] hk (fun a => by fin_cases a; exacts [e0, e1, e2])]
  refine extractStridedSlice_apply _ _ _ _ _ fun c => ?_
  fin_cases c
  · exact (Nat.zero_add _).symm
  · exact (Nat.zero_add _).symm
  · have := a.isLt
    show i = i + a.val
    omega

theorem plane_at (x : S2048x8x512.Idx → α) (st : Fin 3 → Int) (h : S2048x8x512.Slices (fun _ => 0) S1x8x512) {i : ℕ} (hi : i < 2048)
    (e0 : st 0 = (i : Int)) (e1 : st 1 = 0) (e2 : st 2 = 0) (a : Fin 1) (b : Fin 8) (j : Fin 512) :
    Host.dynamicSlice S1x8x512 x st h (ix3 a b j) = x (ix3 ⟨i, hi⟩ b j) := by
  have hk : S2048x8x512.Slices ![i, 0, 0] S1x8x512 :=
    ⟨rfl, fun a => by fin_cases a; exacts [(by show i + 1 ≤ 2048; omega), Nat.le_of_eq rfl, Nat.le_of_eq rfl]⟩
  rw [WordCmp.dynamicSlice_eq_extract S1x8x512 x st h ![i, 0, 0] hk (fun a => by fin_cases a; exacts [e0, e1, e2])]
  refine extractStridedSlice_apply _ _ _ _ _ fun c => ?_
  fin_cases c
  · have := a.isLt
    show i = i + a.val
    omega
  · exact (Nat.zero_add _).symm
  · exact (Nat.zero_add _).symm

theorem plane_set (x : S2048x8x512.Idx → α) (u : S1x8x512.Idx → α) (st : Fin 3 → Int) (h : S2048x8x512.Slices (fun _ => 0) S1x8x512) {i : ℕ} (hi : i < 2048)
    (e0 : st 0 = (i : Int)) (e1 : st 1 = 0) (e2 : st 2 = 0) (n : Fin 2048) (b : Fin 8) (j : Fin 512) :
    Host.dynamicUpdateSlice x u st h (ix3 n b j) = if n.val = i then u (ix3 0 b j) else x (ix3 n b j) := by
  have hk : S2048x8x512.Slices ![i, 0, 0] S1x8x512 :=
    ⟨rfl, fun a => by fin_cases a; exacts [(by show i + 1 ≤ 2048; omega), Nat.le_of_eq rfl, Nat.le_of_eq rfl]⟩
  rw [WordCmp.dynamicUpdateSlice_eq_update x u st h ![i, 0, 0] hk (fun a => by fin_cases a; exacts [e0, e1, e2])]
  unfold updateSlice
  by_cases hn : n.val = i
  · rw [if_pos hn, dif_pos (fun a => by
      fin_cases a
      · exact ⟨Nat.le_of_eq hn.symm, by show n.val < i + 1; omega⟩
      · exact ⟨Nat.zero_le _, by show b.val < 0 + 8; omega⟩
      · exact ⟨Nat.zero_le _, by show j.val < 0 + 512; omega⟩)]
    refine congrArg u (funext fun a => Fin.ext ?_)
    fin_cases a
    · show n.val - i = 0
      omega
    · rfl
    · rfl
  · rw [if_neg hn, dif_neg (fun H => hn (by
      have h0 := H 0
      have h1 : i ≤ n.val := h0.1
      have h2 : n.val < i + 1 := h0.2
      omega))]

theorem joined_at (p : S8x1.Idx → α) (q : S8x511.Idx → α) (h : Shape.Concatenates [S8x1, S8x511] S8x512 1) (b : Fin 8) (j : Fin 512) :
    concatenate S8x512 1 [⟨S8x1, p⟩, ⟨S8x511, q⟩] h (ix2 b j)
      = if hj : j.val = 0 then p (ix2 b 0) else q (ix2 b ⟨j.val - 1, by omega⟩) := by
  by_cases hj : j.val = 0
  · rw [dif_pos hj]
    refine concatenate_pair_apply_left 1 p q h _ rfl _ fun c => ?_
    fin_cases c
    · rfl
    · exact hj.symm
  · rw [dif_neg hj]
    refine concatenate_pair_apply_right 1 p q h _ rfl rfl _ (fun c hc => ?_) ?_
    · fin_cases c
      · rfl
      · exact absurd rfl hc
    · show j.val - 1 + 1 = j.val
      omega

theorem cut_at (x : S8x512.Idx → α) (h : S8x512.Slices ![0, 0] S8x511) (b : Fin 8) (j : Fin 511) :
    extractStridedSlice S8x511 ![0, 0] x h (ix2 b j) = x (ix2 b ⟨j.val, by omega⟩) := by
  refine extractStridedSlice_apply _ _ _ _ _ fun c => ?_
  fin_cases c <;> exact (Nat.zero_add _).symm

theorem pair_at (p q : S8x1.Idx → α) (h : Shape.Concatenates [S8x1, S8x1] S8x2 1) (b : Fin 8) :
    concatenate S8x2 1 [⟨S8x1, p⟩, ⟨S8x1, q⟩] h (ix2 b 0) = p (ix2 b 0) ∧ concatenate S8x2 1 [⟨S8x1, p⟩, ⟨S8x1, q⟩] h (ix2 b 1) = q (ix2 b 0) := by
  constructor
  · refine concatenate_pair_apply_left 1 p q h _ rfl _ fun c => ?_
    fin_cases c <;> rfl
  · refine concatenate_pair_apply_right 1 p q h _ rfl rfl _ (fun c hc => ?_) rfl
    fin_cases c
    · rfl
    · exact absurd rfl hc

theorem picked_at (x : S8x512.Idx → α) (idx : IVec S8x2 32) (b : Fin 8) {r c : ℕ} (hr : r < 8) (hc : c < 512)
    (er : (idx (ix2 b 0)).toInt = (r : Int)) (ec : (idx (ix2 b 1)).toInt = (c : Int)) :
    Host.gather gather_S8x512_S8x2_S8_n_01_n_n_01_1_11 x idx (ix1 b) = x (ix2 ⟨r, hr⟩ ⟨c, hc⟩) := by
  unfold Host.gather
  congr 1
  funext a
  refine Fin.ext ?_
  show (gather_S8x512_S8x2_S8_n_01_n_n_01_1_11).start (ix1 b) idx a + (gather_S8x512_S8x2_S8_n_01_n_n_01_1_11).batchCoord (ix1 b) a
      + (gather_S8x512_S8x2_S8_n_01_n_n_01_1_11).offCoord (ix1 b) a = _
  have hs : ∀ a : Fin 2, a ∈ (gather_S8x512_S8x2_S8_n_01_n_n_01_1_11).startIndexMap := fun a => by fin_cases a <;> decide
  have hk : ∀ a : Fin 2, a ∈ (gather_S8x512_S8x2_S8_n_01_n_n_01_1_11).collapsedSliceDims := fun a => by fin_cases a <;> decide
  rw [GatherDims.batchCoord_eq_zero _ _ _ (fun h => absurd h (List.not_mem_nil)),
    GatherDims.offCoord_eq_zero _ _ _ (fun h => ((GatherDims.mem_sKept _ _).mp h).1 (hk a))]
  simp only [Nat.add_zero]
  unfold GatherDims.start
  rw [dif_pos (hs a)]
  have h01 : a = 0 ∨ a = 1 := by
    match a with
    | ⟨0, _⟩ => exact Or.inl rfl
    | ⟨1, _⟩ => exact Or.inr rfl
  rcases h01 with rfl | rfl
  · have hsi : (gather_S8x512_S8x2_S8_n_01_n_n_01_1_11).siIdx (ix1 b) ⟨List.idxOf (0 : Fin 2) (gather_S8x512_S8x2_S8_n_01_n_n_01_1_11).startIndexMap,
        List.idxOf_lt_length_iff.2 (hs 0)⟩ = ix2 b 0 := by
      funext c; refine Fin.ext ?_
      match c with
      | ⟨0, _⟩ => rfl
      | ⟨1, _⟩ => rfl
    rw [hsi, er]
    show min r (8 - 1) = r
    omega
  · have hsi : (gather_S8x512_S8x2_S8_n_01_n_n_01_1_11).siIdx (ix1 b) ⟨List.idxOf (1 : Fin 2) (gather_S8x512_S8x2_S8_n_01_n_n_01_1_11).startIndexMap,
        List.idxOf_lt_length_iff.2 (hs 1)⟩ = ix2 b 1 := by
      funext c; refine Fin.ext ?_
      match c with
      | ⟨0, _⟩ => rfl
      | ⟨1, _⟩ => rfl
    rw [hsi, ec]
    show min c (512 - 1) = c
    omega

end Cert.ReferenceIdeal.Hand
-- ==== Proof.Value.RefFwd.lean ====
/- The reference's forward pass over the extended reals: a trip takes the column of scores before column `i` to the
   column of scores after it, and writes it to plane `i` of the stored scores. -/
module

public import proofs.«01_k».proof.Proof.Value.RefOps

@[expose] public section

set_option maxRecDepth 16384

noncomputable section

namespace Cert.ReferenceIdeal.Hand

open Cert.ReferenceIdeal Cert.ReferenceIdeal.Gen Cert.Solve
open Cert.Model (R lo neg)
open Cert.KernelIdeal.Hand (ofNat_inj toInt_ofNat cmpi_eq_ofNat cmpi_slt_ofNat select_ofBool fill_eq coe_max)
open Idealize.ShloMosaic Idealize.ShloMosaic.TcCoe Idealize.ShloMosaic.StableHlo
open Idealize.ShloMosaic.ValueIdx

theorem cmpi_sge_ofNat {m n : ℕ} (hm : m < 2 ^ 31) (hn : n < 2 ^ 31) : IntOp.cmpi .sge (BitVec.ofNat 32 m) (BitVec.ofNat 32 n) = BitVec.ofBool (decide (n ≤ m)) := by
  unfold IntOp.cmpi
  refine congrArg BitVec.ofBool ?_
  rw [Bool.eq_iff_iff, decide_eq_true_iff, BitVec.sle_iff_toInt_le, toInt_ofNat hm, toInt_ofNat hn]
  omega

theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [IntOp.andi, hp, hq]

/-- The lower edge of the band, as the reference computes it at 512 tokens and 2048 columns. -/
theorem edge_lo : ∀ i : Fin 2048, IntOp.maxsi 0#32 (IntOp.subi (IntOp.addi 512#32 (BitVec.ofNat 32 i.val)) 2048#32) = BitVec.ofNat 32 (lo i.val) := by
  unfold lo
  decide +kernel

/-- The upper edge of the band. -/
theorem edge_hi : ∀ i : Fin 2048, IntOp.minsi 512#32 (IntOp.addi (BitVec.ofNat 32 i.val) 1#32) = BitVec.ofNat 32 (min 512 (i.val + 1)) := by
  decide +kernel

theorem zero_real : (Scalar.ofBits .f32 0x00000000#32 : Ideal .f32) = ((0 : ℝ) : EReal) := Ideal.ofBits_zero_f32.trans EReal.coe_zero.symm

theorem first_zero : (0#32 : BitVec 32).toInt = 0 := by decide

section Step

variable (V : Valuation τ sig (Elt Ideal)) {X : Fin 8 → ℕ → ℕ → ℝ} {i : ℕ} (hi : i < 2048)
  (h0 : ∀ k : Fin 2048, (rd (after trip0 V) main_v15_0 : IVec S2048 32) (ix1 k) = BitVec.ofNat 32 k.val)
  (h1 : ∀ (b : Fin 8) (j : Fin 512) (k : Fin 2048), (rd (after trip0 V) main_v15_1 : FVec Ideal S8x512x2048 .f32) (ix3 b j k) = ((X b j.val k.val : ℝ) : EReal))
  (h2 : ∀ (a : Fin 1) (j : Fin 512), (rd (after trip0 V) main_v15_2 : IVec S1x512 32) (ix2 a j) = BitVec.ofNat 32 j.val)
  (h3 : ∀ y, (rd (after trip0 V) main_v15_3 : IVec S8 32) y = 512#32)
  (h4 : ∀ y, (rd (after trip0 V) main_v15_4 : IVec S8 32) y = 2048#32)
  (h5 : ∀ y, (rd (after trip0 V) main_v15_5 : IVec S_ 32) y = BitVec.ofNat 32 i)
  (h6 : ∀ (b : Fin 8) (j : Fin 512), (rd (after trip0 V) main_v15_6 : FVec Ideal S8x512 .f32) (ix2 b j) = ((R (X b) i j.val : ℝ) : EReal))

include hi h0 h5 in
theorem fwd_column_number (y : S_.Idx) : (rd (after trip0 V) main_while0b_v22 : IVec S_ 32) y = BitVec.ofNat 32 i := by
  have e := t0_v22 V
  have e' := t0_call0_v0 V
  generalize after trip0 V = W at *
  have hc : ∀ z, (rd W main_while0b_call0_v0 : IVec S1 32) z = BitVec.ofNat 32 i := fun z =>
    (congrFun e' z).trans ((one_at _ _ _ hi (by show ((rd W main_v15_5 : IVec S_ 32) _).toInt = _; rw [h5, toInt_ofNat (by omega)]) z).trans (h0 _))
  exact (congrFun e y).trans (hc _)

include hi h0 h1 h5 in
theorem fwd_column (b : Fin 8) (j : Fin 512) : (rd (after trip0 V) main_while0b_v23 : FVec Ideal S8x512 .f32) (ix2 b j) = ((X b j.val i : ℝ) : EReal) := by
  have h22 := fwd_column_number V hi h0 h5
  have e := t0_v23 V
  have e3 := t0_call1_v3 V
  have e2 := t0_call1_v2 V
  have e0 := t0_call1_v0 V
  have c0 := t0_call1_c V
  have c1 := t0_call1_c_1 V
  have c2 := t0_call1_c_2 V
  generalize after trip0 V = W at *
  have k2 : ∀ y, (rd W main_while0b_call1_v2 : IVec S_ 32) y = BitVec.ofNat 32 i := fun y => by
    refine (congrFun e2 y).trans ?_
    show Scalar.select ((rd W main_while0b_call1_v0 : IVec S_ 1) y) _ ((rd W main_while0b_v22 : IVec S_ 32) y) = _
    rw [show (rd W main_while0b_call1_v0 : IVec S_ 1) y = BitVec.ofBool (decide (i < 0)) from (congrFun e0 y).trans (by
      show IntOp.cmpi .slt ((rd W main_while0b_v22 : IVec S_ 32) y) ((rd W main_while0b_call1_c : IVec S_ 32) y) = _
      rw [h22, show (rd W main_while0b_call1_c : IVec S_ 32) y = BitVec.ofNat 32 0 from congrFun c0 y]
      exact cmpi_slt_ofNat (by omega) (by omega)), select_ofBool, if_neg (by omega), h22]
  refine (congrFun e _).trans ((shapeCast_apply _ _ _ (ix3 b j 0) ?_).trans ((congrFun e3 _).trans ((column_at _ _ _ hi ?_ ?_ ?_ b j 0).trans (h1 _ _ _))))
  · rw [Shape.rowMajor_val_two, Shape.rowMajor_val_three]
    show (b.val * 512 + j.val) * 1 + 0 = b.val * 512 + j.val
    omega
  · show ((rd W main_while0b_call1_c_1 : IVec S_ 32) _).toInt = 0
    rw [c1]; exact first_zero
  · show ((rd W main_while0b_call1_c_2 : IVec S_ 32) _).toInt = 0
    rw [c2]; exact first_zero
  · show ((rd W main_while0b_call1_v2 : IVec S_ 32) _).toInt = _
    rw [k2, toInt_ofNat (by omega)]

include hi h0 h5 h2 h6 in
/-- The better of the two predecessors. -/
theorem fwd_best (b : Fin 8) (j : Fin 512) : (rd (after trip0 V) main_while0b_v33 : FVec Ideal S8x512 .f32) (ix2 b j)
    = ((max (if j.val = i then neg else R (X b) i j.val) (if j.val = 0 then (if i = 0 then 0 else neg) else R (X b) i (j.val - 1)) : ℝ) : EReal) := by
  have h22 := fwd_column_number V hi h0 h5
  have e24 := t0_v24 V
  have e25 := t0_v25 V
  have c13 := t0_cst_13 V
  have d0 := t0_call2_v0 V
  have d1 := t0_call2_v1 V
  have d2 := t0_call2_v2 V
  have e26 := t0_v26 V
  have c14 := t0_c_14 V
  have e27 := t0_v27 V
  have c15 := t0_cst_15 V
  have c16 := t0_cst_16 V
  have e28 := t0_v28 V
  have e29 := t0_v29 V
  have e30 := t0_v30 V
  have e31 := t0_v31 V
  have e32 := t0_v32 V
  have e33 := t0_v33 V
  generalize after trip0 V = W at *
  have k24 : ∀ y, (rd W main_while0b_v24 : IVec S1x512 32) y = BitVec.ofNat 32 i := fun y => (congrFun e24 y).trans (h22 _)
  have k25 : (rd W main_while0b_v25 : IVec S1x512 1) (ix2 0 j) = BitVec.ofBool (decide (j.val = i)) := by
    refine (congrFun e25 _).trans ?_
    show IntOp.cmpi .eq ((rd W main_v15_2 : IVec S1x512 32) _) ((rd W main_while0b_v24 : IVec S1x512 32) _) = _
    rw [h2, k24]
    exact cmpi_eq_ofNat (by omega) (by omega)
  have kneg : ∀ y, (rd W main_while0b_call2_v2 : FVec Ideal S8x512 .f32) y = ((neg : ℝ) : EReal) := fun y =>
    (congrFun d2 y).trans ((congrFun d0 _).trans ((congrFun c13 _).trans fill_eq))
  have k26 : (rd W main_while0b_v26 : FVec Ideal S8x512 .f32) (ix2 b j) = ((if j.val = i then neg else R (X b) i j.val : ℝ) : EReal) := by
    refine (congrFun e26 _).trans ?_
    show Scalar.select ((rd W main_while0b_call2_v1 : IVec S8x512 1) _) ((rd W main_while0b_call2_v2 : FVec Ideal S8x512 .f32) _) ((rd W main_v15_6 : FVec Ideal S8x512 .f32) _) = _
    rw [show (rd W main_while0b_call2_v1 : IVec S8x512 1) (ix2 b j) = _ from (congrFun d1 _).trans ((row_at _ _ b j).trans k25), select_ofBool, kneg, h6]
    split <;> rfl
  have k28 : ∀ y, (rd W main_while0b_v28 : FVec Ideal S_ .f32) y = ((if i = 0 then 0 else neg : ℝ) : EReal) := fun y => by
    refine (congrFun e28 y).trans ?_
    show Scalar.select ((rd W main_while0b_v27 : IVec S_ 1) y) ((rd W main_while0b_cst_15 : FVec Ideal S_ .f32) y) ((rd W main_while0b_cst_16 : FVec Ideal S_ .f32) y) = _
    rw [show (rd W main_while0b_v27 : IVec S_ 1) y = BitVec.ofBool (decide (i = 0)) from (congrFun e27 y).trans (by
      show IntOp.cmpi .eq ((rd W main_while0b_v22 : IVec S_ 32) y) ((rd W main_while0b_c_14 : IVec S_ 32) y) = _
      rw [h22, show (rd W main_while0b_c_14 : IVec S_ 32) y = BitVec.ofNat 32 0 from congrFun c14 y]
      exact cmpi_eq_ofNat (by omega) (by omega)), select_ofBool,
      show (rd W main_while0b_cst_15 : FVec Ideal S_ .f32) y = _ from (congrFun c15 y).trans zero_real,
      show (rd W main_while0b_cst_16 : FVec Ideal S_ .f32) y = _ from (congrFun c16 y).trans fill_eq]
    split <;> rfl
  have k32 : (rd W main_while0b_v32 : FVec Ideal S8x512 .f32) (ix2 b j) = ((if j.val = 0 then (if i = 0 then 0 else neg) else R (X b) i (j.val - 1) : ℝ) : EReal) := by
    refine (congrFun e32 _).trans ((joined_at _ _ _ b j).trans ?_)
    by_cases hj : j.val = 0
    · rw [dif_pos hj, if_pos hj]
      exact (congrFun e31 _).trans ((congrFun e29 _).trans (k28 _))
    · rw [dif_neg hj, if_neg hj]
      exact (congrFun e30 _).trans ((cut_at _ _ b _).trans (h6 b _))
  rw [coe_max]
  exact (congrFun e33 _).trans (congrArg₂ (α := EReal) (β := EReal) (γ := EReal) max k26 k32)

include hi h0 h5 h2 h3 h4 in
/-- The band. -/
theorem fwd_band (b : Fin 8) (j : Fin 512) : (rd (after trip0 V) main_while0b_v50 : IVec S8x512 1) (ix2 b j)
    = BitVec.ofBool (decide (lo i ≤ j.val ∧ j.val < min 512 (i + 1))) := by
  have h22 := fwd_column_number V hi h0 h5
  have e34 := t0_v34 V
  have e35 := t0_v35 V
  have e36 := t0_v36 V
  have c17 := t0_c_17 V
  have e37 := t0_v37 V
  have e38 := t0_v38 V
  have e39 := t0_v39 V
  have c18 := t0_c_18 V
  have e40 := t0_v40 V
  have e41 := t0_v41 V
  have e42 := t0_v42 V
  have e43 := t0_v43 V
  have e44 := t0_v44 V
  have e45 := t0_v45 V
  have e46 := t0_v46 V
  have e47 := t0_v47 V
  have e48 := t0_v48 V
  have e49 := t0_v49 V
  have e50 := t0_v50 V
  generalize after trip0 V = W at *
  have k34 : ∀ y, (rd W main_while0b_v34 : IVec S8 32) y = BitVec.ofNat 32 i := fun y => (congrFun e34 y).trans (h22 _)
  have k38 : ∀ y, (rd W main_while0b_v38 : IVec S8 32) y = BitVec.ofNat 32 (lo i) := fun y => by
    refine (congrFun e38 y).trans (Eq.trans ?_ (edge_lo ⟨i, hi⟩))
    refine congr (congrArg IntOp.maxsi ?_) ?_
    · exact (congrFun e37 y).trans (congrFun c17 _)
    · refine (congrFun e36 y).trans (congr (congrArg IntOp.subi ?_) (h4 y))
      exact (congrFun e35 y).trans (congr (congrArg IntOp.addi (h3 y)) (k34 y))
  have k40 : ∀ y, (rd W main_while0b_v40 : IVec S_ 32) y = IntOp.addi (BitVec.ofNat 32 i) 1#32 := fun y =>
    (congrFun e40 y).trans (congr (congrArg IntOp.addi (h22 y)) (congrFun c18 y))
  have k42 : ∀ y, (rd W main_while0b_v42 : IVec S8 32) y = BitVec.ofNat 32 (min 512 (i + 1)) := fun y => by
    refine (congrFun e42 y).trans (Eq.trans ?_ (edge_hi ⟨i, hi⟩))
    exact congr (congrArg IntOp.minsi (h3 y)) ((congrFun e41 y).trans (k40 _))
  have k46 : (rd W main_while0b_v46 : IVec S8x512 1) (ix2 b j) = BitVec.ofBool (decide (lo i ≤ j.val)) := by
    refine (congrFun e46 _).trans (Eq.trans ?_ (cmpi_sge_ofNat (by omega) (by unfold lo; omega)))
    refine congr (congrArg (IntOp.cmpi .sge) ?_) ?_
    · exact (congrFun e44 _).trans ((row_at _ _ b j).trans (h2 0 j))
    · exact (congrFun e45 _).trans ((wide_at _ _ b j).trans ((congrFun e39 _).trans ((col_at _ _ b 0).trans (k38 _))))
  have k49 : (rd W main_while0b_v49 : IVec S8x512 1) (ix2 b j) = BitVec.ofBool (decide (j.val < min 512 (i + 1))) := by
    refine (congrFun e49 _).trans (Eq.trans ?_ (cmpi_slt_ofNat (by omega) (by omega)))
    refine congr (congrArg (IntOp.cmpi .slt) ?_) ?_
    · exact (congrFun e47 _).trans ((row_at _ _ b j).trans (h2 0 j))
    · exact (congrFun e48 _).trans ((wide_at _ _ b j).trans ((congrFun e43 _).trans ((col_at _ _ b 0).trans (k42 _))))
  refine (congrFun e50 _).trans (Eq.trans ?_ (andi_ofBool _ _))
  exact congr (congrArg IntOp.andi k46) k49

include hi h0 h1 h5 h2 h3 h4 h6 in
/-- The column of scores after the trip. -/
theorem fwd_scores (b : Fin 8) (j : Fin 512) : (rd (after trip0 V) main_while0b_v52 : FVec Ideal S8x512 .f32) (ix2 b j) = ((R (X b) (i + 1) j.val : ℝ) : EReal) := by
  have k23 := fwd_column V hi h0 h1 h5 b j
  have k33 := fwd_best V hi h0 h2 h5 h6 b j
  have k50 := fwd_band V hi h0 h2 h3 h4 h5 b j
  have e51 := t0_v51 V
  have e52 := t0_v52 V
  generalize after trip0 V = W at *
  refine (congrFun e52 _).trans ?_
  show Scalar.select ((rd W main_while0b_v50 : IVec S8x512 1) _) ((rd W main_while0b_v51 : FVec Ideal S8x512 .f32) _) ((rd W main_while0b_v23 : FVec Ideal S8x512 .f32) _) = _
  rw [k50, select_ofBool, k23, show (rd W main_while0b_v51 : FVec Ideal S8x512 .f32) (ix2 b j) = _ from (congrFun e51 _).trans (congrArg₂ (α := EReal) (β := EReal) (γ := EReal) (fun p q => p + q) k23 k33), R]
  split
  · exact (EReal.coe_add _ _).symm
  · rfl

include hi h0 h1 h5 h2 h3 h4 h6 in
/-- The stored scores after the trip. -/
theorem fwd_stored (n : Fin 2048) (b : Fin 8) (j : Fin 512) : (rd (after trip0 V) main_while0b_v53 : FVec Ideal S2048x8x512 .f32) (ix3 n b j)
    = if n.val = i then ((R (X b) (i + 1) j.val : ℝ) : EReal) else (rd (after trip0 V) main_v15_7 : FVec Ideal S2048x8x512 .f32) (ix3 n b j) := by
  have k52 := fwd_scores V hi h0 h1 h2 h3 h4 h5 h6 b j
  have e0 := t0_call5_v0 V
  have c0 := t0_call5_c V
  have c1 := t0_call5_c_0 V
  have e53 := t0_v53 V
  generalize after trip0 V = W at *
  refine (congrFun e53 _).trans ((plane_set _ _ _ _ hi ?_ ?_ ?_ n b j).trans ?_)
  · show ((rd W main_v15_5 : IVec S_ 32) _).toInt = _
    rw [h5, toInt_ofNat (by omega)]
  · show ((rd W main_while0b_call5_c : IVec S_ 32) _).toInt = 0
    rw [c0]; exact first_zero
  · show ((rd W main_while0b_call5_c_0 : IVec S_ 32) _).toInt = 0
    rw [c1]; exact first_zero
  · rw [show (rd W main_while0b_call5_v0 : FVec Ideal S1x8x512 .f32) (ix3 0 b j) = _ from (congrFun e0 _).trans ((lift_at _ _ 0 b j).trans k52)]

end Step

end Cert.ReferenceIdeal.Hand
-- ==== Proof.Value.RefEntry.lean ====
/- The reference's loops over the extended reals, where the mask is one and the log-probabilities are real: what the
   carried buffers start with, and what the forward loop leaves in them. -/
module

public import proofs.«01_k».proof.Proof.Value.RefFwd

@[expose] public section

set_option maxRecDepth 16384

noncomputable section

namespace Cert.ReferenceIdeal.Hand

open Cert.ReferenceIdeal Cert.ReferenceIdeal.Gen Cert.Solve
open Cert.Model (R lo neg)
open Cert.KernelIdeal.Hand (ofNat_inj toInt_ofNat cmpi_eq_ofNat cmpi_slt_ofNat select_ofBool fill_eq coe_max)
open Idealize.ShloMosaic Idealize.ShloMosaic.TcCoe Idealize.ShloMosaic.StableHlo
open Idealize.ShloMosaic.ValueIdx

/-- The sum of a row of ones. -/
theorem ones_sum {s t : Shape} {a : Fin s.rank} (h' : s.ReducesTo [a] t) (h : s.Reduces [a] t) (x : FVec Ideal s .f32) (v : FVec Ideal S_ .f32)
    (hu : 0 < S_.numel) (hx : ∀ y, x y = (1 : EReal)) (hv : ∀ y, v y = ((0 : ℝ) : EReal)) (j : t.Idx) :
    Host.reduceAdd x v h' hu j = (((s.size a : ℕ) : ℝ) : EReal) := by
  show Ideal.hostReduceAdd h' x (v (Shape.Idx.first hu)) j = _
  rw [Ideal.hostReduceAdd_single h' h, hv, Finset.sum_congr rfl (fun k _ => hx _), Finset.sum_const, Finset.card_univ, Fintype.card_fin]
  simp

theorem count_512 : (Ideal.fptosi 32 (((512 : ℕ) : ℝ) : EReal)) = 512#32 := by
  rw [Ideal.fptosi, Ideal.toIntClamped_coe]
  norm_num

theorem count_2048 : (Ideal.fptosi 32 (((2048 : ℕ) : ℝ) : EReal)) = 2048#32 := by
  rw [Ideal.fptosi, Ideal.toIntClamped_coe]
  norm_num

theorem iv_count (k : ℕ) : Scf.iv 0#32 1#32 k = BitVec.ofNat 32 k := by
  unfold Scf.iv
  simp

section Entry

variable (V : Valuation τ sig (Elt Ideal))
  (hM : ∀ y, (rd (after hostOps0 V) main_arg1 : FVec Ideal S8x512x2048 .f32) y = (1 : EReal))

include hM in
theorem entry_tokens (y : S8.Idx) : (rd (after hostOps0 V) main_v4 : IVec S8 32) y = 512#32 := by
  have c := h0_cst V
  have e1 := h0_v1 V
  have e2 := h0_v2 V
  have e3 := h0_v3 V
  have e4 := h0_v4 V
  generalize after hostOps0 V = W at *
  have k1 : ∀ z, (rd W main_v1 : FVec Ideal S8x2048 .f32) z = (((512 : ℕ) : ℝ) : EReal) := fun z =>
    (congrFun e1 z).trans (ones_sum _ (by decide) _ _ _ hM (fun y => (congrFun c y).trans zero_real) z)
  have k2 : ∀ z, (rd W main_v2 : FVec Ideal S8x1 .f32) z = (((512 : ℕ) : ℝ) : EReal) := fun z => (congrFun e2 z).trans (k1 _)
  have k3 : (rd W main_v3 : FVec Ideal S8 .f32) y = (((512 : ℕ) : ℝ) : EReal) := (congrFun e3 y).trans (k2 _)
  exact (congrFun e4 y).trans ((congrArg (Ideal.fptosi 32) k3).trans count_512)

include hM in
theorem entry_columns (y : S8.Idx) : (rd (after hostOps0 V) main_v8 : IVec S8 32) y = 2048#32 := by
  have c := h0_cst_0 V
  have e1 := h0_v5 V
  have e2 := h0_v6 V
  have e3 := h0_v7 V
  have e4 := h0_v8 V
  generalize after hostOps0 V = W at *
  have k1 : ∀ z, (rd W main_v5 : FVec Ideal S8x512 .f32) z = (((2048 : ℕ) : ℝ) : EReal) := fun z =>
    (congrFun e1 z).trans (ones_sum _ (by decide) _ _ _ hM (fun y => (congrFun c y).trans zero_real) z)
  have k2 : ∀ z, (rd W main_v6 : FVec Ideal S8x1 .f32) z = (((2048 : ℕ) : ℝ) : EReal) := fun z => (congrFun e2 z).trans (k1 _)
  have k3 : (rd W main_v7 : FVec Ideal S8 .f32) y = (((2048 : ℕ) : ℝ) : EReal) := (congrFun e3 y).trans (k2 _)
  exact (congrFun e4 y).trans ((congrArg (Ideal.fptosi 32) k3).trans count_2048)

include hM in
theorem entry_masked (y : S8x512x2048.Idx) : (rd (after hostOps0 V) main_v0 : FVec Ideal S8x512x2048 .f32) y = (rd (after hostOps0 V) main_arg0 : FVec Ideal S8x512x2048 .f32) y := by
  have e := h0_v0 V
  generalize after hostOps0 V = W at *
  refine (congrFun e y).trans ?_
  refine (congrArg₂ (α := EReal) (β := EReal) (γ := EReal) (fun p q => p * q) rfl (hM y)).trans ?_
  exact mul_one (M := EReal) _

theorem entry_lanes (a : Fin 1) (j : Fin 512) : (rd (after hostOps0 V) main_v11 : IVec S1x512 32) (ix2 a j) = BitVec.ofNat 32 j.val := by
  have e := h0_v10 V
  have e' := h0_v11 V
  generalize after hostOps0 V = W at *
  refine (congrFun e' _).trans ((broadcastInDim_apply _ _ _ _ (ix1 j) (fun a => by fin_cases a; rfl)).trans ?_)
  exact (congrFun e _).trans rfl

theorem entry_zeros (y : S8x512.Idx) : (rd (after hostOps0 V) main_v12 : FVec Ideal S8x512 .f32) y = ((0 : ℝ) : EReal) := by
  have e := h0_cst_1 V
  have e' := h0_v12 V
  generalize after hostOps0 V = W at *
  exact (congrFun e' _).trans ((congrFun e _).trans zero_real)

end Entry

variable (m : (ℓ : Loc nD τ sig) → Buf (Elt Ideal) ℓ) (c : Dev nD) {X : Fin 8 → ℕ → ℕ → ℝ}
  (hA : ∀ (b : Fin 8) (l : Fin 512) (i : Fin 2048), (m ((c : Thread nD τ).loc main_arg0) : FVec Ideal S8x512x2048 .f32) (ix3 b l i) = ((X b l.val i.val : ℝ) : EReal))
  (hM : ∀ y, (m ((c : Thread nD τ).loc main_arg1) : FVec Ideal S8x512x2048 .f32) y = (1 : EReal))

theorem start_arg0 : rd (entry0 m c) main_arg0 = m ((c : Thread nD τ).loc main_arg0) := keep hostOps0_writes (launchContents m c) (by decide +kernel)
theorem start_arg1 : rd (entry0 m c) main_arg1 = m ((c : Thread nD τ).loc main_arg1) := keep hostOps0_writes (launchContents m c) (by decide +kernel)

include hM in
theorem start_ones (y : S8x512x2048.Idx) : (rd (entry0 m c) main_arg1 : FVec Ideal S8x512x2048 .f32) y = (1 : EReal) :=
  (congrFun (start_arg1 m c) y).trans (hM y)

/-- A buffer no trip writes, at the end of a trip's line. -/
theorem mid0_entry {k : ℕ} {r : Ref sig .tc} (h : r ∉ trip0_W) (h' : r ∉ [main_while0c_c_13, main_while0c_v22]) (h'' : r ∉ back0_W) :
    rd (mid0 m k c) r = rd (entry0 m c) r := (mid0_keep m k c h h').trans (at0_keep m c h h' h'' k)

theorem entry0_eq : entry0 m c = after hostOps0 (launchContents m c) := rfl
theorem mid0_eq (k : ℕ) : mid0 m k c = after trip0 (after cond0 (at0 m k c)) := rfl

include hA hM in
/-- The carried buffers before column `k`: the column of scores, and the stored scores of the columns before. -/
theorem fwd_carried : ∀ k : ℕ, k ≤ 2048 →
    (∀ (b : Fin 8) (j : Fin 512), (rd (at0 m k c) main_v15_6 : FVec Ideal S8x512 .f32) (ix2 b j) = ((R (X b) k j.val : ℝ) : EReal))
    ∧ ∀ (n : Fin 2048) (b : Fin 8) (j : Fin 512), n.val < k →
      (rd (at0 m k c) main_v15_7 : FVec Ideal S2048x8x512 .f32) (ix3 n b j) = ((R (X b) (n.val + 1) j.val : ℝ) : EReal)
  | 0, _ => ⟨fun b j => by
      refine (congrFun (show rd (at0 m 0 c) main_v15_6 = rd (entry0 m c) main_v15_6 from rfl) _).trans ?_
      rw [entry0_eq]
      exact (congrFun (h0_v15_6 _) _).trans (entry_zeros _ _), fun n b j h => absurd h (Nat.not_lt_zero _)⟩
  | k + 1, hk => by
    obtain ⟨ih, ih'⟩ := fwd_carried k (by omega)
    have hone := start_ones m c hM
    have hkeep := fun (r : Ref sig .tc) h h' h'' => mid0_entry m c (k := k) (r := r) h h' h''
    have g0 := hkeep main_v15_0 (by decide +kernel) (by decide +kernel) (by decide +kernel)
    have g1 := hkeep main_v15_1 (by decide +kernel) (by decide +kernel) (by decide +kernel)
    have g2 := hkeep main_v15_2 (by decide +kernel) (by decide +kernel) (by decide +kernel)
    have g3 := hkeep main_v15_3 (by decide +kernel) (by decide +kernel) (by decide +kernel)
    have g4 := hkeep main_v15_4 (by decide +kernel) (by decide +kernel) (by decide +kernel)
    have g5 := (mid0_keep m k c (r := main_v15_5) (by decide +kernel) (by decide +kernel)).trans (at0_counter m c k)
    have g6 := mid0_keep m k c (r := main_v15_6) (by decide +kernel) (by decide +kernel)
    have g7 := mid0_keep m k c (r := main_v15_7) (by decide +kernel) (by decide +kernel)
    have a0 := start_arg0 m c
    rw [entry0_eq] at g0 g1 g2 g3 g4 hone a0
    rw [mid0_eq] at g0 g1 g2 g3 g4 g5 g6 g7
    have f0 : ∀ q : Fin 2048, (rd (after trip0 (after cond0 (at0 m k c))) main_v15_0 : IVec S2048 32) (ix1 q) = BitVec.ofNat 32 q.val := fun q =>
      (congrFun g0 _).trans ((congrFun (h0_v15_0 _) _).trans ((congrFun (h0_v13 _) _).trans rfl))
    have f1 : ∀ (b : Fin 8) (j : Fin 512) (q : Fin 2048), (rd (after trip0 (after cond0 (at0 m k c))) main_v15_1 : FVec Ideal S8x512x2048 .f32) (ix3 b j q) = ((X b j.val q.val : ℝ) : EReal) := fun b j q =>
      (congrFun g1 _).trans ((congrFun (h0_v15_1 _) _).trans ((entry_masked _ hone _).trans ((congrFun a0 _).trans (hA b j q))))
    have f2 : ∀ (a : Fin 1) (j : Fin 512), (rd (after trip0 (after cond0 (at0 m k c))) main_v15_2 : IVec S1x512 32) (ix2 a j) = BitVec.ofNat 32 j.val := fun a j =>
      (congrFun g2 _).trans ((congrFun (h0_v15_2 _) _).trans (entry_lanes _ a j))
    have f3 : ∀ y, (rd (after trip0 (after cond0 (at0 m k c))) main_v15_3 : IVec S8 32) y = 512#32 := fun y =>
      (congrFun g3 _).trans ((congrFun (h0_v15_3 _) _).trans (entry_tokens _ hone y))
    have f4 : ∀ y, (rd (after trip0 (after cond0 (at0 m k c))) main_v15_4 : IVec S8 32) y = 2048#32 := fun y =>
      (congrFun g4 _).trans ((congrFun (h0_v15_4 _) _).trans (entry_columns _ hone y))
    have f5 : ∀ y, (rd (after trip0 (after cond0 (at0 m k c))) main_v15_5 : IVec S_ 32) y = BitVec.ofNat 32 k := fun y => (congrFun g5 y).trans (iv_count k)
    have f6 : ∀ (b : Fin 8) (j : Fin 512), (rd (after trip0 (after cond0 (at0 m k c))) main_v15_6 : FVec Ideal S8x512 .f32) (ix2 b j) = ((R (X b) k j.val : ℝ) : EReal) := fun b j =>
      (congrFun g6 _).trans (ih b j)
    refine ⟨fun b j => ?_, fun n b j hn => ?_⟩
    · rw [at0_col, mid0_eq]
      exact fwd_scores _ (by omega) f0 f1 f2 f3 f4 f5 f6 b j
    · rw [at0_xv, mid0_eq]
      refine (fwd_stored _ (by omega) f0 f1 f2 f3 f4 f5 f6 n b j).trans ?_
      by_cases h : n.val = k
      · rw [if_pos h, h]
      · rw [if_neg h]
        exact (congrFun g7 _).trans (ih' n b j (by omega))

end Cert.ReferenceIdeal.Hand
-- ==== Proof.ReferenceIdeal.EqsBack.lean ====
/- What the operations of a backward trip leave in their buffers: one equation an operation. -/
module

public import proofs.«01_k».proof.Proof.ReferenceIdeal.Trips
public import Mathlib.Tactic.FinCases

@[expose] public section

set_option maxRecDepth 65536

noncomputable section

namespace Cert.ReferenceIdeal.Hand

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen Cert.Solve

variable {F : FTy → Type} [FloatOps F]

variable (V : Valuation τ sig (Elt F))

theorem t1_c_13 : rd (after trip1 V) main_while1b_c_13 =
    (constantI S_ 32 2048#32) := by
  have e := nullary trip1_writes V 0 rfl (by decide +kernel)
  generalize after trip1 V = X at e ⊢
  exact e

theorem t1_v22 : rd (after trip1 V) main_while1b_v22 =
    (subi : (⟨S_, .i32⟩ : BufTy).Contents (Elt F) → (⟨S_, .i32⟩ : BufTy).Contents (Elt F) → (⟨S_, .i32⟩ : BufTy).Contents (Elt F)) (rd (after trip1 V) main_while1b_c_13) (rd (after trip1 V) main_v20_5) := by
  have e := binary trip1_writes V 1 rfl (by decide +kernel) (by decide +kernel) (by decide +kernel)
  generalize after trip1 V = X at e ⊢
  exact e

theorem t1_c_14 : rd (after trip1 V) main_while1b_c_14 =
    (constantI S_ 32 1#32) := by
  have e := nullary trip1_writes V 2 rfl (by decide +kernel)
  generalize after trip1 V = X at e ⊢
  exact e

theorem t1_v23 : rd (after trip1 V) main_while1b_v23 =
    (subi : (⟨S_, .i32⟩ : BufTy).Contents (Elt F) → (⟨S_, .i32⟩ : BufTy).Contents (Elt F) → (⟨S_, .i32⟩ : BufTy).Contents (Elt F)) (rd (after trip1 V) main_while1b_v22) (rd (after trip1 V) main_while1b_c_14) := by
  have e := binary trip1_writes V 3 rfl (by decide +kernel) (by decide +kernel) (by decide +kernel)
  generalize after trip1 V = X at e ⊢
  exact e

theorem t1_call6_v0 : rd (after trip1 V) main_while1b_call6_v0 =
    ((fun x i => Host.dynamicSlice S1 x (fun k => (i k (Shape.Idx.first h_S_)).toInt) sliceFits_S2048_S1) : (⟨S2048, .i32⟩ : BufTy).Contents (Elt F) → (Fin 1 → (⟨S_, .i32⟩ : BufTy).Contents (Elt F)) → (⟨S1, .i32⟩ : BufTy).Contents (Elt F)) (rd (after trip1 V) main_v20_0) ![(rd (after trip1 V) main_while1b_v23)] := by
  have e := unaryIndexed1 trip1_writes V 4 rfl (by decide +kernel) (by decide +kernel) (by decide +kernel)
  generalize after trip1 V = X at e ⊢
  exact e

theorem t1_v24 : rd (after trip1 V) main_while1b_v24 =
    (shapeCast S_ (rd (after trip1 V) main_while1b_call6_v0) shapeCasts_S1_S_ : (⟨S_, .i32⟩ : BufTy).Contents (Elt F)) := by
  have e := reshape trip1_writes V 5 rfl (by decide +kernel) (by decide +kernel)
  generalize after trip1 V = X at e ⊢
  exact e

theorem t1_v25 : rd (after trip1 V) main_while1b_v25 =
    (broadcastInDim S8 ![] bcast_S_S8 : (⟨S_, .i32⟩ : BufTy).Contents (Elt F) → (⟨S8, .i32⟩ : BufTy).Contents (Elt F)) (rd (after trip1 V) main_while1b_v24) := by
  have e := unary trip1_writes V 6 rfl (by decide +kernel) (by decide +kernel)
  generalize after trip1 V = X at e ⊢
  exact e

theorem t1_v26 : rd (after trip1 V) main_while1b_v26 =
    (cmpi .slt : (⟨S8, .i32⟩ : BufTy).Contents (Elt F) → (⟨S8, .i32⟩ : BufTy).Contents (Elt F) → (⟨S8, .i1⟩ : BufTy).Contents (Elt F)) (rd (after trip1 V) main_while1b_v25) (rd (after trip1 V) main_v20_1) := by
  have e := binary trip1_writes V 7 rfl (by decide +kernel) (by decide +kernel) (by decide +kernel)
  generalize after trip1 V = X at e ⊢
  exact e

theorem t1_v27 : rd (after trip1 V) main_while1b_v27 =
    (broadcastInDim S8x1 ![0] bcast_S8_S8x1_0 : (⟨S8, .i32⟩ : BufTy).Contents (Elt F) → (⟨S8x1, .i32⟩ : BufTy).Contents (Elt F)) (rd (after trip1 V) main_v20_6) := by
  have e := unary trip1_writes V 8 rfl (by decide +kernel) (by decide +kernel)
  generalize after trip1 V = X at e ⊢
  exact e

theorem t1_v28 : rd (after trip1 V) main_while1b_v28 =
    (broadcastInDim S8x512 ![0, 1] bcast_S1x512_S8x512_0_1 : (⟨S1x512, .i32⟩ : BufTy).Contents (Elt F) → (⟨S8x512, .i32⟩ : BufTy).Contents (Elt F)) (rd (after trip1 V) main_v20_2) := by
  have e := unary trip1_writes V 9 rfl (by decide +kernel) (by decide +kernel)
  generalize after trip1 V = X at e ⊢
  exact e

theorem t1_v29 : rd (after trip1 V) main_while1b_v29 =
    (broadcastInDim S8x512 ![0, 1] bcast_S8x1_S8x512_0_1 : (⟨S8x1, .i32⟩ : BufTy).Contents (Elt F) → (⟨S8x512, .i32⟩ : BufTy).Contents (Elt F)) (rd (after trip1 V) main_while1b_v27) := by
  have e := unary trip1_writes V 10 rfl (by decide +kernel) (by decide +kernel)
  generalize after trip1 V = X at e ⊢
  exact e

theorem t1_v30 : rd (after trip1 V) main_while1b_v30 =
    (cmpi .eq : (⟨S8x512, .i32⟩ : BufTy).Contents (Elt F) → (⟨S8x512, .i32⟩ : BufTy).Contents (Elt F) → (⟨S8x512, .i1⟩ : BufTy).Contents (Elt F)) (rd (after trip1 V) main_while1b_v28) (rd (after trip1 V) main_while1b_v29) := by
  have e := binary trip1_writes V 11 rfl (by decide +kernel) (by decide +kernel) (by decide +kernel)
  generalize after trip1 V = X at e ⊢
  exact e

theorem t1_v31 : rd (after trip1 V) main_while1b_v31 =
    (broadcastInDim S8x1 ![0] bcast_S8_S8x1_0 : (⟨S8, .i1⟩ : BufTy).Contents (Elt F) → (⟨S8x1, .i1⟩ : BufTy).Contents (Elt F)) (rd (after trip1 V) main_while1b_v26) := by
  have e := unary trip1_writes V 12 rfl (by decide +kernel) (by decide +kernel)
  generalize after trip1 V = X at e ⊢
  exact e

theorem t1_v32 : rd (after trip1 V) main_while1b_v32 =
    (broadcastInDim S8x512 ![0, 1] bcast_S8x1_S8x512_0_1 : (⟨S8x1, .i1⟩ : BufTy).Contents (Elt F) → (⟨S8x512, .i1⟩ : BufTy).Contents (Elt F)) (rd (after trip1 V) main_while1b_v31) := by
  have e := unary trip1_writes V 13 rfl (by decide +kernel) (by decide +kernel)
  generalize after trip1 V = X at e ⊢
  exact e

theorem t1_v33 : rd (after trip1 V) main_while1b_v33 =
    (andi : (⟨S8x512, .i1⟩ : BufTy).Contents (Elt F) → (⟨S8x512, .i1⟩ : BufTy).Contents (Elt F) → (⟨S8x512, .i1⟩ : BufTy).Contents (Elt F)) (rd (after trip1 V) main_while1b_v30) (rd (after trip1 V) main_while1b_v32) := by
  have e := binary trip1_writes V 14 rfl (by decide +kernel) (by decide +kernel) (by decide +kernel)
  generalize after trip1 V = X at e ⊢
  exact e

theorem t1_cst_15 : rd (after trip1 V) main_while1b_cst_15 =
    (constant S_ .f32 0x3F800000#32) := by
  have e := nullary trip1_writes V 15 rfl (by decide +kernel)
  generalize after trip1 V = X at e ⊢
  exact e

theorem t1_cst_16 : rd (after trip1 V) main_while1b_cst_16 =
    (constant S_ .f32 0x00000000#32) := by
  have e := nullary trip1_writes V 16 rfl (by decide +kernel)
  generalize after trip1 V = X at e ⊢
  exact e

theorem t1_call7_v0 : rd (after trip1 V) main_while1b_call7_v0 =
    ((broadcastInDim S8x512 ![] bcast_S_S8x512) : (⟨S_, .f32⟩ : BufTy).Contents (Elt F) → (⟨S8x512, .f32⟩ : BufTy).Contents (Elt F)) (rd (after trip1 V) main_while1b_cst_15) := by
  have e := unary trip1_writes V 17 rfl (by decide +kernel) (by decide +kernel)
  generalize after trip1 V = X at e ⊢
  exact e

theorem t1_call7_v1 : rd (after trip1 V) main_while1b_call7_v1 =
    ((broadcastInDim S8x512 ![] bcast_S_S8x512) : (⟨S_, .f32⟩ : BufTy).Contents (Elt F) → (⟨S8x512, .f32⟩ : BufTy).Contents (Elt F)) (rd (after trip1 V) main_while1b_cst_16) := by
  have e := unary trip1_writes V 18 rfl (by decide +kernel) (by decide +kernel)
  generalize after trip1 V = X at e ⊢
  exact e

theorem t1_v34 : rd (after trip1 V) main_while1b_v34 =
    (select : (⟨S8x512, .i1⟩ : BufTy).Contents (Elt F) → (⟨S8x512, .f32⟩ : BufTy).Contents (Elt F) → (⟨S8x512, .f32⟩ : BufTy).Contents (Elt F) → (⟨S8x512, .f32⟩ : BufTy).Contents (Elt F)) (rd (after trip1 V) main_while1b_v33) (rd (after trip1 V) main_while1b_call7_v0) (rd (after trip1 V) main_while1b_call7_v1) := by
  have e := ternary trip1_writes V 19 rfl (by decide +kernel) (by decide +kernel) (by decide +kernel) (by decide +kernel)
  generalize after trip1 V = X at e ⊢
  exact e

theorem t1_c_17 : rd (after trip1 V) main_while1b_c_17 =
    (constantI S_ 32 1#32) := by
  have e := nullary trip1_writes V 20 rfl (by decide +kernel)
  generalize after trip1 V = X at e ⊢
  exact e

theorem t1_v35 : rd (after trip1 V) main_while1b_v35 =
    (subi : (⟨S_, .i32⟩ : BufTy).Contents (Elt F) → (⟨S_, .i32⟩ : BufTy).Contents (Elt F) → (⟨S_, .i32⟩ : BufTy).Contents (Elt F)) (rd (after trip1 V) main_while1b_v24) (rd (after trip1 V) main_while1b_c_17) := by
  have e := binary trip1_writes V 21 rfl (by decide +kernel) (by decide +kernel) (by decide +kernel)
  generalize after trip1 V = X at e ⊢
  exact e

theorem t1_c_18 : rd (after trip1 V) main_while1b_c_18 =
    (constantI S_ 32 2048#32) := by
  have e := nullary trip1_writes V 22 rfl (by decide +kernel)
  generalize after trip1 V = X at e ⊢
  exact e

theorem t1_call8_v0 : rd (after trip1 V) main_while1b_call8_v0 =
    (id : (⟨S_, .i32⟩ : BufTy).Contents (Elt F) → (⟨S_, .i32⟩ : BufTy).Contents (Elt F)) (rd (after trip1 V) main_while1b_c_18) := by
  have e := unary trip1_writes V 23 rfl (by decide +kernel) (by decide +kernel)
  generalize after trip1 V = X at e ⊢
  exact e

theorem t1_call8_c : rd (after trip1 V) main_while1b_call8_c =
    (constantI S_ 32 0#32) := by
  have e := nullary trip1_writes V 24 rfl (by decide +kernel)
  generalize after trip1 V = X at e ⊢
  exact e

theorem t1_call8_v1 : rd (after trip1 V) main_while1b_call8_v1 =
    ((cmpi .eq) : (⟨S_, .i32⟩ : BufTy).Contents (Elt F) → (⟨S_, .i32⟩ : BufTy).Contents (Elt F) → (⟨S_, .i1⟩ : BufTy).Contents (Elt F)) (rd (after trip1 V) main_while1b_call8_v0) (rd (after trip1 V) main_while1b_call8_c) := by
  have e := binary trip1_writes V 25 rfl (by decide +kernel) (by decide +kernel) (by decide +kernel)
  generalize after trip1 V = X at e ⊢
  exact e

theorem t1_call8_c_0 : rd (after trip1 V) main_while1b_call8_c_0 =
    (constantI S_ 32 1#32) := by
  have e := nullary trip1_writes V 26 rfl (by decide +kernel)
  generalize after trip1 V = X at e ⊢
  exact e

theorem t1_call8_v2 : rd (after trip1 V) main_while1b_call8_v2 =
    (select : (⟨S_, .i1⟩ : BufTy).Contents (Elt F) → (⟨S_, .i32⟩ : BufTy).Contents (Elt F) → (⟨S_, .i32⟩ : BufTy).Contents (Elt F) → (⟨S_, .i32⟩ : BufTy).Contents (Elt F)) (rd (after trip1 V) main_while1b_call8_v1) (rd (after trip1 V) main_while1b_call8_c_0) (rd (after trip1 V) main_while1b_call8_v0) := by
  have e := ternary trip1_writes V 27 rfl (by decide +kernel) (by decide +kernel) (by decide +kernel) (by decide +kernel)
  generalize after trip1 V = X at e ⊢
  exact e

theorem t1_call8_v3 : rd (after trip1 V) main_while1b_call8_v3 =
    (Host.remsi : (⟨S_, .i32⟩ : BufTy).Contents (Elt F) → (⟨S_, .i32⟩ : BufTy).Contents (Elt F) → (⟨S_, .i32⟩ : BufTy).Contents (Elt F)) (rd (after trip1 V) main_while1b_v35) (rd (after trip1 V) main_while1b_call8_v2) := by
  have e := binary trip1_writes V 28 rfl (by decide +kernel) (by decide +kernel) (by decide +kernel)
  generalize after trip1 V = X at e ⊢
  exact e

theorem t1_call8_c_1 : rd (after trip1 V) main_while1b_call8_c_1 =
    (constantI S_ 32 0#32) := by
  have e := nullary trip1_writes V 29 rfl (by decide +kernel)
  generalize after trip1 V = X at e ⊢
  exact e

theorem t1_call8_v4 : rd (after trip1 V) main_while1b_call8_v4 =
    ((cmpi .ne) : (⟨S_, .i32⟩ : BufTy).Contents (Elt F) → (⟨S_, .i32⟩ : BufTy).Contents (Elt F) → (⟨S_, .i1⟩ : BufTy).Contents (Elt F)) (rd (after trip1 V) main_while1b_call8_v3) (rd (after trip1 V) main_while1b_call8_c_1) := by
  have e := binary trip1_writes V 30 rfl (by decide +kernel) (by decide +kernel) (by decide +kernel)
  generalize after trip1 V = X at e ⊢
  exact e

theorem t1_call8_c_2 : rd (after trip1 V) main_while1b_call8_c_2 =
    (constantI S_ 32 0#32) := by
  have e := nullary trip1_writes V 31 rfl (by decide +kernel)
  generalize after trip1 V = X at e ⊢
  exact e

theorem t1_call8_v5 : rd (after trip1 V) main_while1b_call8_v5 =
    ((cmpi .slt) : (⟨S_, .i32⟩ : BufTy).Contents (Elt F) → (⟨S_, .i32⟩ : BufTy).Contents (Elt F) → (⟨S_, .i1⟩ : BufTy).Contents (Elt F)) (rd (after trip1 V) main_while1b_call8_v3) (rd (after trip1 V) main_while1b_call8_c_2) := by
  have e := binary trip1_writes V 32 rfl (by decide +kernel) (by decide +kernel) (by decide +kernel)
  generalize after trip1 V = X at e ⊢
  exact e

theorem t1_call8_c_3 : rd (after trip1 V) main_while1b_call8_c_3 =
    (constantI S_ 32 0#32) := by
  have e := nullary trip1_writes V 33 rfl (by decide +kernel)
  generalize after trip1 V = X at e ⊢
  exact e

theorem t1_call8_v6 : rd (after trip1 V) main_while1b_call8_v6 =
    ((cmpi .slt) : (⟨S_, .i32⟩ : BufTy).Contents (Elt F) → (⟨S_, .i32⟩ : BufTy).Contents (Elt F) → (⟨S_, .i1⟩ : BufTy).Contents (Elt F)) (rd (after trip1 V) main_while1b_call8_v2) (rd (after trip1 V) main_while1b_call8_c_3) := by
  have e := binary trip1_writes V 34 rfl (by decide +kernel) (by decide +kernel) (by decide +kernel)
  generalize after trip1 V = X at e ⊢
  exact e

theorem t1_call8_v7 : rd (after trip1 V) main_while1b_call8_v7 =
    ((cmpi .ne) : (⟨S_, .i1⟩ : BufTy).Contents (Elt F) → (⟨S_, .i1⟩ : BufTy).Contents (Elt F) → (⟨S_, .i1⟩ : BufTy).Contents (Elt F)) (rd (after trip1 V) main_while1b_call8_v5) (rd (after trip1 V) main_while1b_call8_v6) := by
  have e := binary trip1_writes V 35 rfl (by decide +kernel) (by decide +kernel) (by decide +kernel)
  generalize after trip1 V = X at e ⊢
  exact e

theorem t1_call8_v8 : rd (after trip1 V) main_while1b_call8_v8 =
    (andi : (⟨S_, .i1⟩ : BufTy).Contents (Elt F) → (⟨S_, .i1⟩ : BufTy).Contents (Elt F) → (⟨S_, .i1⟩ : BufTy).Contents (Elt F)) (rd (after trip1 V) main_while1b_call8_v7) (rd (after trip1 V) main_while1b_call8_v4) := by
  have e := binary trip1_writes V 36 rfl (by decide +kernel) (by decide +kernel) (by decide +kernel)
  generalize after trip1 V = X at e ⊢
  exact e

theorem t1_call8_v9 : rd (after trip1 V) main_while1b_call8_v9 =
    (addi : (⟨S_, .i32⟩ : BufTy).Contents (Elt F) → (⟨S_, .i32⟩ : BufTy).Contents (Elt F) → (⟨S_, .i32⟩ : BufTy).Contents (Elt F)) (rd (after trip1 V) main_while1b_call8_v3) (rd (after trip1 V) main_while1b_call8_v2) := by
  have e := binary trip1_writes V 37 rfl (by decide +kernel) (by decide +kernel) (by decide +kernel)
  generalize after trip1 V = X at e ⊢
  exact e

theorem t1_v36 : rd (after trip1 V) main_while1b_v36 =
    (select : (⟨S_, .i1⟩ : BufTy).Contents (Elt F) → (⟨S_, .i32⟩ : BufTy).Contents (Elt F) → (⟨S_, .i32⟩ : BufTy).Contents (Elt F) → (⟨S_, .i32⟩ : BufTy).Contents (Elt F)) (rd (after trip1 V) main_while1b_call8_v8) (rd (after trip1 V) main_while1b_call8_v9) (rd (after trip1 V) main_while1b_call8_v3) := by
  have e := ternary trip1_writes V 38 rfl (by decide +kernel) (by decide +kernel) (by decide +kernel) (by decide +kernel)
  generalize after trip1 V = X at e ⊢
  exact e

theorem t1_call9_c : rd (after trip1 V) main_while1b_call9_c =
    (constantI S_ 32 0#32) := by
  have e := nullary trip1_writes V 39 rfl (by decide +kernel)
  generalize after trip1 V = X at e ⊢
  exact e

theorem t1_call9_v0 : rd (after trip1 V) main_while1b_call9_v0 =
    ((cmpi .slt) : (⟨S_, .i32⟩ : BufTy).Contents (Elt F) → (⟨S_, .i32⟩ : BufTy).Contents (Elt F) → (⟨S_, .i1⟩ : BufTy).Contents (Elt F)) (rd (after trip1 V) main_while1b_v36) (rd (after trip1 V) main_while1b_call9_c) := by
  have e := binary trip1_writes V 40 rfl (by decide +kernel) (by decide +kernel) (by decide +kernel)
  generalize after trip1 V = X at e ⊢
  exact e

theorem t1_call9_c_0 : rd (after trip1 V) main_while1b_call9_c_0 =
    (constantI S_ 32 2048#32) := by
  have e := nullary trip1_writes V 41 rfl (by decide +kernel)
  generalize after trip1 V = X at e ⊢
  exact e

theorem t1_call9_v1 : rd (after trip1 V) main_while1b_call9_v1 =
    (addi : (⟨S_, .i32⟩ : BufTy).Contents (Elt F) → (⟨S_, .i32⟩ : BufTy).Contents (Elt F) → (⟨S_, .i32⟩ : BufTy).Contents (Elt F)) (rd (after trip1 V) main_while1b_v36) (rd (after trip1 V) main_while1b_call9_c_0) := by
  have e := binary trip1_writes V 42 rfl (by decide +kernel) (by decide +kernel) (by decide +kernel)
  generalize after trip1 V = X at e ⊢
  exact e

theorem t1_call9_v2 : rd (after trip1 V) main_while1b_call9_v2 =
    (select : (⟨S_, .i1⟩ : BufTy).Contents (Elt F) → (⟨S_, .i32⟩ : BufTy).Contents (Elt F) → (⟨S_, .i32⟩ : BufTy).Contents (Elt F) → (⟨S_, .i32⟩ : BufTy).Contents (Elt F)) (rd (after trip1 V) main_while1b_call9_v0) (rd (after trip1 V) main_while1b_call9_v1) (rd (after trip1 V) main_while1b_v36) := by
  have e := ternary trip1_writes V 43 rfl (by decide +kernel) (by decide +kernel) (by decide +kernel) (by decide +kernel)
  generalize after trip1 V = X at e ⊢
  exact e

theorem t1_call9_c_1 : rd (after trip1 V) main_while1b_call9_c_1 =
    (constantI S_ 32 0#32) := by
  have e := nullary trip1_writes V 44 rfl (by decide +kernel)
  generalize after trip1 V = X at e ⊢
  exact e

theorem t1_call9_c_2 : rd (after trip1 V) main_while1b_call9_c_2 =
    (constantI S_ 32 0#32) := by
  have e := nullary trip1_writes V 45 rfl (by decide +kernel)
  generalize after trip1 V = X at e ⊢
  exact e

theorem t1_call9_v3 : rd (after trip1 V) main_while1b_call9_v3 =
    ((fun x i => Host.dynamicSlice S1x8x512 x (fun k => (i k (Shape.Idx.first h_S_)).toInt) sliceFits_S2048x8x512_S1x8x512) : (⟨S2048x8x512, .f32⟩ : BufTy).Contents (Elt F) → (Fin 3 → (⟨S_, .i32⟩ : BufTy).Contents (Elt F)) → (⟨S1x8x512, .f32⟩ : BufTy).Contents (Elt F)) (rd (after trip1 V) main_v20_3) ![(rd (after trip1 V) main_while1b_call9_v2), (rd (after trip1 V) main_while1b_call9_c_1), (rd (after trip1 V) main_while1b_call9_c_2)] := by
  have e := unaryIndexed3 trip1_writes V 46 rfl (by decide +kernel) (by decide +kernel) (by decide +kernel)
  generalize after trip1 V = X at e ⊢
  exact e

theorem t1_v37 : rd (after trip1 V) main_while1b_v37 =
    (shapeCast S8x512 (rd (after trip1 V) main_while1b_call9_v3) shapeCasts_S1x8x512_S8x512 : (⟨S8x512, .f32⟩ : BufTy).Contents (Elt F)) := by
  have e := reshape trip1_writes V 47 rfl (by decide +kernel) (by decide +kernel)
  generalize after trip1 V = X at e ⊢
  exact e

theorem t1_v38 : rd (after trip1 V) main_while1b_v38 =
    (broadcastInDim S8 ![] bcast_S_S8 : (⟨S_, .i32⟩ : BufTy).Contents (Elt F) → (⟨S8, .i32⟩ : BufTy).Contents (Elt F)) (rd (after trip1 V) main_while1b_v24) := by
  have e := unary trip1_writes V 48 rfl (by decide +kernel) (by decide +kernel)
  generalize after trip1 V = X at e ⊢
  exact e

theorem t1_v39 : rd (after trip1 V) main_while1b_v39 =
    (cmpi .eq : (⟨S8, .i32⟩ : BufTy).Contents (Elt F) → (⟨S8, .i32⟩ : BufTy).Contents (Elt F) → (⟨S8, .i1⟩ : BufTy).Contents (Elt F)) (rd (after trip1 V) main_v20_6) (rd (after trip1 V) main_while1b_v38) := by
  have e := binary trip1_writes V 49 rfl (by decide +kernel) (by decide +kernel) (by decide +kernel)
  generalize after trip1 V = X at e ⊢
  exact e

theorem t1_c_19 : rd (after trip1 V) main_while1b_c_19 =
    (constantI S_ 32 0#32) := by
  have e := nullary trip1_writes V 50 rfl (by decide +kernel)
  generalize after trip1 V = X at e ⊢
  exact e

theorem t1_v40 : rd (after trip1 V) main_while1b_v40 =
    (broadcastInDim S8 ![] bcast_S_S8 : (⟨S_, .i32⟩ : BufTy).Contents (Elt F) → (⟨S8, .i32⟩ : BufTy).Contents (Elt F)) (rd (after trip1 V) main_while1b_c_19) := by
  have e := unary trip1_writes V 51 rfl (by decide +kernel) (by decide +kernel)
  generalize after trip1 V = X at e ⊢
  exact e

theorem t1_v41 : rd (after trip1 V) main_while1b_v41 =
    (cmpi .slt : (⟨S8, .i32⟩ : BufTy).Contents (Elt F) → (⟨S8, .i32⟩ : BufTy).Contents (Elt F) → (⟨S8, .i1⟩ : BufTy).Contents (Elt F)) (rd (after trip1 V) main_v20_4) (rd (after trip1 V) main_while1b_v40) := by
  have e := binary trip1_writes V 52 rfl (by decide +kernel) (by decide +kernel) (by decide +kernel)
  generalize after trip1 V = X at e ⊢
  exact e

theorem t1_c_20 : rd (after trip1 V) main_while1b_c_20 =
    (constantI S_ 32 8#32) := by
  have e := nullary trip1_writes V 53 rfl (by decide +kernel)
  generalize after trip1 V = X at e ⊢
  exact e

theorem t1_v42 : rd (after trip1 V) main_while1b_v42 =
    (broadcastInDim S8 ![] bcast_S_S8 : (⟨S_, .i32⟩ : BufTy).Contents (Elt F) → (⟨S8, .i32⟩ : BufTy).Contents (Elt F)) (rd (after trip1 V) main_while1b_c_20) := by
  have e := unary trip1_writes V 54 rfl (by decide +kernel) (by decide +kernel)
  generalize after trip1 V = X at e ⊢
  exact e

theorem t1_v43 : rd (after trip1 V) main_while1b_v43 =
    (addi : (⟨S8, .i32⟩ : BufTy).Contents (Elt F) → (⟨S8, .i32⟩ : BufTy).Contents (Elt F) → (⟨S8, .i32⟩ : BufTy).Contents (Elt F)) (rd (after trip1 V) main_v20_4) (rd (after trip1 V) main_while1b_v42) := by
  have e := binary trip1_writes V 55 rfl (by decide +kernel) (by decide +kernel) (by decide +kernel)
  generalize after trip1 V = X at e ⊢
  exact e

theorem t1_v44 : rd (after trip1 V) main_while1b_v44 =
    (select : (⟨S8, .i1⟩ : BufTy).Contents (Elt F) → (⟨S8, .i32⟩ : BufTy).Contents (Elt F) → (⟨S8, .i32⟩ : BufTy).Contents (Elt F) → (⟨S8, .i32⟩ : BufTy).Contents (Elt F)) (rd (after trip1 V) main_while1b_v41) (rd (after trip1 V) main_while1b_v43) (rd (after trip1 V) main_v20_4) := by
  have e := ternary trip1_writes V 56 rfl (by decide +kernel) (by decide +kernel) (by decide +kernel) (by decide +kernel)
  generalize after trip1 V = X at e ⊢
  exact e

theorem t1_c_21 : rd (after trip1 V) main_while1b_c_21 =
    (constantI S_ 32 0#32) := by
  have e := nullary trip1_writes V 57 rfl (by decide +kernel)
  generalize after trip1 V = X at e ⊢
  exact e

theorem t1_v45 : rd (after trip1 V) main_while1b_v45 =
    (broadcastInDim S8 ![] bcast_S_S8 : (⟨S_, .i32⟩ : BufTy).Contents (Elt F) → (⟨S8, .i32⟩ : BufTy).Contents (Elt F)) (rd (after trip1 V) main_while1b_c_21) := by
  have e := unary trip1_writes V 58 rfl (by decide +kernel) (by decide +kernel)
  generalize after trip1 V = X at e ⊢
  exact e

theorem t1_v46 : rd (after trip1 V) main_while1b_v46 =
    (cmpi .slt : (⟨S8, .i32⟩ : BufTy).Contents (Elt F) → (⟨S8, .i32⟩ : BufTy).Contents (Elt F) → (⟨S8, .i1⟩ : BufTy).Contents (Elt F)) (rd (after trip1 V) main_v20_6) (rd (after trip1 V) main_while1b_v45) := by
  have e := binary trip1_writes V 59 rfl (by decide +kernel) (by decide +kernel) (by decide +kernel)
  generalize after trip1 V = X at e ⊢
  exact e

theorem t1_c_22 : rd (after trip1 V) main_while1b_c_22 =
    (constantI S_ 32 512#32) := by
  have e := nullary trip1_writes V 60 rfl (by decide +kernel)
  generalize after trip1 V = X at e ⊢
  exact e

theorem t1_v47 : rd (after trip1 V) main_while1b_v47 =
    (broadcastInDim S8 ![] bcast_S_S8 : (⟨S_, .i32⟩ : BufTy).Contents (Elt F) → (⟨S8, .i32⟩ : BufTy).Contents (Elt F)) (rd (after trip1 V) main_while1b_c_22) := by
  have e := unary trip1_writes V 61 rfl (by decide +kernel) (by decide +kernel)
  generalize after trip1 V = X at e ⊢
  exact e

theorem t1_v48 : rd (after trip1 V) main_while1b_v48 =
    (addi : (⟨S8, .i32⟩ : BufTy).Contents (Elt F) → (⟨S8, .i32⟩ : BufTy).Contents (Elt F) → (⟨S8, .i32⟩ : BufTy).Contents (Elt F)) (rd (after trip1 V) main_v20_6) (rd (after trip1 V) main_while1b_v47) := by
  have e := binary trip1_writes V 62 rfl (by decide +kernel) (by decide +kernel) (by decide +kernel)
  generalize after trip1 V = X at e ⊢
  exact e

theorem t1_v49 : rd (after trip1 V) main_while1b_v49 =
    (select : (⟨S8, .i1⟩ : BufTy).Contents (Elt F) → (⟨S8, .i32⟩ : BufTy).Contents (Elt F) → (⟨S8, .i32⟩ : BufTy).Contents (Elt F) → (⟨S8, .i32⟩ : BufTy).Contents (Elt F)) (rd (after trip1 V) main_while1b_v46) (rd (after trip1 V) main_while1b_v48) (rd (after trip1 V) main_v20_6) := by
  have e := ternary trip1_writes V 63 rfl (by decide +kernel) (by decide +kernel) (by decide +kernel) (by decide +kernel)
  generalize after trip1 V = X at e ⊢
  exact e

theorem t1_v50 : rd (after trip1 V) main_while1b_v50 =
    (broadcastInDim S8x1 ![0] bcast_S8_S8x1_0 : (⟨S8, .i32⟩ : BufTy).Contents (Elt F) → (⟨S8x1, .i32⟩ : BufTy).Contents (Elt F)) (rd (after trip1 V) main_while1b_v44) := by
  have e := unary trip1_writes V 64 rfl (by decide +kernel) (by decide +kernel)
  generalize after trip1 V = X at e ⊢
  exact e

theorem t1_v51 : rd (after trip1 V) main_while1b_v51 =
    (broadcastInDim S8x1 ![0] bcast_S8_S8x1_0 : (⟨S8, .i32⟩ : BufTy).Contents (Elt F) → (⟨S8x1, .i32⟩ : BufTy).Contents (Elt F)) (rd (after trip1 V) main_while1b_v49) := by
  have e := unary trip1_writes V 65 rfl (by decide +kernel) (by decide +kernel)
  generalize after trip1 V = X at e ⊢
  exact e

theorem t1_v52 : rd (after trip1 V) main_while1b_v52 =
    ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)) (rd (after trip1 V) main_while1b_v50) (rd (after trip1 V) main_while1b_v51) := by
  have e := binary trip1_writes V 66 rfl (by decide +kernel) (by decide +kernel) (by decide +kernel)
  generalize after trip1 V = X at e ⊢
  exact e

theorem t1_v53 : rd (after trip1 V) main_while1b_v53 =
    ((fun x i => Host.gather gather_S8x512_S8x2_S8_n_01_n_n_01_1_11 x i) : (⟨S8x512, .f32⟩ : BufTy).Contents (Elt F) → (⟨S8x2, .i32⟩ : BufTy).Contents (Elt F) → (⟨S8, .f32⟩ : BufTy).Contents (Elt F)) (rd (after trip1 V) main_while1b_v37) (rd (after trip1 V) main_while1b_v52) := by
  have e := binary trip1_writes V 67 rfl (by decide +kernel) (by decide +kernel) (by decide +kernel)
  generalize after trip1 V = X at e ⊢
  exact e

theorem t1_c_23 : rd (after trip1 V) main_while1b_c_23 =
    (constantI S_ 32 1#32) := by
  have e := nullary trip1_writes V 68 rfl (by decide +kernel)
  generalize after trip1 V = X at e ⊢
  exact e

theorem t1_v54 : rd (after trip1 V) main_while1b_v54 =
    (broadcastInDim S8 ![] bcast_S_S8 : (⟨S_, .i32⟩ : BufTy).Contents (Elt F) → (⟨S8, .i32⟩ : BufTy).Contents (Elt F)) (rd (after trip1 V) main_while1b_c_23) := by
  have e := unary trip1_writes V 69 rfl (by decide +kernel) (by decide +kernel)
  generalize after trip1 V = X at e ⊢
  exact e

theorem t1_v55 : rd (after trip1 V) main_while1b_v55 =
    (subi : (⟨S8, .i32⟩ : BufTy).Contents (Elt F) → (⟨S8, .i32⟩ : BufTy).Contents (Elt F) → (⟨S8, .i32⟩ : BufTy).Contents (Elt F)) (rd (after trip1 V) main_v20_6) (rd (after trip1 V) main_while1b_v54) := by
  have e := binary trip1_writes V 70 rfl (by decide +kernel) (by decide +kernel) (by decide +kernel)
  generalize after trip1 V = X at e ⊢
  exact e

theorem t1_c_24 : rd (after trip1 V) main_while1b_c_24 =
    (constantI S_ 32 512#32) := by
  have e := nullary trip1_writes V 71 rfl (by decide +kernel)
  generalize after trip1 V = X at e ⊢
  exact e

theorem t1_call10_v0 : rd (after trip1 V) main_while1b_call10_v0 =
    (id : (⟨S_, .i32⟩ : BufTy).Contents (Elt F) → (⟨S_, .i32⟩ : BufTy).Contents (Elt F)) (rd (after trip1 V) main_while1b_c_24) := by
  have e := unary trip1_writes V 72 rfl (by decide +kernel) (by decide +kernel)
  generalize after trip1 V = X at e ⊢
  exact e

theorem t1_call10_c : rd (after trip1 V) main_while1b_call10_c =
    (constantI S_ 32 0#32) := by
  have e := nullary trip1_writes V 73 rfl (by decide +kernel)
  generalize after trip1 V = X at e ⊢
  exact e

theorem t1_call10_v1 : rd (after trip1 V) main_while1b_call10_v1 =
    ((cmpi .eq) : (⟨S_, .i32⟩ : BufTy).Contents (Elt F) → (⟨S_, .i32⟩ : BufTy).Contents (Elt F) → (⟨S_, .i1⟩ : BufTy).Contents (Elt F)) (rd (after trip1 V) main_while1b_call10_v0) (rd (after trip1 V) main_while1b_call10_c) := by
  have e := binary trip1_writes V 74 rfl (by decide +kernel) (by decide +kernel) (by decide +kernel)
  generalize after trip1 V = X at e ⊢
  exact e

theorem t1_call10_c_0 : rd (after trip1 V) main_while1b_call10_c_0 =
    (constantI S_ 32 1#32) := by
  have e := nullary trip1_writes V 75 rfl (by decide +kernel)
  generalize after trip1 V = X at e ⊢
  exact e

theorem t1_call10_v2 : rd (after trip1 V) main_while1b_call10_v2 =
    (select : (⟨S_, .i1⟩ : BufTy).Contents (Elt F) → (⟨S_, .i32⟩ : BufTy).Contents (Elt F) → (⟨S_, .i32⟩ : BufTy).Contents (Elt F) → (⟨S_, .i32⟩ : BufTy).Contents (Elt F)) (rd (after trip1 V) main_while1b_call10_v1) (rd (after trip1 V) main_while1b_call10_c_0) (rd (after trip1 V) main_while1b_call10_v0) := by
  have e := ternary trip1_writes V 76 rfl (by decide +kernel) (by decide +kernel) (by decide +kernel) (by decide +kernel)
  generalize after trip1 V = X at e ⊢
  exact e

theorem t1_call10_v3 : rd (after trip1 V) main_while1b_call10_v3 =
    ((broadcastInDim S8 ![] bcast_S_S8) : (⟨S_, .i32⟩ : BufTy).Contents (Elt F) → (⟨S8, .i32⟩ : BufTy).Contents (Elt F)) (rd (after trip1 V) main_while1b_call10_v2) := by
  have e := unary trip1_writes V 77 rfl (by decide +kernel) (by decide +kernel)
  generalize after trip1 V = X at e ⊢
  exact e

theorem t1_call10_v4 : rd (after trip1 V) main_while1b_call10_v4 =
    (Host.remsi : (⟨S8, .i32⟩ : BufTy).Contents (Elt F) → (⟨S8, .i32⟩ : BufTy).Contents (Elt F) → (⟨S8, .i32⟩ : BufTy).Contents (Elt F)) (rd (after trip1 V) main_while1b_v55) (rd (after trip1 V) main_while1b_call10_v3) := by
  have e := binary trip1_writes V 78 rfl (by decide +kernel) (by decide +kernel) (by decide +kernel)
  generalize after trip1 V = X at e ⊢
  exact e

theorem t1_call10_c_1 : rd (after trip1 V) main_while1b_call10_c_1 =
    (constantI S_ 32 0#32) := by
  have e := nullary trip1_writes V 79 rfl (by decide +kernel)
  generalize after trip1 V = X at e ⊢
  exact e

theorem t1_call10_v5 : rd (after trip1 V) main_while1b_call10_v5 =
    ((broadcastInDim S8 ![] bcast_S_S8) : (⟨S_, .i32⟩ : BufTy).Contents (Elt F) → (⟨S8, .i32⟩ : BufTy).Contents (Elt F)) (rd (after trip1 V) main_while1b_call10_c_1) := by
  have e := unary trip1_writes V 80 rfl (by decide +kernel) (by decide +kernel)
  generalize after trip1 V = X at e ⊢
  exact e

theorem t1_call10_v6 : rd (after trip1 V) main_while1b_call10_v6 =
    ((cmpi .ne) : (⟨S8, .i32⟩ : BufTy).Contents (Elt F) → (⟨S8, .i32⟩ : BufTy).Contents (Elt F) → (⟨S8, .i1⟩ : BufTy).Contents (Elt F)) (rd (after trip1 V) main_while1b_call10_v4) (rd (after trip1 V) main_while1b_call10_v5) := by
  have e := binary trip1_writes V 81 rfl (by decide +kernel) (by decide +kernel) (by decide +kernel)
  generalize after trip1 V = X at e ⊢
  exact e

theorem t1_call10_c_2 : rd (after trip1 V) main_while1b_call10_c_2 =
    (constantI S_ 32 0#32) := by
  have e := nullary trip1_writes V 82 rfl (by decide +kernel)
  generalize after trip1 V = X at e ⊢
  exact e

theorem t1_call10_v7 : rd (after trip1 V) main_while1b_call10_v7 =
    ((broadcastInDim S8 ![] bcast_S_S8) : (⟨S_, .i32⟩ : BufTy).Contents (Elt F) → (⟨S8, .i32⟩ : BufTy).Contents (Elt F)) (rd (after trip1 V) main_while1b_call10_c_2) := by
  have e := unary trip1_writes V 83 rfl (by decide +kernel) (by decide +kernel)
  generalize after trip1 V = X at e ⊢
  exact e

theorem t1_call10_v8 : rd (after trip1 V) main_while1b_call10_v8 =
    ((cmpi .slt) : (⟨S8, .i32⟩ : BufTy).Contents (Elt F) → (⟨S8, .i32⟩ : BufTy).Contents (Elt F) → (⟨S8, .i1⟩ : BufTy).Contents (Elt F)) (rd (after trip1 V) main_while1b_call10_v4) (rd (after trip1 V) main_while1b_call10_v7) := by
  have e := binary trip1_writes V 84 rfl (by decide +kernel) (by decide +kernel) (by decide +kernel)
  generalize after trip1 V = X at e ⊢
  exact e

theorem t1_call10_c_3 : rd (after trip1 V) main_while1b_call10_c_3 =
    (constantI S_ 32 0#32) := by
  have e := nullary trip1_writes V 85 rfl (by decide +kernel)
  generalize after trip1 V = X at e ⊢
  exact e

theorem t1_call10_v9 : rd (after trip1 V) main_while1b_call10_v9 =
    ((cmpi .slt) : (⟨S_, .i32⟩ : BufTy).Contents (Elt F) → (⟨S_, .i32⟩ : BufTy).Contents (Elt F) → (⟨S_, .i1⟩ : BufTy).Contents (Elt F)) (rd (after trip1 V) main_while1b_call10_v2) (rd (after trip1 V) main_while1b_call10_c_3) := by
  have e := binary trip1_writes V 86 rfl (by decide +kernel) (by decide +kernel) (by decide +kernel)
  generalize after trip1 V = X at e ⊢
  exact e

theorem t1_call10_v10 : rd (after trip1 V) main_while1b_call10_v10 =
    ((broadcastInDim S8 ![] bcast_S_S8) : (⟨S_, .i1⟩ : BufTy).Contents (Elt F) → (⟨S8, .i1⟩ : BufTy).Contents (Elt F)) (rd (after trip1 V) main_while1b_call10_v9) := by
  have e := unary trip1_writes V 87 rfl (by decide +kernel) (by decide +kernel)
  generalize after trip1 V = X at e ⊢
  exact e

theorem t1_call10_v11 : rd (after trip1 V) main_while1b_call10_v11 =
    ((cmpi .ne) : (⟨S8, .i1⟩ : BufTy).Contents (Elt F) → (⟨S8, .i1⟩ : BufTy).Contents (Elt F) → (⟨S8, .i1⟩ : BufTy).Contents (Elt F)) (rd (after trip1 V) main_while1b_call10_v8) (rd (after trip1 V) main_while1b_call10_v10) := by
  have e := binary trip1_writes V 88 rfl (by decide +kernel) (by decide +kernel) (by decide +kernel)
  generalize after trip1 V = X at e ⊢
  exact e

theorem t1_call10_v12 : rd (after trip1 V) main_while1b_call10_v12 =
    (andi : (⟨S8, .i1⟩ : BufTy).Contents (Elt F) → (⟨S8, .i1⟩ : BufTy).Contents (Elt F) → (⟨S8, .i1⟩ : BufTy).Contents (Elt F)) (rd (after trip1 V) main_while1b_call10_v11) (rd (after trip1 V) main_while1b_call10_v6) := by
  have e := binary trip1_writes V 89 rfl (by decide +kernel) (by decide +kernel) (by decide +kernel)
  generalize after trip1 V = X at e ⊢
  exact e

theorem t1_call10_v13 : rd (after trip1 V) main_while1b_call10_v13 =
    ((broadcastInDim S8 ![] bcast_S_S8) : (⟨S_, .i32⟩ : BufTy).Contents (Elt F) → (⟨S8, .i32⟩ : BufTy).Contents (Elt F)) (rd (after trip1 V) main_while1b_call10_v2) := by
  have e := unary trip1_writes V 90 rfl (by decide +kernel) (by decide +kernel)
  generalize after trip1 V = X at e ⊢
  exact e

theorem t1_call10_v14 : rd (after trip1 V) main_while1b_call10_v14 =
    (addi : (⟨S8, .i32⟩ : BufTy).Contents (Elt F) → (⟨S8, .i32⟩ : BufTy).Contents (Elt F) → (⟨S8, .i32⟩ : BufTy).Contents (Elt F)) (rd (after trip1 V) main_while1b_call10_v4) (rd (after trip1 V) main_while1b_call10_v13) := by
  have e := binary trip1_writes V 91 rfl (by decide +kernel) (by decide +kernel) (by decide +kernel)
  generalize after trip1 V = X at e ⊢
  exact e

theorem t1_v56 : rd (after trip1 V) main_while1b_v56 =
    (select : (⟨S8, .i1⟩ : BufTy).Contents (Elt F) → (⟨S8, .i32⟩ : BufTy).Contents (Elt F) → (⟨S8, .i32⟩ : BufTy).Contents (Elt F) → (⟨S8, .i32⟩ : BufTy).Contents (Elt F)) (rd (after trip1 V) main_while1b_call10_v12) (rd (after trip1 V) main_while1b_call10_v14) (rd (after trip1 V) main_while1b_call10_v4) := by
  have e := ternary trip1_writes V 92 rfl (by decide +kernel) (by decide +kernel) (by decide +kernel) (by decide +kernel)
  generalize after trip1 V = X at e ⊢
  exact e

theorem t1_c_25 : rd (after trip1 V) main_while1b_c_25 =
    (constantI S_ 32 0#32) := by
  have e := nullary trip1_writes V 93 rfl (by decide +kernel)
  generalize after trip1 V = X at e ⊢
  exact e

theorem t1_v57 : rd (after trip1 V) main_while1b_v57 =
    (broadcastInDim S8 ![] bcast_S_S8 : (⟨S_, .i32⟩ : BufTy).Contents (Elt F) → (⟨S8, .i32⟩ : BufTy).Contents (Elt F)) (rd (after trip1 V) main_while1b_c_25) := by
  have e := unary trip1_writes V 94 rfl (by decide +kernel) (by decide +kernel)
  generalize after trip1 V = X at e ⊢
  exact e

theorem t1_v58 : rd (after trip1 V) main_while1b_v58 =
    (cmpi .slt : (⟨S8, .i32⟩ : BufTy).Contents (Elt F) → (⟨S8, .i32⟩ : BufTy).Contents (Elt F) → (⟨S8, .i1⟩ : BufTy).Contents (Elt F)) (rd (after trip1 V) main_v20_4) (rd (after trip1 V) main_while1b_v57) := by
  have e := binary trip1_writes V 95 rfl (by decide +kernel) (by decide +kernel) (by decide +kernel)
  generalize after trip1 V = X at e ⊢
  exact e

theorem t1_c_26 : rd (after trip1 V) main_while1b_c_26 =
    (constantI S_ 32 8#32) := by
  have e := nullary trip1_writes V 96 rfl (by decide +kernel)
  generalize after trip1 V = X at e ⊢
  exact e

theorem t1_v59 : rd (after trip1 V) main_while1b_v59 =
    (broadcastInDim S8 ![] bcast_S_S8 : (⟨S_, .i32⟩ : BufTy).Contents (Elt F) → (⟨S8, .i32⟩ : BufTy).Contents (Elt F)) (rd (after trip1 V) main_while1b_c_26) := by
  have e := unary trip1_writes V 97 rfl (by decide +kernel) (by decide +kernel)
  generalize after trip1 V = X at e ⊢
  exact e

theorem t1_v60 : rd (after trip1 V) main_while1b_v60 =
    (addi : (⟨S8, .i32⟩ : BufTy).Contents (Elt F) → (⟨S8, .i32⟩ : BufTy).Contents (Elt F) → (⟨S8, .i32⟩ : BufTy).Contents (Elt F)) (rd (after trip1 V) main_v20_4) (rd (after trip1 V) main_while1b_v59) := by
  have e := binary trip1_writes V 98 rfl (by decide +kernel) (by decide +kernel) (by decide +kernel)
  generalize after trip1 V = X at e ⊢
  exact e

theorem t1_v61 : rd (after trip1 V) main_while1b_v61 =
    (select : (⟨S8, .i1⟩ : BufTy).Contents (Elt F) → (⟨S8, .i32⟩ : BufTy).Contents (Elt F) → (⟨S8, .i32⟩ : BufTy).Contents (Elt F) → (⟨S8, .i32⟩ : BufTy).Contents (Elt F)) (rd (after trip1 V) main_while1b_v58) (rd (after trip1 V) main_while1b_v60) (rd (after trip1 V) main_v20_4) := by
  have e := ternary trip1_writes V 99 rfl (by decide +kernel) (by decide +kernel) (by decide +kernel) (by decide +kernel)
  generalize after trip1 V = X at e ⊢
  exact e

theorem t1_c_27 : rd (after trip1 V) main_while1b_c_27 =
    (constantI S_ 32 0#32) := by
  have e := nullary trip1_writes V 100 rfl (by decide +kernel)
  generalize after trip1 V = X at e ⊢
  exact e

theorem t1_v62 : rd (after trip1 V) main_while1b_v62 =
    (broadcastInDim S8 ![] bcast_S_S8 : (⟨S_, .i32⟩ : BufTy).Contents (Elt F) → (⟨S8, .i32⟩ : BufTy).Contents (Elt F)) (rd (after trip1 V) main_while1b_c_27) := by
  have e := unary trip1_writes V 101 rfl (by decide +kernel) (by decide +kernel)
  generalize after trip1 V = X at e ⊢
  exact e

theorem t1_v63 : rd (after trip1 V) main_while1b_v63 =
    (cmpi .slt : (⟨S8, .i32⟩ : BufTy).Contents (Elt F) → (⟨S8, .i32⟩ : BufTy).Contents (Elt F) → (⟨S8, .i1⟩ : BufTy).Contents (Elt F)) (rd (after trip1 V) main_while1b_v56) (rd (after trip1 V) main_while1b_v62) := by
  have e := binary trip1_writes V 102 rfl (by decide +kernel) (by decide +kernel) (by decide +kernel)
  generalize after trip1 V = X at e ⊢
  exact e

theorem t1_c_28 : rd (after trip1 V) main_while1b_c_28 =
    (constantI S_ 32 512#32) := by
  have e := nullary trip1_writes V 103 rfl (by decide +kernel)
  generalize after trip1 V = X at e ⊢
  exact e

theorem t1_v64 : rd (after trip1 V) main_while1b_v64 =
    (broadcastInDim S8 ![] bcast_S_S8 : (⟨S_, .i32⟩ : BufTy).Contents (Elt F) → (⟨S8, .i32⟩ : BufTy).Contents (Elt F)) (rd (after trip1 V) main_while1b_c_28) := by
  have e := unary trip1_writes V 104 rfl (by decide +kernel) (by decide +kernel)
  generalize after trip1 V = X at e ⊢
  exact e

theorem t1_v65 : rd (after trip1 V) main_while1b_v65 =
    (addi : (⟨S8, .i32⟩ : BufTy).Contents (Elt F) → (⟨S8, .i32⟩ : BufTy).Contents (Elt F) → (⟨S8, .i32⟩ : BufTy).Contents (Elt F)) (rd (after trip1 V) main_while1b_v56) (rd (after trip1 V) main_while1b_v64) := by
  have e := binary trip1_writes V 105 rfl (by decide +kernel) (by decide +kernel) (by decide +kernel)
  generalize after trip1 V = X at e ⊢
  exact e

theorem t1_v66 : rd (after trip1 V) main_while1b_v66 =
    (select : (⟨S8, .i1⟩ : BufTy).Contents (Elt F) → (⟨S8, .i32⟩ : BufTy).Contents (Elt F) → (⟨S8, .i32⟩ : BufTy).Contents (Elt F) → (⟨S8, .i32⟩ : BufTy).Contents (Elt F)) (rd (after trip1 V) main_while1b_v63) (rd (after trip1 V) main_while1b_v65) (rd (after trip1 V) main_while1b_v56) := by
  have e := ternary trip1_writes V 106 rfl (by decide +kernel) (by decide +kernel) (by decide +kernel) (by decide +kernel)
  generalize after trip1 V = X at e ⊢
  exact e

theorem t1_v67 : rd (after trip1 V) main_while1b_v67 =
    (broadcastInDim S8x1 ![0] bcast_S8_S8x1_0 : (⟨S8, .i32⟩ : BufTy).Contents (Elt F) → (⟨S8x1, .i32⟩ : BufTy).Contents (Elt F)) (rd (after trip1 V) main_while1b_v61) := by
  have e := unary trip1_writes V 107 rfl (by decide +kernel) (by decide +kernel)
  generalize after trip1 V = X at e ⊢
  exact e

theorem t1_v68 : rd (after trip1 V) main_while1b_v68 =
    (broadcastInDim S8x1 ![0] bcast_S8_S8x1_0 : (⟨S8, .i32⟩ : BufTy).Contents (Elt F) → (⟨S8x1, .i32⟩ : BufTy).Contents (Elt F)) (rd (after trip1 V) main_while1b_v66) := by
  have e := unary trip1_writes V 108 rfl (by decide +kernel) (by decide +kernel)
  generalize after trip1 V = X at e ⊢
  exact e

theorem t1_v69 : rd (after trip1 V) main_while1b_v69 =
    ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)) (rd (after trip1 V) main_while1b_v67) (rd (after trip1 V) main_while1b_v68) := by
  have e := binary trip1_writes V 109 rfl (by decide +kernel) (by decide +kernel) (by decide +kernel)
  generalize after trip1 V = X at e ⊢
  exact e

theorem t1_v70 : rd (after trip1 V) main_while1b_v70 =
    ((fun x i => Host.gather gather_S8x512_S8x2_S8_n_01_n_n_01_1_11 x i) : (⟨S8x512, .f32⟩ : BufTy).Contents (Elt F) → (⟨S8x2, .i32⟩ : BufTy).Contents (Elt F) → (⟨S8, .f32⟩ : BufTy).Contents (Elt F)) (rd (after trip1 V) main_while1b_v37) (rd (after trip1 V) main_while1b_v69) := by
  have e := binary trip1_writes V 110 rfl (by decide +kernel) (by decide +kernel) (by decide +kernel)
  generalize after trip1 V = X at e ⊢
  exact e

theorem t1_v71 : rd (after trip1 V) main_while1b_v71 =
    (cmpf .olt : (⟨S8, .f32⟩ : BufTy).Contents (Elt F) → (⟨S8, .f32⟩ : BufTy).Contents (Elt F) → (⟨S8, .i1⟩ : BufTy).Contents (Elt F)) (rd (after trip1 V) main_while1b_v53) (rd (after trip1 V) main_while1b_v70) := by
  have e := binary trip1_writes V 111 rfl (by decide +kernel) (by decide +kernel) (by decide +kernel)
  generalize after trip1 V = X at e ⊢
  exact e

theorem t1_v72 : rd (after trip1 V) main_while1b_v72 =
    (ori : (⟨S8, .i1⟩ : BufTy).Contents (Elt F) → (⟨S8, .i1⟩ : BufTy).Contents (Elt F) → (⟨S8, .i1⟩ : BufTy).Contents (Elt F)) (rd (after trip1 V) main_while1b_v39) (rd (after trip1 V) main_while1b_v71) := by
  have e := binary trip1_writes V 112 rfl (by decide +kernel) (by decide +kernel) (by decide +kernel)
  generalize after trip1 V = X at e ⊢
  exact e

theorem t1_v73 : rd (after trip1 V) main_while1b_v73 =
    (andi : (⟨S8, .i1⟩ : BufTy).Contents (Elt F) → (⟨S8, .i1⟩ : BufTy).Contents (Elt F) → (⟨S8, .i1⟩ : BufTy).Contents (Elt F)) (rd (after trip1 V) main_while1b_v26) (rd (after trip1 V) main_while1b_v72) := by
  have e := binary trip1_writes V 113 rfl (by decide +kernel) (by decide +kernel) (by decide +kernel)
  generalize after trip1 V = X at e ⊢
  exact e

theorem t1_c_29 : rd (after trip1 V) main_while1b_c_29 =
    (constantI S_ 32 1#32) := by
  have e := nullary trip1_writes V 114 rfl (by decide +kernel)
  generalize after trip1 V = X at e ⊢
  exact e

theorem t1_v74 : rd (after trip1 V) main_while1b_v74 =
    (broadcastInDim S8 ![] bcast_S_S8 : (⟨S_, .i32⟩ : BufTy).Contents (Elt F) → (⟨S8, .i32⟩ : BufTy).Contents (Elt F)) (rd (after trip1 V) main_while1b_c_29) := by
  have e := unary trip1_writes V 115 rfl (by decide +kernel) (by decide +kernel)
  generalize after trip1 V = X at e ⊢
  exact e

theorem t1_v75 : rd (after trip1 V) main_while1b_v75 =
    (subi : (⟨S8, .i32⟩ : BufTy).Contents (Elt F) → (⟨S8, .i32⟩ : BufTy).Contents (Elt F) → (⟨S8, .i32⟩ : BufTy).Contents (Elt F)) (rd (after trip1 V) main_v20_6) (rd (after trip1 V) main_while1b_v74) := by
  have e := binary trip1_writes V 116 rfl (by decide +kernel) (by decide +kernel) (by decide +kernel)
  generalize after trip1 V = X at e ⊢
  exact e

theorem t1_c_30 : rd (after trip1 V) main_while1b_c_30 =
    (constantI S_ 32 0#32) := by
  have e := nullary trip1_writes V 117 rfl (by decide +kernel)
  generalize after trip1 V = X at e ⊢
  exact e

theorem t1_v76 : rd (after trip1 V) main_while1b_v76 =
    (broadcastInDim S8 ![] bcast_S_S8 : (⟨S_, .i32⟩ : BufTy).Contents (Elt F) → (⟨S8, .i32⟩ : BufTy).Contents (Elt F)) (rd (after trip1 V) main_while1b_c_30) := by
  have e := unary trip1_writes V 118 rfl (by decide +kernel) (by decide +kernel)
  generalize after trip1 V = X at e ⊢
  exact e

theorem t1_v77 : rd (after trip1 V) main_while1b_v77 =
    (maxsi : (⟨S8, .i32⟩ : BufTy).Contents (Elt F) → (⟨S8, .i32⟩ : BufTy).Contents (Elt F) → (⟨S8, .i32⟩ : BufTy).Contents (Elt F)) (rd (after trip1 V) main_while1b_v76) (rd (after trip1 V) main_while1b_v75) := by
  have e := binary trip1_writes V 119 rfl (by decide +kernel) (by decide +kernel) (by decide +kernel)
  generalize after trip1 V = X at e ⊢
  exact e

theorem t1_v78 : rd (after trip1 V) main_while1b_v78 =
    (select : (⟨S8, .i1⟩ : BufTy).Contents (Elt F) → (⟨S8, .i32⟩ : BufTy).Contents (Elt F) → (⟨S8, .i32⟩ : BufTy).Contents (Elt F) → (⟨S8, .i32⟩ : BufTy).Contents (Elt F)) (rd (after trip1 V) main_while1b_v73) (rd (after trip1 V) main_while1b_v77) (rd (after trip1 V) main_v20_6) := by
  have e := ternary trip1_writes V 120 rfl (by decide +kernel) (by decide +kernel) (by decide +kernel) (by decide +kernel)
  generalize after trip1 V = X at e ⊢
  exact e

theorem t1_call12_v0 : rd (after trip1 V) main_while1b_call12_v0 =
    ((broadcastInDim S1x8x512 ![1, 2] bcast_S8x512_S1x8x512_1_2) : (⟨S8x512, .f32⟩ : BufTy).Contents (Elt F) → (⟨S1x8x512, .f32⟩ : BufTy).Contents (Elt F)) (rd (after trip1 V) main_while1b_v34) := by
  have e := unary trip1_writes V 121 rfl (by decide +kernel) (by decide +kernel)
  generalize after trip1 V = X at e ⊢
  exact e

theorem t1_call12_c : rd (after trip1 V) main_while1b_call12_c =
    (constantI S_ 32 0#32) := by
  have e := nullary trip1_writes V 122 rfl (by decide +kernel)
  generalize after trip1 V = X at e ⊢
  exact e

theorem t1_call12_c_0 : rd (after trip1 V) main_while1b_call12_c_0 =
    (constantI S_ 32 0#32) := by
  have e := nullary trip1_writes V 123 rfl (by decide +kernel)
  generalize after trip1 V = X at e ⊢
  exact e

theorem t1_v79 : rd (after trip1 V) main_while1b_v79 =
    ((fun x u i => Host.dynamicUpdateSlice x u (fun k => (i k (Shape.Idx.first h_S_)).toInt) updateFits_S2048x8x512_S1x8x512) : (⟨S2048x8x512, .f32⟩ : BufTy).Contents (Elt F) → (⟨S1x8x512, .f32⟩ : BufTy).Contents (Elt F) → (Fin 3 → (⟨S_, .i32⟩ : BufTy).Contents (Elt F)) → (⟨S2048x8x512, .f32⟩ : BufTy).Contents (Elt F)) (rd (after trip1 V) main_v20_7) (rd (after trip1 V) main_while1b_call12_v0) ![(rd (after trip1 V) main_while1b_v23), (rd (after trip1 V) main_while1b_call12_c), (rd (after trip1 V) main_while1b_call12_c_0)] := by
  have e := binaryIndexed3 trip1_writes V 124 rfl (by decide +kernel) (by decide +kernel) (by decide +kernel) (by decide +kernel)
  generalize after trip1 V = X at e ⊢
  exact e

theorem t1_c_31 : rd (after trip1 V) main_while1b_c_31 =
    (constantI S_ 32 1#32) := by
  have e := nullary trip1_writes V 125 rfl (by decide +kernel)
  generalize after trip1 V = X at e ⊢
  exact e

theorem t1_v80 : rd (after trip1 V) main_while1b_v80 =
    (addi : (⟨S_, .i32⟩ : BufTy).Contents (Elt F) → (⟨S_, .i32⟩ : BufTy).Contents (Elt F) → (⟨S_, .i32⟩ : BufTy).Contents (Elt F)) (rd (after trip1 V) main_v20_5) (rd (after trip1 V) main_while1b_c_31) := by
  have e := binary trip1_writes V 126 rfl (by decide +kernel) (by decide +kernel) (by decide +kernel)
  generalize after trip1 V = X at e ⊢
  exact e

end Cert.ReferenceIdeal.Hand

end
-- ==== Proof.Value.RefBwd.lean ====
/- The reference's backward pass over the extended reals: a trip writes the one-hot column of the carried token to its
   plane of the path, and moves the token. -/
module

public import proofs.«01_k».proof.Proof.Value.RefFwd
public import proofs.«01_k».proof.Proof.ReferenceIdeal.EqsBack
public import Idealize.ShloMosaic.Lib.IdealHost

@[expose] public section

set_option maxRecDepth 16384

noncomputable section

namespace Cert.ReferenceIdeal.Hand

open Cert.ReferenceIdeal Cert.ReferenceIdeal.Gen Cert.Solve
open Cert.Model (R lo neg)
open Cert.KernelIdeal.Hand (ofNat_inj toInt_ofNat cmpi_eq_ofNat cmpi_slt_ofNat select_ofBool fill_eq coe_max)
open Idealize.ShloMosaic Idealize.ShloMosaic.TcCoe Idealize.ShloMosaic.StableHlo
open Idealize.ShloMosaic.ValueIdx

/-- The remainder with the divisor's sign, as the reference spells it. -/
def floorRem (x d : BitVec 32) : BitVec 32 :=
  Scalar.select (IntOp.andi (IntOp.cmpi .ne (IntOp.cmpi .slt (IntOp.remsi .host x d) 0#32) (IntOp.cmpi .slt d 0#32)) (IntOp.cmpi .ne (IntOp.remsi .host x d) 0#32))
    (IntOp.addi (IntOp.remsi .host x d) d) (IntOp.remsi .host x d)

/-- The divisor, as the reference spells it. -/
def divisor (d : BitVec 32) : BitVec 32 := Scalar.select (IntOp.cmpi .eq d 0#32) 1#32 d

theorem prev_row : ∀ i : Fin 2048, floorRem (IntOp.subi (BitVec.ofNat 32 i.val) 1#32) (divisor 2048#32) = BitVec.ofNat 32 ((i.val + 2047) % 2048) := by
  decide +kernel

theorem prev_tok : ∀ t : Fin 512, floorRem (IntOp.subi (BitVec.ofNat 32 t.val) 1#32) (divisor 512#32) = BitVec.ofNat 32 ((t.val + 511) % 512) := by
  decide +kernel

theorem next_tok : ∀ t : Fin 512, IntOp.maxsi 0#32 (IntOp.subi (BitVec.ofNat 32 t.val) 1#32) = BitVec.ofNat 32 (t.val - 1) := by
  decide +kernel

theorem back_row : ∀ n : Fin 2048, IntOp.subi (IntOp.subi 2048#32 (BitVec.ofNat 32 n.val)) 1#32 = BitVec.ofNat 32 (2047 - n.val) := by
  decide +kernel

/-- An index that is not negative is not wrapped. -/
theorem wrap_at {s : Shape} (x z q : IVec s 32) (y : s.Idx) {p : ℕ} (hp : p < 2 ^ 31) (hx : x y = BitVec.ofNat 32 p) (hz : z y = 0#32) :
    select (cmpi .slt x z) q x y = BitVec.ofNat 32 p := by
  show Scalar.select (IntOp.cmpi .slt (x y) (z y)) (q y) (x y) = _
  rw [hx, hz, show (0#32 : BitVec 32) = BitVec.ofNat 32 0 from rfl, cmpi_slt_ofNat hp (by omega), select_ofBool, if_neg (by omega)]

theorem olt_real (p q : ℝ) : Ideal.cmp .olt ((p : ℝ) : EReal) ((q : ℝ) : EReal) = 1#1 ↔ p < q := by
  unfold Ideal.cmp
  by_cases h : p < q <;> simp [h]

theorem move_bits : ∀ a b c : BitVec 1, IntOp.andi a (IntOp.ori b c) = 1#1 ↔ a = 1#1 ∧ (b = 1#1 ∨ c = 1#1) := by decide

theorem one_bit (p : Prop) [Decidable p] : BitVec.ofBool (decide p) = 1#1 ↔ p := by
  by_cases h : p <;> simp [h]

section Step

variable (V : Valuation τ sig (Elt Ideal)) {X : Fin 8 → ℕ → ℕ → ℝ} {n : ℕ} {tok : Fin 8 → ℕ} (hn : n < 2048) (ht : ∀ b, tok b < 512)
  (h0 : ∀ k : Fin 2048, (rd (after trip1 V) main_v20_0 : IVec S2048 32) (ix1 k) = BitVec.ofNat 32 k.val)
  (h1 : ∀ y, (rd (after trip1 V) main_v20_1 : IVec S8 32) y = 2048#32)
  (h2 : ∀ (a : Fin 1) (j : Fin 512), (rd (after trip1 V) main_v20_2 : IVec S1x512 32) (ix2 a j) = BitVec.ofNat 32 j.val)
  (h3 : ∀ (q : Fin 2048) (b : Fin 8) (j : Fin 512), (rd (after trip1 V) main_v20_3 : FVec Ideal S2048x8x512 .f32) (ix3 q b j) = ((R (X b) (q.val + 1) j.val : ℝ) : EReal))
  (h4 : ∀ b : Fin 8, (rd (after trip1 V) main_v20_4 : IVec S8 32) (ix1 b) = BitVec.ofNat 32 b.val)
  (h5 : ∀ y, (rd (after trip1 V) main_v20_5 : IVec S_ 32) y = BitVec.ofNat 32 n)
  (h6 : ∀ b : Fin 8, (rd (after trip1 V) main_v20_6 : IVec S8 32) (ix1 b) = BitVec.ofNat 32 (tok b))

include hn h5 in
theorem bwd_row (y : S_.Idx) : (rd (after trip1 V) main_while1b_v23 : IVec S_ 32) y = BitVec.ofNat 32 (2047 - n) := by
  have c13 := t1_c_13 V
  have e22 := t1_v22 V
  have c14 := t1_c_14 V
  have e23 := t1_v23 V
  generalize after trip1 V = W at *
  refine Eq.trans ?_ (back_row ⟨n, hn⟩)
  refine (congrFun e23 y).trans (congr (congrArg IntOp.subi ?_) (congrFun c14 y))
  exact (congrFun e22 y).trans (congr (congrArg IntOp.subi (congrFun c13 y)) (h5 y))

include hn h0 h5 in
theorem bwd_column_number (y : S_.Idx) : (rd (after trip1 V) main_while1b_v24 : IVec S_ 32) y = BitVec.ofNat 32 (2047 - n) := by
  have h23 := bwd_row V hn h5
  have e := t1_v24 V
  have e' := t1_call6_v0 V
  generalize after trip1 V = W at *
  have hc : ∀ z, (rd W main_while1b_call6_v0 : IVec S1 32) z = BitVec.ofNat 32 (2047 - n) := fun z =>
    (congrFun e' z).trans ((one_at _ _ _ (show 2047 - n < 2048 by omega) (by show ((rd W main_while1b_v23 : IVec S_ 32) _).toInt = _; rw [h23, toInt_ofNat (by omega)]) z).trans (h0 _))
  exact (congrFun e y).trans (hc _)

include hn h0 h1 h5 in
theorem bwd_inside (y : S8.Idx) : (rd (after trip1 V) main_while1b_v26 : IVec S8 1) y = 1#1 := by
  have h24 := bwd_column_number V hn h0 h5
  have e25 := t1_v25 V
  have e26 := t1_v26 V
  generalize after trip1 V = W at *
  refine (congrFun e26 y).trans (Eq.trans ?_ ((cmpi_slt_ofNat (m := 2047 - n) (n := 2048) (by omega) (by omega)).trans ((one_bit _).mpr (by omega))))
  exact congr (congrArg (IntOp.cmpi .slt) ((congrFun e25 y).trans (h24 _))) (h1 y)

include hn ht h0 h1 h2 h5 h6 in
/-- The column of the path. -/
theorem bwd_path (b : Fin 8) (j : Fin 512) : (rd (after trip1 V) main_while1b_v34 : FVec Ideal S8x512 .f32) (ix2 b j) = (if j.val = tok b then 1 else 0 : EReal) := by
  have h26 := bwd_inside V hn h0 h1 h5
  have e27 := t1_v27 V
  have e28 := t1_v28 V
  have e29 := t1_v29 V
  have e30 := t1_v30 V
  have e31 := t1_v31 V
  have e32 := t1_v32 V
  have e33 := t1_v33 V
  have c15 := t1_cst_15 V
  have c16 := t1_cst_16 V
  have d0 := t1_call7_v0 V
  have d1 := t1_call7_v1 V
  have e34 := t1_v34 V
  generalize after trip1 V = W at *
  have k30 : (rd W main_while1b_v30 : IVec S8x512 1) (ix2 b j) = BitVec.ofBool (decide (j.val = tok b)) := by
    refine (congrFun e30 _).trans (Eq.trans ?_ (cmpi_eq_ofNat (by omega) (by have := ht b; omega)))
    refine congr (congrArg (IntOp.cmpi .eq) ?_) ?_
    · exact (congrFun e28 _).trans ((row_at _ _ b j).trans (h2 0 j))
    · exact (congrFun e29 _).trans ((wide_at _ _ b j).trans ((congrFun e27 _).trans ((col_at _ _ b 0).trans (h6 b))))
  have k32 : (rd W main_while1b_v32 : IVec S8x512 1) (ix2 b j) = 1#1 :=
    (congrFun e32 _).trans ((wide_at _ _ b j).trans ((congrFun e31 _).trans ((col_at _ _ b 0).trans (h26 _))))
  have k33 : (rd W main_while1b_v33 : IVec S8x512 1) (ix2 b j) = BitVec.ofBool (decide (j.val = tok b)) := by
    refine (congrFun e33 _).trans ((congr (congrArg IntOp.andi k30) k32).trans ?_)
    by_cases h : j.val = tok b <;> simp [IntOp.andi, h]
  refine (congrFun e34 _).trans ?_
  show Scalar.select ((rd W main_while1b_v33 : IVec S8x512 1) _) ((rd W main_while1b_call7_v0 : FVec Ideal S8x512 .f32) _) ((rd W main_while1b_call7_v1 : FVec Ideal S8x512 .f32) _) = _
  rw [k33, select_ofBool, show (rd W main_while1b_call7_v0 : FVec Ideal S8x512 .f32) (ix2 b j) = (1 : EReal) from (congrFun d0 _).trans ((congrFun c15 _).trans Ideal.ofBits_one_f32),
    show (rd W main_while1b_call7_v1 : FVec Ideal S8x512 .f32) (ix2 b j) = (0 : EReal) from (congrFun d1 _).trans ((congrFun c16 _).trans Ideal.ofBits_zero_f32)]

include hn ht h0 h1 h2 h5 h6 in
/-- The path after the trip. -/
theorem bwd_stored (q : Fin 2048) (b : Fin 8) (j : Fin 512) : (rd (after trip1 V) main_while1b_v79 : FVec Ideal S2048x8x512 .f32) (ix3 q b j)
    = if q.val = 2047 - n then (if j.val = tok b then 1 else 0 : EReal) else (rd (after trip1 V) main_v20_7 : FVec Ideal S2048x8x512 .f32) (ix3 q b j) := by
  have k34 := bwd_path V hn ht h0 h1 h2 h5 h6 b j
  have h23 := bwd_row V hn h5
  have e0 := t1_call12_v0 V
  have c0 := t1_call12_c V
  have c1 := t1_call12_c_0 V
  have e79 := t1_v79 V
  generalize after trip1 V = W at *
  refine (congrFun e79 _).trans ((plane_set _ _ _ _ (show 2047 - n < 2048 by omega) ?_ ?_ ?_ q b j).trans ?_)
  · show ((rd W main_while1b_v23 : IVec S_ 32) _).toInt = _
    rw [h23, toInt_ofNat (by omega)]
  · show ((rd W main_while1b_call12_c : IVec S_ 32) _).toInt = 0
    rw [c0]; exact first_zero
  · show ((rd W main_while1b_call12_c_0 : IVec S_ 32) _).toInt = 0
    rw [c1]; exact first_zero
  · rw [show (rd W main_while1b_call12_v0 : FVec Ideal S1x8x512 .f32) (ix3 0 b j) = _ from (congrFun e0 _).trans ((lift_at _ _ 0 b j).trans k34)]

include hn h0 h3 h5 in
/-- The scores before the column. -/
theorem bwd_before (h : n < 2047) (b : Fin 8) (j : Fin 512) : (rd (after trip1 V) main_while1b_v37 : FVec Ideal S8x512 .f32) (ix2 b j) = ((R (X b) (2047 - n) j.val : ℝ) : EReal) := by
  have h24 := bwd_column_number V hn h0 h5
  have c17 := t1_c_17 V
  have e35 := t1_v35 V
  have c18 := t1_c_18 V
  have d0 := t1_call8_v0 V
  have d01 := t1_call8_c V
  have d1 := t1_call8_v1 V
  have d10 := t1_call8_c_0 V
  have d2 := t1_call8_v2 V
  have d3 := t1_call8_v3 V
  have d31 := t1_call8_c_1 V
  have d4 := t1_call8_v4 V
  have d42 := t1_call8_c_2 V
  have d5 := t1_call8_v5 V
  have d53 := t1_call8_c_3 V
  have d6 := t1_call8_v6 V
  have d7 := t1_call8_v7 V
  have d8 := t1_call8_v8 V
  have d9 := t1_call8_v9 V
  have e36 := t1_v36 V
  have f0 := t1_call9_c V
  have f1 := t1_call9_v0 V
  have f2 := t1_call9_v2 V
  have f3 := t1_call9_c_1 V
  have f4 := t1_call9_c_2 V
  have f5 := t1_call9_v3 V
  have e37 := t1_v37 V
  generalize after trip1 V = W at *
  have k36 : ∀ y, (rd W main_while1b_v36 : IVec S_ 32) y = BitVec.ofNat 32 (2046 - n) := fun y => by
    rw [e36, d8, d9, d7, d6, d5, d4, d3, d53, d42, d31, d2, d1, d10, d0, d01, c18, e35, c17]
    show floorRem (IntOp.subi ((rd W main_while1b_v24 : IVec S_ 32) y) 1#32) (divisor 2048#32) = _
    rw [h24]
    refine (prev_row ⟨2047 - n, by omega⟩).trans (congrArg (BitVec.ofNat 32) ?_)
    show (2047 - n + 2047) % 2048 = 2046 - n
    omega
  have k92 : ∀ y, (rd W main_while1b_call9_v2 : IVec S_ 32) y = BitVec.ofNat 32 (2046 - n) := fun y => by
    rw [f2, f1]
    exact wrap_at _ _ _ y (by omega) (k36 y) (congrFun f0 y)
  have k93 : (rd W main_while1b_call9_v3 : FVec Ideal S1x8x512 .f32) (ix3 0 b j) = ((R (X b) (2047 - n) j.val : ℝ) : EReal) := by
    refine (congrFun f5 _).trans ((plane_at _ _ _ (show 2046 - n < 2048 by omega) ?_ ?_ ?_ 0 b j).trans ((h3 _ b j).trans ?_))
    · show ((rd W main_while1b_call9_v2 : IVec S_ 32) _).toInt = _
      rw [k92, toInt_ofNat (by omega)]
    · show ((rd W main_while1b_call9_c_1 : IVec S_ 32) _).toInt = 0
      rw [f3]; exact first_zero
    · show ((rd W main_while1b_call9_c_2 : IVec S_ 32) _).toInt = 0
      rw [f4]; exact first_zero
    · rw [show 2046 - n + 1 = 2047 - n by omega]
  exact (congrFun e37 _).trans ((shapeCast_1ab_ab_apply _ _ b j).trans k93)

include ht h4 h6 in
/-- The element of the column before that the first gather takes. -/
theorem bwd_stay (b : Fin 8) : (rd (after trip1 V) main_while1b_v53 : FVec Ideal S8 .f32) (ix1 b)
    = (rd (after trip1 V) main_while1b_v37 : FVec Ideal S8x512 .f32) (ix2 b ⟨tok b, ht b⟩) := by
  have c19 := t1_c_19 V
  have e40 := t1_v40 V
  have e41 := t1_v41 V
  have e44 := t1_v44 V
  have c21 := t1_c_21 V
  have e45 := t1_v45 V
  have e46 := t1_v46 V
  have e49 := t1_v49 V
  have e50 := t1_v50 V
  have e51 := t1_v51 V
  have e52 := t1_v52 V
  have e53 := t1_v53 V
  generalize after trip1 V = W at *
  have k44 : (rd W main_while1b_v44 : IVec S8 32) (ix1 b) = BitVec.ofNat 32 b.val := by
    rw [e44, e41]
    exact wrap_at _ _ _ _ (by omega) (h4 b) ((congrFun e40 _).trans (congrFun c19 _))
  have k49 : (rd W main_while1b_v49 : IVec S8 32) (ix1 b) = BitVec.ofNat 32 (tok b) := by
    rw [e49, e46]
    exact wrap_at _ _ _ _ (by have := ht b; omega) (h6 b) ((congrFun e45 _).trans (congrFun c21 _))
  refine (congrFun e53 _).trans (picked_at _ _ b b.isLt (ht b) ?_ ?_)
  · refine (congrArg BitVec.toInt ((congrFun e52 _).trans ((pair_at _ _ _ b).1.trans ((congrFun e50 _).trans ((col_at _ _ b 0).trans k44))))).trans (toInt_ofNat (by omega))
  · refine (congrArg BitVec.toInt ((congrFun e52 _).trans ((pair_at _ _ _ b).2.trans ((congrFun e51 _).trans ((col_at _ _ b 0).trans k49))))).trans (toInt_ofNat (by have := ht b; omega))

include ht h4 h6 in
/-- The element of the column before that the second gather takes. -/
theorem bwd_drop (b : Fin 8) : (rd (after trip1 V) main_while1b_v70 : FVec Ideal S8 .f32) (ix1 b)
    = (rd (after trip1 V) main_while1b_v37 : FVec Ideal S8x512 .f32) (ix2 b ⟨(tok b + 511) % 512, Nat.mod_lt _ (by decide)⟩) := by
  have c23 := t1_c_23 V
  have e54 := t1_v54 V
  have e55 := t1_v55 V
  have c24 := t1_c_24 V
  have d0 := t1_call10_v0 V
  have d01 := t1_call10_c V
  have d1 := t1_call10_v1 V
  have d10 := t1_call10_c_0 V
  have d2 := t1_call10_v2 V
  have d3 := t1_call10_v3 V
  have d4 := t1_call10_v4 V
  have d41 := t1_call10_c_1 V
  have d5 := t1_call10_v5 V
  have d6 := t1_call10_v6 V
  have d62 := t1_call10_c_2 V
  have d7 := t1_call10_v7 V
  have d8 := t1_call10_v8 V
  have d83 := t1_call10_c_3 V
  have d9 := t1_call10_v9 V
  have dA := t1_call10_v10 V
  have dB := t1_call10_v11 V
  have dC := t1_call10_v12 V
  have dD := t1_call10_v13 V
  have dE := t1_call10_v14 V
  have e56 := t1_v56 V
  have c25 := t1_c_25 V
  have e57 := t1_v57 V
  have e58 := t1_v58 V
  have e61 := t1_v61 V
  have c27 := t1_c_27 V
  have e62 := t1_v62 V
  have e63 := t1_v63 V
  have e66 := t1_v66 V
  have e67 := t1_v67 V
  have e68 := t1_v68 V
  have e69 := t1_v69 V
  have e70 := t1_v70 V
  generalize after trip1 V = W at *
  have k56 : (rd W main_while1b_v56 : IVec S8 32) (ix1 b) = BitVec.ofNat 32 ((tok b + 511) % 512) := by
    rw [e56, dC, dE, dB, d6, d8, dA, d9, dD, d5, d7, d4, d3, d41, d62, d83, d2, d1, d10, d0, d01, c24, e55, e54, c23]
    show floorRem (IntOp.subi ((rd W main_v20_6 : IVec S8 32) (ix1 b)) 1#32) (divisor 512#32) = _
    rw [h6]
    exact prev_tok ⟨tok b, ht b⟩
  have k61 : (rd W main_while1b_v61 : IVec S8 32) (ix1 b) = BitVec.ofNat 32 b.val := by
    rw [e61, e58]
    exact wrap_at _ _ _ _ (by omega) (h4 b) ((congrFun e57 _).trans (congrFun c25 _))
  have k66 : (rd W main_while1b_v66 : IVec S8 32) (ix1 b) = BitVec.ofNat 32 ((tok b + 511) % 512) := by
    rw [e66, e63]
    exact wrap_at _ _ _ _ (by omega) k56 ((congrFun e62 _).trans (congrFun c27 _))
  refine (congrFun e70 _).trans (picked_at _ _ b b.isLt (Nat.mod_lt _ (by decide)) ?_ ?_)
  · refine (congrArg BitVec.toInt ((congrFun e69 _).trans ((pair_at _ _ _ b).1.trans ((congrFun e67 _).trans ((col_at _ _ b 0).trans k61))))).trans (toInt_ofNat (by omega))
  · refine (congrArg BitVec.toInt ((congrFun e69 _).trans ((pair_at _ _ _ b).2.trans ((congrFun e68 _).trans ((col_at _ _ b 0).trans k66))))).trans (toInt_ofNat (by omega))

open Classical in
include hn ht h0 h1 h3 h4 h5 h6 in
/-- The token after the trip. -/
theorem bwd_token (h : n < 2047) (b : Fin 8) : (rd (after trip1 V) main_while1b_v78 : IVec S8 32) (ix1 b)
    = BitVec.ofNat 32 (if tok b = 2047 - n ∨ R (X b) (2047 - n) (tok b) < R (X b) (2047 - n) ((tok b + 511) % 512) then tok b - 1 else tok b) := by
  have h24 := bwd_column_number V hn h0 h5
  have h26 := bwd_inside V hn h0 h1 h5
  have k37 := bwd_before V hn h0 h3 h5 h b
  have k53 := bwd_stay V ht h4 h6 b
  have k70 := bwd_drop V ht h4 h6 b
  have e38 := t1_v38 V
  have e39 := t1_v39 V
  have e71 := t1_v71 V
  have e72 := t1_v72 V
  have e73 := t1_v73 V
  have c29 := t1_c_29 V
  have e74 := t1_v74 V
  have e75 := t1_v75 V
  have c30 := t1_c_30 V
  have e76 := t1_v76 V
  have e77 := t1_v77 V
  have e78 := t1_v78 V
  generalize after trip1 V = W at *
  have k39 : (rd W main_while1b_v39 : IVec S8 1) (ix1 b) = 1#1 ↔ tok b = 2047 - n := by
    have k : (rd W main_while1b_v39 : IVec S8 1) (ix1 b) = BitVec.ofBool (decide (tok b = 2047 - n)) := by
      refine (congrFun e39 _).trans (Eq.trans ?_ (cmpi_eq_ofNat (m := tok b) (n := 2047 - n) (by have := ht b; omega) (by omega)))
      exact congr (congrArg (IntOp.cmpi .eq) (h6 b)) ((congrFun e38 _).trans (h24 _))
    rw [k]
    exact one_bit _
  have k71 : (rd W main_while1b_v71 : IVec S8 1) (ix1 b) = 1#1 ↔ R (X b) (2047 - n) (tok b) < R (X b) (2047 - n) ((tok b + 511) % 512) := by
    rw [show (rd W main_while1b_v71 : IVec S8 1) (ix1 b) = Ideal.cmp .olt _ _ from
      (congrFun e71 _).trans (congr (congrArg (Ideal.cmp .olt) (k53.trans (k37 _))) (k70.trans (k37 _)))]
    exact olt_real _ _
  have k73 : (rd W main_while1b_v73 : IVec S8 1) (ix1 b) = 1#1 ↔ tok b = 2047 - n ∨ R (X b) (2047 - n) (tok b) < R (X b) (2047 - n) ((tok b + 511) % 512) := by
    rw [e73, e72]
    refine (move_bits _ _ _).trans ?_
    rw [← k39, ← k71]
    exact ⟨fun q => q.2, fun q => ⟨h26 _, q⟩⟩
  have k77 : (rd W main_while1b_v77 : IVec S8 32) (ix1 b) = BitVec.ofNat 32 (tok b - 1) := by
    rw [e77, e76, e75, e74, c30, c29]
    show IntOp.maxsi 0#32 (IntOp.subi ((rd W main_v20_6 : IVec S8 32) (ix1 b)) 1#32) = _
    rw [h6]
    exact next_tok ⟨tok b, ht b⟩
  refine (congrFun e78 _).trans ?_
  show Scalar.select ((rd W main_while1b_v73 : IVec S8 1) _) ((rd W main_while1b_v77 : IVec S8 32) _) ((rd W main_v20_6 : IVec S8 32) _) = _
  rw [k77, h6]
  unfold Scalar.select
  by_cases hq : tok b = 2047 - n ∨ R (X b) (2047 - n) (tok b) < R (X b) (2047 - n) ((tok b + 511) % 512)
  · rw [if_pos hq]
    exact if_pos (k73.mpr hq)
  · rw [if_neg hq]
    exact if_neg (fun w => hq (k73.mp w))

end Step

end Cert.ReferenceIdeal.Hand
-- ==== Proof.Value.RefWhole.lean ====
/- The reference's result over the extended reals: at batch `b`, token `l` and column `i`, one if `l` is the token of that
   column and zero if not. -/
module

public import proofs.«01_k».proof.Proof.Value.RefEntry
public import proofs.«01_k».proof.Proof.Value.RefBwd

@[expose] public section

set_option maxRecDepth 16384

noncomputable section

namespace Cert.ReferenceIdeal.Hand

open Cert.ReferenceIdeal Cert.ReferenceIdeal.Gen Cert.Solve
open Cert.Model (R TR TR_eq lo neg)
open Idealize.ShloMosaic Idealize.ShloMosaic.TcCoe Idealize.ShloMosaic.StableHlo
open Idealize.ShloMosaic.ValueIdx

theorem out_eq (V : Valuation τ sig (Elt Ideal)) : rd (after hostOps0_2 V) main_v21 =
    (transpose S8x512x2048 [1, 2, 0] · transposes_S2048x8x512_S8x512x2048_1_2_0) (rd (after hostOps0_2 V) main_v20_7) := by
  have e := unary hostOps0_2_writes V 0 rfl (by decide +kernel) (by decide +kernel)
  generalize after hostOps0_2 V = W at e ⊢
  exact e

variable (m : (ℓ : Loc nD τ sig) → Buf (Elt Ideal) ℓ) (c : Dev nD) {X : Fin 8 → ℕ → ℕ → ℝ}
  (hX : ∀ b j i, -4096 ≤ X b j i)
  (hA : ∀ (b : Fin 8) (l : Fin 512) (i : Fin 2048), (m ((c : Thread nD τ).loc main_arg0) : FVec Ideal S8x512x2048 .f32) (ix3 b l i) = ((X b l.val i.val : ℝ) : EReal))
  (hM : ∀ y, (m ((c : Thread nD τ).loc main_arg1) : FVec Ideal S8x512x2048 .f32) y = (1 : EReal))

/-- A buffer that neither the forward loop nor the operations after it write has at the second loop's entry what it had at the first's. -/
theorem entry1_keep {r : Ref sig .tc} (g : r ∉ hostOps0_1_W) (h : r ∉ trip0_W) (h' : r ∉ [main_while0c_c_13, main_while0c_v22]) (h'' : r ∉ back0_W) :
    rd (entry1 m c) r = rd (entry0 m c) r :=
  (keep hostOps0_1_writes _ g).trans ((keep cond0_writes _ h').trans (at0_keep m c h h' h'' 2048))

theorem mid1_entry {k : ℕ} {r : Ref sig .tc} (h : r ∉ trip1_W) (h' : r ∉ [main_while1c_c_13, main_while1c_v22]) (h'' : r ∉ back1_W) :
    rd (mid1 m k c) r = rd (entry1 m c) r := (mid1_keep m k c h h').trans (at1_keep m c h h' h'' k)

theorem entry1_eq : entry1 m c = after hostOps0_1 (after cond0 (at0 m 2048 c)) := rfl
theorem mid1_eq (k : ℕ) : mid1 m k c = after trip1 (after cond1 (at1 m k c)) := rfl

include hM in
theorem start1_rows (k : Fin 2048) : (rd (entry1 m c) main_v20_0 : IVec S2048 32) (ix1 k) = BitVec.ofNat 32 k.val := by
  rw [entry1_eq]
  exact (congrFun (h1_v20_0 _) _).trans ((congrFun (h1_v18 _) _).trans rfl)

include hM in
theorem start1_columns (y : S8.Idx) : (rd (entry1 m c) main_v20_1 : IVec S8 32) y = 2048#32 := by
  have g := entry1_keep m c (r := main_v8) (by decide +kernel) (by decide +kernel) (by decide +kernel) (by decide +kernel)
  have hone := start_ones m c hM
  rw [entry0_eq] at g hone
  refine Eq.trans ?_ ((congrFun g y).trans (entry_columns _ hone y))
  rw [entry1_eq]
  exact congrFun (h1_v20_1 _) y

theorem start1_lanes (a : Fin 1) (j : Fin 512) : (rd (entry1 m c) main_v20_2 : IVec S1x512 32) (ix2 a j) = BitVec.ofNat 32 j.val := by
  have g := entry1_keep m c (r := main_v11) (by decide +kernel) (by decide +kernel) (by decide +kernel) (by decide +kernel)
  rw [entry0_eq] at g
  refine Eq.trans ?_ ((congrFun g _).trans (entry_lanes _ a j))
  rw [entry1_eq]
  exact congrFun (h1_v20_2 _) _

include hA hM in
theorem start1_scores (q : Fin 2048) (b : Fin 8) (j : Fin 512) : (rd (entry1 m c) main_v20_3 : FVec Ideal S2048x8x512 .f32) (ix3 q b j) = ((R (X b) (q.val + 1) j.val : ℝ) : EReal) := by
  have g : rd (entry1 m c) main_v15_7 = rd (at0 m 2048 c) main_v15_7 := (keep hostOps0_1_writes _ (by decide +kernel)).trans (keep cond0_writes _ (by decide +kernel))
  refine Eq.trans ?_ ((congrFun g _).trans ((fwd_carried m c hA hM 2048 (le_refl _)).2 q b j q.isLt))
  rw [entry1_eq]
  exact congrFun (h1_v20_3 _) _

theorem start1_batches (b : Fin 8) : (rd (entry1 m c) main_v20_4 : IVec S8 32) (ix1 b) = BitVec.ofNat 32 b.val := by
  have g := entry1_keep m c (r := main_v9) (by decide +kernel) (by decide +kernel) (by decide +kernel) (by decide +kernel)
  rw [entry0_eq] at g
  refine Eq.trans ?_ ((congrFun g _).trans ((congrFun (h0_v9 _) (ix1 b)).trans (show iotaInDim S8 32 0 (ix1 b) = _ from rfl)))
  rw [entry1_eq]
  exact congrFun (h1_v20_4 _) _

include hM in
theorem start1_token (y : S8.Idx) : (rd (entry1 m c) main_v20_6 : IVec S8 32) y = BitVec.ofNat 32 511 := by
  have g := entry1_keep m c (r := main_v4) (by decide +kernel) (by decide +kernel) (by decide +kernel) (by decide +kernel)
  have hone := start_ones m c hM
  rw [entry0_eq] at g hone
  have k4 : (rd (entry1 m c) main_v4 : IVec S8 32) y = 512#32 := (congrFun g y).trans (entry_tokens _ hone y)
  rw [entry1_eq] at k4 ⊢
  refine (congrFun (h1_v20_6 _) y).trans ((congrFun (h1_v17 _) y).trans ((congr (congrArg IntOp.subi k4) ((congrFun (h1_v16 _) y).trans (congrFun (h1_c_3 _) _))).trans ?_))
  show IntOp.subi 512#32 1#32 = BitVec.ofNat 32 511
  decide

include hX hA hM in
/-- The carried buffers before the `k`-th column from the last: the token, and the path's columns from there on. -/
theorem bwd_carried : ∀ k : ℕ, k ≤ 2048 →
    (k < 2048 → ∀ b : Fin 8, (rd (at1 m k c) main_v20_6 : IVec S8 32) (ix1 b) = BitVec.ofNat 32 (TR (X b) k))
    ∧ ∀ (q : Fin 2048) (b : Fin 8) (j : Fin 512), 2048 ≤ q.val + k →
      (rd (at1 m k c) main_v20_7 : FVec Ideal S2048x8x512 .f32) (ix3 q b j) = (if j.val = TR (X b) (2047 - q.val) then 1 else 0 : EReal)
  | 0, _ => ⟨fun _ b => (congrFun (show rd (at1 m 0 c) main_v20_6 = rd (entry1 m c) main_v20_6 from rfl) _).trans (start1_token m c hM _),
      fun q b j h => absurd h (by have := q.isLt; omega)⟩
  | k + 1, hk => by
    obtain ⟨ih, ih'⟩ := bwd_carried k (by omega)
    have ht : ∀ b : Fin 8, TR (X b) k < 512 := fun b => by
      have := TR_eq (hX b) k (by omega)
      rw [this.1]
      exact this.2.2.2
    have hkeep := fun (r : Ref sig .tc) h h' h'' => mid1_entry m c (k := k) (r := r) h h' h''
    have g0 := hkeep main_v20_0 (by decide +kernel) (by decide +kernel) (by decide +kernel)
    have g1 := hkeep main_v20_1 (by decide +kernel) (by decide +kernel) (by decide +kernel)
    have g2 := hkeep main_v20_2 (by decide +kernel) (by decide +kernel) (by decide +kernel)
    have g3 := hkeep main_v20_3 (by decide +kernel) (by decide +kernel) (by decide +kernel)
    have g4 := hkeep main_v20_4 (by decide +kernel) (by decide +kernel) (by decide +kernel)
    have g5 := (mid1_keep m k c (r := main_v20_5) (by decide +kernel) (by decide +kernel)).trans (at1_counter m c k)
    have g6 := mid1_keep m k c (r := main_v20_6) (by decide +kernel) (by decide +kernel)
    have g7 := mid1_keep m k c (r := main_v20_7) (by decide +kernel) (by decide +kernel)
    rw [mid1_eq] at g0 g1 g2 g3 g4 g5 g6 g7
    have f0 : ∀ q : Fin 2048, (rd (after trip1 (after cond1 (at1 m k c))) main_v20_0 : IVec S2048 32) (ix1 q) = BitVec.ofNat 32 q.val := fun q =>
      (congrFun g0 _).trans (start1_rows m c hM q)
    have f1 : ∀ y, (rd (after trip1 (after cond1 (at1 m k c))) main_v20_1 : IVec S8 32) y = 2048#32 := fun y => (congrFun g1 _).trans (start1_columns m c hM y)
    have f2 : ∀ (a : Fin 1) (j : Fin 512), (rd (after trip1 (after cond1 (at1 m k c))) main_v20_2 : IVec S1x512 32) (ix2 a j) = BitVec.ofNat 32 j.val := fun a j =>
      (congrFun g2 _).trans (start1_lanes m c a j)
    have f3 : ∀ (q : Fin 2048) (b : Fin 8) (j : Fin 512), (rd (after trip1 (after cond1 (at1 m k c))) main_v20_3 : FVec Ideal S2048x8x512 .f32) (ix3 q b j) = ((R (X b) (q.val + 1) j.val : ℝ) : EReal) := fun q b j =>
      (congrFun g3 _).trans (start1_scores m c hA hM q b j)
    have f4 : ∀ b : Fin 8, (rd (after trip1 (after cond1 (at1 m k c))) main_v20_4 : IVec S8 32) (ix1 b) = BitVec.ofNat 32 b.val := fun b =>
      (congrFun g4 _).trans (start1_batches m c b)
    have f5 : ∀ y, (rd (after trip1 (after cond1 (at1 m k c))) main_v20_5 : IVec S_ 32) y = BitVec.ofNat 32 k := fun y => (congrFun g5 y).trans (iv_count k)
    have f6 : ∀ b : Fin 8, (rd (after trip1 (after cond1 (at1 m k c))) main_v20_6 : IVec S8 32) (ix1 b) = BitVec.ofNat 32 (TR (X b) k) := fun b =>
      (congrFun g6 _).trans (ih (by omega) b)
    refine ⟨fun hk' b => ?_, fun q b j hq => ?_⟩
    · rw [at1_tok, mid1_eq]
      exact bwd_token _ (tok := fun b => TR (X b) k) (by omega) ht f0 f1 f3 f4 f5 f6 (by omega) b
    · rw [at1_cols, mid1_eq]
      refine (bwd_stored _ (tok := fun b => TR (X b) k) (by omega) ht f0 f1 f2 f5 f6 q b j).trans ?_
      by_cases h : q.val = 2047 - k
      · rw [if_pos h, show 2047 - q.val = k by omega]
      · rw [if_neg h]
        exact (congrFun g7 _).trans (ih' q b j (by omega))

theorem last_eq : last m c = after hostOps0_2 (after cond1 (at1 m 2048 c)) := rfl

include hX hA hM in
/-- The reference's result at an index. -/
theorem result_is (b : Fin 8) (l : Fin 512) (i : Fin 2048) :
    (rd (last m c) main_v21 : FVec Ideal S8x512x2048 .f32) (ix3 b l i) = (if l.val = Cert.Model.T (X b) (2047 - i.val) then 1 else 0 : EReal) := by
  have g : rd (last m c) main_v20_7 = rd (at1 m 2048 c) main_v20_7 := (keep hostOps0_2_writes _ (by decide +kernel)).trans (keep cond1_writes _ (by decide +kernel))
  rw [← (TR_eq (hX b) (2047 - i.val) (by omega)).1, last_eq]
  rw [last_eq] at g
  refine (congrFun (out_eq _) _).trans ((transpose_apply _ _ _ _ (ix3 i b l) ?_).trans ((congrFun g _).trans ((bwd_carried m c hX hA hM 2048 (le_refl _)).2 i b l (by omega))))
  intro a
  fin_cases a <;> rfl

end Cert.ReferenceIdeal.Hand
-- ==== Proof.Value.Admissible.lean ====
/- What the precondition says of the two arguments over the extended reals: the mask is one everywhere, and the
   log-probabilities are real numbers of size at most 4096. -/
module

public import proofs.«01_k».proof.Pre_admissible
public import Idealize.ShloMosaic.Lib.ReduceAll
public import Idealize.ShloMosaic.Lib.IdealHost

@[expose] public section

set_option maxRecDepth 16384

noncomputable section

namespace Cert.Pre_admissible

open Idealize.ShloMosaic

variable [Facts]

theorem bound_real : (Scalar.ofBits .f32 0x45800000#32 : Ideal .f32) = ((4096 : ℝ) : EReal) := by
  show Ideal.ofBits .f32 0x45800000#32 = _
  simp [Ideal.ofBits, Ideal.ieee, -EReal.coe_mul]
  norm_num

theorem both_bits : ∀ a b : BitVec 1, IntOp.andi a b = 1#1 → a = 1#1 ∧ b = 1#1 := by decide

/-- A number whose absolute value is at most 4096 is a real number of that size. -/
theorem real_of_bound {x : EReal} (h : max x (-x) ≤ ((4096 : ℝ) : EReal)) : x = ((x.toReal : ℝ) : EReal) ∧ |x.toReal| ≤ 4096 := by
  have h1 : x ≤ ((4096 : ℝ) : EReal) := le_trans (le_max_left _ _) h
  have h2 : -x ≤ ((4096 : ℝ) : EReal) := le_trans (le_max_right _ _) h
  induction x with
  | bot => simp at h2
  | top => simp at h1
  | coe r =>
    refine ⟨rfl, ?_⟩
    rw [EReal.toReal_coe]
    have g1 : r ≤ 4096 := EReal.coe_le_coe_iff.mp h1
    have g2 : -r ≤ 4096 := EReal.coe_le_coe_iff.mp (by rw [EReal.coe_neg]; exact h2)
    exact abs_le.mpr ⟨by linarith, g1⟩

/-- The precondition, read at an index. -/
theorem fn_is (a b : FVec Ideal S8x512x2048 .f32) (h : fn (F := Ideal) a b = fun _ => 1#1) (y : S8x512x2048.Idx) :
    b y = (1 : EReal) ∧ a y = (((a y : EReal).toReal : ℝ) : EReal) ∧ |(a y : EReal).toReal| ≤ 4096 := by
  have hs : Subsingleton S_.Idx := ⟨fun p q => funext fun k => k.elim0⟩
  have z : S_.Idx := fun k => k.elim0
  obtain ⟨h1, h2⟩ := both_bits _ _ (congrFun h z)
  have k1 := Host.reduce_andi_all _ _ _ _ z h1 y
  have k2 := Host.reduce_andi_all _ _ _ _ z h2 y
  refine ⟨?_, real_of_bound ?_⟩
  · have k : BitVec.ofBool (decide ((b y : EReal) = Ideal.ofBits .f32 0x3F800000#32)) = 1#1 := k1
    rw [Ideal.ofBits_one_f32] at k
    by_cases q : (b y : EReal) = 1
    · exact q
    · simp [q] at k
  · have k : BitVec.ofBool (decide (max (a y : EReal) (-(a y : EReal)) ≤ (Scalar.ofBits .f32 0x45800000#32 : Ideal .f32))) = 1#1 := k2
    rw [bound_real] at k
    by_cases q : max (a y : EReal) (-(a y : EReal)) ≤ ((4096 : ℝ) : EReal)
    · exact q
    · simp only [q, decide_false] at k
      exact absurd k (by decide)

end Cert.Pre_admissible
-- ==== Proof.Value.Agree.lean ====
/- The two results over the extended reals are equal where the precondition holds. -/
module

public import proofs.«01_k».proof.Proof.Value.Whole
public import proofs.«01_k».proof.Proof.Value.RefWhole
public import proofs.«01_k».proof.Proof.Value.Admissible

@[expose] public section

set_option maxRecDepth 16384

noncomputable section

namespace Cert.Value

open Idealize.ShloMosaic hiding ix3 eq_ix3
open Idealize.ShloMosaic.TcCoe
open Idealize.ShloMosaic.ValueIdx (ix3 eq_ix3)

/-- The log-probabilities of an array as real numbers by batch, token and column; zero outside the array. -/
def reals (a : FVec Ideal ⟨3, ![8, 512, 2048]⟩ .f32) (b : Fin 8) (j i : ℕ) : ℝ :=
  if h : j < 512 ∧ i < 2048 then (a (ix3 b ⟨j, h.1⟩ ⟨i, h.2⟩) : EReal).toReal else 0

section
variable (a : FVec Ideal ⟨3, ![8, 512, 2048]⟩ .f32) (ha : ∀ y, a y = (((a y : EReal).toReal : ℝ) : EReal) ∧ |(a y : EReal).toReal| ≤ 4096)
include ha

theorem reals_le (b : Fin 8) (j i : ℕ) : |reals a b j i| ≤ 4096 := by
  unfold reals
  split
  · exact (ha _).2
  · simp

theorem reals_at (b : Fin 8) (l : Fin 512) (i : Fin 2048) : a (ix3 b l i) = ((reals a b l.val i.val : ℝ) : EReal) := by
  unfold reals
  rw [dif_pos ⟨l.isLt, i.isLt⟩]
  exact (ha _).1

end

theorem agree [Cert.Pre_admissible.Facts]
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hp : Cert.Pre_admissible.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    (Cert.Solve.rd (Cert.ReferenceIdeal.Hand.last m' c) Cert.ReferenceIdeal.main_v21 : FVec Ideal ⟨3, ![8, 512, 2048]⟩ .f32)
      = (Cert.KernelIdeal.Hand.dat1 (F := Ideal) (Cert.KernelIdeal.Hand.V1 m ρ) c).arrAt 1 Cert.KernelIdeal.cfg1.N := by
  have hr := Cert.Pre_admissible.fn_is _ _ hp
  have hle := reals_le _ (fun y => (hr y).2)
  have hat := reals_at _ (fun y => (hr y).2)
  funext y
  obtain ⟨b, l, i, rfl⟩ : ∃ (b : Fin 8) (l : Fin 512) (i : Fin 2048), y = ix3 b l i := ⟨_, _, _, eq_ix3 y⟩
  refine (Cert.ReferenceIdeal.Hand.result_is m' c (fun b j i => (abs_le.mp (hle b j i)).1) (fun b l i => (congrFun h0 _).trans (hat b l i)) (fun y => (congrFun h1 y).trans (hr y).1) b l i).trans ?_
  exact (Cert.KernelIdeal.Hand.result_is m ρ c hle hat b l i).symm

end Cert.Value
-- ==== Proof.lean ====
module

public import proofs.«01_k».proof.Defs
public import proofs.«01_k».proof.Proof.Kernel.Frame
public import proofs.«01_k».proof.Proof.KernelIdeal.Frame
public import proofs.«01_k».proof.Proof.ReferenceIdeal.Run
public import proofs.«01_k».proof.Proof.Value.Agree
public import proofs.«01_k».proof.Proof.Gen.ReferenceIdeal
public import proofs.«01_k».proof.Proof.Gen.Pre_admissible
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_admissible.Gen.facts,
  fun m ρ _ => (θ_run _ _ _).mono (fun _ h => ⟨fun c => ⟨(h.1 c).1, (h.1 c).2.1⟩, h.2⟩) (Cert.Kernel.Hand.run m ρ),
  fun m ρ _ => (θ_run _ _ _).mono (fun _ h => ⟨fun c => ⟨(h.1 c).1, (h.1 c).2.1⟩, h.2⟩) (Cert.KernelIdeal.Hand.run m ρ),
  fun m ρ _ => (θ_run _ _ _).mono (fun _ h => ⟨fun c => ⟨(h.1 c).1, (h.1 c).2.1⟩, h.2⟩) (Cert.KernelIdeal.Hand.run m ρ),
  fun m ρ _ => (θ_run _ _ _).mono (fun _ h => ⟨fun c => ⟨(h.1 c).1, (h.1 c).2.1⟩, h.2⟩) (Cert.ReferenceIdeal.Hand.run m ρ),
  fun m ρ _ => (θ_run _ _ _).mono (fun _ h => ⟨fun c => ⟨(h.1 c).1, (h.1 c).2.1⟩, h.2⟩) (Cert.ReferenceIdeal.Hand.run m ρ),
  trivial,
  fun m ρ m' ρ' hp he => ⟨fun c => (Cert.KernelIdeal.Hand.dat1 (F := Ideal) (Cert.KernelIdeal.Hand.V1 m ρ) c).arrAt 1 Cert.KernelIdeal.cfg1.N,
    (θ_run _ _ _).mono (fun _ h c => ⟨(h.1 c).2.2, (h.1 c).1, (h.1 c).2.1⟩) (Cert.KernelIdeal.Hand.run m ρ),
    (θ_run _ _ _).mono (fun _ h c => ⟨(h.1 c).2.2.trans (Cert.Value.agree m ρ m' c (hp c) (he c).1 (he c).2), (h.1 c).1, (h.1 c).2.1⟩)
      (Cert.ReferenceIdeal.Hand.run m' ρ')⟩⟩

end Cert.Proof

end
